-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_scores_finite [hPre_scores_finite : Cert.Pre_scores_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_scores_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_scores_finite [hPre_scores_finite : Cert.Pre_scores_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_scores_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_scores_finite [hKernel5Ideal : Cert.Kernel5Ideal.Facts] [hPre_scores_finite : Cert.Pre_scores_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_scores_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_scores_finite [hReference5Ideal : Cert.Reference5Ideal.Facts] [hPre_scores_finite : Cert.Pre_scores_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_scores_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v63)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v63) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v99) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "mask" .f32 0xF149F2CA#32 ⊥
  ∧ IdealRules.named_const.Statement Cert.Kernel5Ideal.κ "log2e" .f32 0x3FB8AA3B#32 (((Real.log 2)⁻¹ : ℝ) : EReal)

def algebraic_Kernel5Ideal_Reference5Ideal_pre_scores_finite [hKernel5Ideal : Cert.Kernel5Ideal.Facts] [hReference5Ideal : Cert.Reference5Ideal.Facts] [hPre_scores_finite : Cert.Pre_scores_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_scores_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v77) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_scores_finite : Cert.Pre_scores_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_scores_finite (hKernel5Ideal := hKernel5Ideal) (hPre_scores_finite := hPre_scores_finite)
    ∧ quiescent_Reference5Ideal (hReference5Ideal := hReference5Ideal)
    ∧ quiescent_Reference5Ideal_pre_scores_finite (hReference5Ideal := hReference5Ideal) (hPre_scores_finite := hPre_scores_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_scores_finite (hKernel5Ideal := hKernel5Ideal) (hReference5Ideal := hReference5Ideal) (hPre_scores_finite := hPre_scores_finite)
-- ==== Pre_scores_finite.lean ====
abbrev S8192x4608 : Shape := ⟨2, ![8192, 4608]⟩
abbrev S1x32 : Shape := ⟨2, ![1, 32]⟩
abbrev S8192x2304 : Shape := ⟨2, ![8192, 2304]⟩
abbrev S_ : Shape := ⟨0, ![]⟩

class Facts : Prop where
  slices_S8192x4608_S8192x2304_0_0 : S8192x4608.Slices ![0, 0] S8192x2304
  bcast_S_S8192x2304 : S_.BroadcastsInDim S8192x2304 (![] : Fin 0 → Fin S8192x2304.rank)
  reducesTo_S8192x2304_S_d0_1 : S8192x2304.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S8192x4608 .bf16) (main_arg1 : FVec F S1x32 .f32) : IVec S_ 1 :=
  let main_v0 : FVec F S8192x2304 .bf16 := (extractStridedSlice S8192x2304 ![0, 0] · slices_S8192x4608_S8192x2304_0_0) main_arg0
  let main_v1 : FVec F S8192x2304 .bf16 := Host.absf main_v0
  let main_cst : FVec F S_ .bf16 := constant S_ .bf16 0x7F80#16
  let main_v2 : FVec F S8192x2304 .bf16 := broadcastInDim S8192x2304 ![] bcast_S_S8192x2304 main_cst
  let main_v3 : IVec S8192x2304 1 := cmpf .olt main_v1 main_v2
  let main_c : IVec S_ 1 := constantI S_ 1 1#1
  let main_v4 : IVec S_ 1 := (fun x v => Host.reduce IntOp.andi x v reducesTo_S8192x2304_S_d0_1 h_S_) main_v3 main_c
  let main_v5 : FVec F S1x32 .f32 := Host.absf main_arg1
  let main_cst_0 : FVec F S_ .f32 := constant S_ .f32 0x7F800000#32
  let main_v6 : FVec F S1x32 .f32 := broadcastInDim S1x32 ![] bcast_S_S1x32 main_cst_0
  let main_v7 : IVec S1x32 1 := cmpf .olt main_v5 main_v6
  let main_c_1 : IVec S_ 1 := constantI S_ 1 1#1
  let main_v8 : IVec S_ 1 := (fun x v => Host.reduce IntOp.andi x v reducesTo_S1x32_S_d0_1 h_S_) main_v7 main_c_1
  let main_v9 : IVec S_ 1 := andi main_v4 main_v8
  main_v9
-- ==== Kernel.lean ====
abbrev S8192x2048 : Shape := ⟨2, ![8192, 2048]⟩
abbrev S1x2048x9304 : Shape := ⟨3, ![1, 2048, 9304]⟩
abbrev S1x2x128 : Shape := ⟨3, ![1, 2, 128]⟩
abbrev S2x128 : Shape := ⟨2, ![2, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048x1x128 : Shape := ⟨4, ![1, 2048, 1, 128]⟩
abbrev S32 : Shape := ⟨1, ![32]⟩
abbrev S1x32 : Shape := ⟨2, ![1, 32]⟩
abbrev S2048x32 : Shape := ⟨2, ![2048, 32]⟩
abbrev S1x2048x1x64 : Shape := ⟨4, ![1, 2048, 1, 64]⟩
abbrev S1x2048x2x64 : Shape := ⟨4, ![1, 2048, 2, 64]⟩
abbrev S1x9304x2048 : Shape := ⟨3, ![1, 9304, 2048]⟩
abbrev S9304x2048 : Shape := ⟨2, ![9304, 2048]⟩
abbrev S128 : Shape := ⟨1, ![128]⟩
abbrev S1x128 : Shape := ⟨2, ![1, 128]⟩
abbrev S9x128 : Shape := ⟨2, ![9, 128]⟩
abbrev S9x1x128 : Shape := ⟨3, ![9, 1, 128]⟩
abbrev S8192x9216 : Shape := ⟨2, ![8192, 9216]⟩
abbrev S1024x2048 : Shape := ⟨2, ![1024, 2048]⟩
abbrev S1024x128 : Shape := ⟨2, ![1024, 128]⟩
abbrev S1024x1024 : Shape := ⟨2, ![1024, 1024]⟩
abbrev S1x1x128 : Shape := ⟨3, ![1, 1, 128]⟩
abbrev S1024 : Shape := ⟨1, ![1024]⟩
abbrev S1024x1 : Shape := ⟨2, ![1024, 1]⟩

abbrev nBuf : Space → Nat
  | .hbm => 102
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S1x2048x9304, .f32⟩
  | .hbm, ⟨2, _⟩ => ⟨S1x2x128, .f32⟩
  | .hbm, ⟨3, _⟩ => ⟨S1x2x128, .f32⟩
  | .hbm, ⟨4, _⟩ => ⟨S2x128, .f32⟩
  | .hbm, ⟨5, _⟩ => ⟨S2x128, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S2048, .f32⟩
  | .hbm, ⟨23, _⟩ => ⟨S2048x1, .f32⟩
  | .hbm, ⟨24, _⟩ => ⟨S1x64, .f32⟩
  | .hbm, ⟨25, _⟩ => ⟨S2048x64, .f32⟩
  | .hbm, ⟨26, _⟩ => ⟨S2048x64, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x128, .f32⟩
  | .hbm, ⟨31, _⟩ => ⟨S1x2048x1x128, .f32⟩
  | .hbm, ⟨32, _⟩ => ⟨S1x2048x1x128, .f32⟩
  | .hbm, ⟨33, _⟩ => ⟨S2048x128, .f32⟩
  | .hbm, ⟨34, _⟩ => ⟨S2048x64, .f32⟩
  | .hbm, ⟨35, _⟩ => ⟨S2048x128, .f32⟩
  | .hbm, ⟨36, _⟩ => ⟨S1x2048x1x128, .f32⟩
  | .hbm, ⟨37, _⟩ => ⟨S1x2048x1x128, .f32⟩
  | .hbm, ⟨38, _⟩ => ⟨S2048x128, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S2048, .f32⟩
  | .hbm, ⟨56, _⟩ => ⟨S2048x1, .f32⟩
  | .hbm, ⟨57, _⟩ => ⟨S1x32, .f32⟩
  | .hbm, ⟨58, _⟩ => ⟨S2048x32, .f32⟩
  | .hbm, ⟨59, _⟩ => ⟨S2048x32, .f32⟩
  | .hbm, ⟨60, _⟩ => ⟨S2048x32, .f32⟩
  | .hbm, ⟨61, _⟩ => ⟨S2048x32, .f32⟩
  | .hbm, ⟨62, _⟩ => ⟨S2048x32, .f32⟩
  | .hbm, ⟨63, _⟩ => ⟨S2048x64, .f32⟩
  | .hbm, ⟨64, _⟩ => ⟨S1x2048x1x64, .f32⟩
  | .hbm, ⟨65, _⟩ => ⟨S1x2048x2x64, .f32⟩
  | .hbm, ⟨66, _⟩ => ⟨S2048x128, .f32⟩
  | .hbm, ⟨67, _⟩ => ⟨S2048x32, .f32⟩
  | .hbm, ⟨68, _⟩ => ⟨S2048x64, .f32⟩
  | .hbm, ⟨69, _⟩ => ⟨S1x2048x1x64, .f32⟩
  | .hbm, ⟨70, _⟩ => ⟨S1x2048x2x64, .f32⟩
  | .hbm, ⟨71, _⟩ => ⟨S2048x128, .f32⟩
  | .hbm, ⟨72, _⟩ => ⟨S1x9304x2048, .f32⟩
  | .hbm, ⟨73, _⟩ => ⟨S9304x2048, .f32⟩
  | .hbm, ⟨74, _⟩ => ⟨S_, .f32⟩
  | .hbm, ⟨75, _⟩ => ⟨S128, .f32⟩
  | .hbm, ⟨76, _⟩ => ⟨S1x128, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S128, .f32⟩
  | .hbm, ⟨83, _⟩ => ⟨S1x128, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S9x128, .f32⟩
  | .hbm, ⟨100, _⟩ => ⟨S9x1x128, .f32⟩
  | .hbm, ⟨101, _⟩ => ⟨S8192x9216, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S9x1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_9 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_11 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![73], ![false]⟩

def k0_cond2 (i : grid0.Coords) : BitVec 1 :=
  let arg0 : BitVec 32 := BitVec.ofNat 32 (i 0).val
  let c0_i32_9 : BitVec 32 := 0#32
  let v28 : BitVec 1 := Scalar.cmpi .sgt arg0 c0_i32_9
  let c72_i32 : BitVec 32 := 72#32
  let v29 : BitVec 1 := Scalar.cmpi .slt arg0 c72_i32
  let v30 : BitVec 1 := Scalar.andi v28 v29
  let c9_i32 : BitVec 32 := 9#32
  let v0 : BitVec 32 := Scalar.addi arg0 c9_i32
  let c1_i32 : BitVec 32 := 1#32
  let v1 : BitVec 32 := Scalar.subi v0 c1_i32
  let c9_i32_0 : BitVec 32 := 9#32
  let c0_i32 : BitVec 32 := 0#32
  let v2 : BitVec 1 := Scalar.cmpi .eq c9_i32_0 c0_i32
  let c1_i32_1 : BitVec 32 := 1#32
  let v3 : BitVec 32 := Scalar.select v2 c1_i32_1 c9_i32_0
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c0_i32_7 : BitVec 32 := 0#32
  let v15 : BitVec 1 := Scalar.cmpi .eq v11 c0_i32_7
  let c1_i32_8 : BitVec 32 := 1#32
  let v16 : BitVec 1 := Scalar.cmpi .eq v11 c1_i32_8
  let v17 : BitVec 1 := Scalar.ori v15 v16
  let v31 : BitVec 1 := Scalar.andi v30 v17
  let v32 : BitVec 32 := Scalar.extui v31
  let c0_i32_10 : BitVec 32 := 0#32
  let v33 : BitVec 1 := Scalar.cmpi .ne v32 c0_i32_10
  v33

def k0_off1 (i : grid0.Coords) : Fin 3 → Nat :=
  let arg0 : BitVec 32 := BitVec.ofNat 32 (i 0).val
  let c9_i32 : BitVec 32 := 9#32
  let v0 : BitVec 32 := Scalar.addi arg0 c9_i32
  let c1_i32 : BitVec 32 := 1#32
  let v1 : BitVec 32 := Scalar.subi v0 c1_i32
  let c9_i32_0 : BitVec 32 := 9#32
  let c0_i32 : BitVec 32 := 0#32
  let v2 : BitVec 1 := Scalar.cmpi .eq c9_i32_0 c0_i32
  let c1_i32_1 : BitVec 32 := 1#32
  let v3 : BitVec 32 := Scalar.select v2 c1_i32_1 c9_i32_0
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c8_i32_26 : BitVec 32 := 8#32
  let v62 : BitVec 32 := Scalar.minsi v11 c8_i32_26
  let v63 : Index := Scalar.indexCast v62
  let c0_27 : Index := 0#32
  let c0_28 : Index := 0#32
  ![v63.toNat, 0, 0]
def k0_cond3 (i : grid0.Coords) : BitVec 1 :=
  let arg0 : BitVec 32 := BitVec.ofNat 32 (i 0).val
  let c0_i32_11 : BitVec 32 := 0#32
  let v34 : BitVec 1 := Scalar.cmpi .sgt arg0 c0_i32_11
  let c72_i32_12 : BitVec 32 := 72#32
  let v35 : BitVec 1 := Scalar.cmpi .slt arg0 c72_i32_12
  let v36 : BitVec 1 := Scalar.andi v34 v35
  let c9_i32 : BitVec 32 := 9#32
  let v0 : BitVec 32 := Scalar.addi arg0 c9_i32
  let c1_i32 : BitVec 32 := 1#32
  let v1 : BitVec 32 := Scalar.subi v0 c1_i32
  let c9_i32_0 : BitVec 32 := 9#32
  let c0_i32 : BitVec 32 := 0#32
  let v2 : BitVec 1 := Scalar.cmpi .eq c9_i32_0 c0_i32
  let c1_i32_1 : BitVec 32 := 1#32
  let v3 : BitVec 32 := Scalar.select v2 c1_i32_1 c9_i32_0
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c4_i32 : BitVec 32 := 4#32
  let v18 : BitVec 1 := Scalar.cmpi .eq v11 c4_i32
  let c5_i32 : BitVec 32 := 5#32
  let v19 : BitVec 1 := Scalar.cmpi .eq v11 c5_i32
  let v20 : BitVec 1 := Scalar.ori v18 v19
  let v37 : BitVec 1 := Scalar.andi v36 v20
  let v38 : BitVec 32 := Scalar.extui v37
  let c0_i32_13 : BitVec 32 := 0#32
  let v39 : BitVec 1 := Scalar.cmpi .ne v38 c0_i32_13
  v39

def k0_off2 (i : grid0.Coords) : Fin 3 → Nat :=
  let arg0 : BitVec 32 := BitVec.ofNat 32 (i 0).val
  let c9_i32 : BitVec 32 := 9#32
  let v0 : BitVec 32 := Scalar.addi arg0 c9_i32
  let c1_i32 : BitVec 32 := 1#32
  let v1 : BitVec 32 := Scalar.subi v0 c1_i32
  let c9_i32_0 : BitVec 32 := 9#32
  let c0_i32 : BitVec 32 := 0#32
  let v2 : BitVec 1 := Scalar.cmpi .eq c9_i32_0 c0_i32
  let c1_i32_1 : BitVec 32 := 1#32
  let v3 : BitVec 32 := Scalar.select v2 c1_i32_1 c9_i32_0
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c8_i32_26 : BitVec 32 := 8#32
  let v62 : BitVec 32 := Scalar.minsi v11 c8_i32_26
  let v63 : Index := Scalar.indexCast v62
  let c0_27 : Index := 0#32
  let c0_28 : Index := 0#32
  ![v63.toNat, 0, 0]
def k0_cond4 (i : grid0.Coords) : BitVec 1 :=
  let arg0 : BitVec 32 := BitVec.ofNat 32 (i 0).val
  let c0_i32_14 : BitVec 32 := 0#32
  let v40 : BitVec 1 := Scalar.cmpi .sgt arg0 c0_i32_14
  let c72_i32_15 : BitVec 32 := 72#32
  let v41 : BitVec 1 := Scalar.cmpi .slt arg0 c72_i32_15
  let v42 : BitVec 1 := Scalar.andi v40 v41
  let c9_i32 : BitVec 32 := 9#32
  let v0 : BitVec 32 := Scalar.addi arg0 c9_i32
  let c1_i32 : BitVec 32 := 1#32
  let v1 : BitVec 32 := Scalar.subi v0 c1_i32
  let c9_i32_0 : BitVec 32 := 9#32
  let c0_i32 : BitVec 32 := 0#32
  let v2 : BitVec 1 := Scalar.cmpi .eq c9_i32_0 c0_i32
  let c1_i32_1 : BitVec 32 := 1#32
  let v3 : BitVec 32 := Scalar.select v2 c1_i32_1 c9_i32_0
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c2_i32 : BitVec 32 := 2#32
  let v21 : BitVec 1 := Scalar.cmpi .eq v11 c2_i32
  let c6_i32 : BitVec 32 := 6#32
  let v22 : BitVec 1 := Scalar.cmpi .eq v11 c6_i32
  let v23 : BitVec 1 := Scalar.ori v21 v22
  let v43 : BitVec 1 := Scalar.andi v42 v23
  let v44 : BitVec 32 := Scalar.extui v43
  let c0_i32_16 : BitVec 32 := 0#32
  let v45 : BitVec 1 := Scalar.cmpi .ne v44 c0_i32_16
  v45

def k0_cond5 (i : grid0.Coords) : BitVec 1 :=
  let arg0 : BitVec 32 := BitVec.ofNat 32 (i 0).val
  let c0_i32_17 : BitVec 32 := 0#32
  let v46 : BitVec 1 := Scalar.cmpi .sgt arg0 c0_i32_17
  let c72_i32_18 : BitVec 32 := 72#32
  let v47 : BitVec 1 := Scalar.cmpi .slt arg0 c72_i32_18
  let v48 : BitVec 1 := Scalar.andi v46 v47
  let c9_i32 : BitVec 32 := 9#32
  let v0 : BitVec 32 := Scalar.addi arg0 c9_i32
  let c1_i32 : BitVec 32 := 1#32
  let v1 : BitVec 32 := Scalar.subi v0 c1_i32
  let c9_i32_0 : BitVec 32 := 9#32
  let c0_i32 : BitVec 32 := 0#32
  let v2 : BitVec 1 := Scalar.cmpi .eq c9_i32_0 c0_i32
  let c1_i32_1 : BitVec 32 := 1#32
  let v3 : BitVec 32 := Scalar.select v2 c1_i32_1 c9_i32_0
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c3_i32 : BitVec 32 := 3#32
  let v24 : BitVec 1 := Scalar.cmpi .eq v11 c3_i32
  let c7_i32 : BitVec 32 := 7#32
  let v25 : BitVec 1 := Scalar.cmpi .eq v11 c7_i32
  let v26 : BitVec 1 := Scalar.ori v24 v25
  let v49 : BitVec 1 := Scalar.andi v48 v26
  let v50 : BitVec 32 := Scalar.extui v49
  let c0_i32_19 : BitVec 32 := 0#32
  let v51 : BitVec 1 := Scalar.cmpi .ne v50 c0_i32_19
  v51

def k0_cond6 (i : grid0.Coords) : BitVec 1 :=
  let arg0 : BitVec 32 := BitVec.ofNat 32 (i 0).val
  let c0_i32_20 : BitVec 32 := 0#32
  let v52 : BitVec 1 := Scalar.cmpi .sgt arg0 c0_i32_20
  let c72_i32_21 : BitVec 32 := 72#32
  let v53 : BitVec 1 := Scalar.cmpi .slt arg0 c72_i32_21
  let v54 : BitVec 1 := Scalar.andi v52 v53
  let c9_i32 : BitVec 32 := 9#32
  let v0 : BitVec 32 := Scalar.addi arg0 c9_i32
  let c1_i32 : BitVec 32 := 1#32
  let v1 : BitVec 32 := Scalar.subi v0 c1_i32
  let c9_i32_0 : BitVec 32 := 9#32
  let c0_i32 : BitVec 32 := 0#32
  let v2 : BitVec 1 := Scalar.cmpi .eq c9_i32_0 c0_i32
  let c1_i32_1 : BitVec 32 := 1#32
  let v3 : BitVec 32 := Scalar.select v2 c1_i32_1 c9_i32_0
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c8_i32 : BitVec 32 := 8#32
  let v27 : BitVec 1 := Scalar.cmpi .eq v11 c8_i32
  let v55 : BitVec 1 := Scalar.andi v54 v27
  let v56 : BitVec 32 := Scalar.extui v55
  let c0_i32_22 : BitVec 32 := 0#32
  let v57 : BitVec 1 := Scalar.cmpi .ne v56 c0_i32_22
  v57

def k0_cond7 (i : grid0.Coords) : BitVec 1 :=
  let arg0 : BitVec 32 := BitVec.ofNat 32 (i 0).val
  let c72_i32_23 : BitVec 32 := 72#32
  let v58 : BitVec 1 := Scalar.cmpi .eq arg0 c72_i32_23
  let v59 : BitVec 32 := Scalar.extui v58
  let c0_i32_24 : BitVec 32 := 0#32
  let v60 : BitVec 1 := Scalar.cmpi .ne v59 c0_i32_24
  v60

def cc0_transform_0 (i : grid0.Coords) : Fin 2 → Nat :=
  let arg0 : BitVec 32 := BitVec.ofNat 32 (i 0).val
  let c71_i32 : BitVec 32 := 71#32
  let v0 : BitVec 32 := Scalar.minsi arg0 c71_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c71_i32 : BitVec 32 := 71#32
  let v0 : BitVec 32 := Scalar.minsi arg0 c71_i32
  let c9_i32 : BitVec 32 := 9#32
  let c0_i32 : BitVec 32 := 0#32
  let v1 : BitVec 1 := Scalar.cmpi .eq c9_i32 c0_i32
  let c1_i32 : BitVec 32 := 1#32
  let v2 : BitVec 32 := Scalar.select v1 c1_i32 c9_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c128_i32 : BitVec 32 := 128#32
  let v11 : BitVec 32 := Scalar.muli v10 c128_i32
  let c0_i32_3 : BitVec 32 := 0#32
  let v12 : BitVec 32 := Scalar.addi c0_i32_3 v11
  let c4_i32 : BitVec 32 := 4#32
  let v13 : BitVec 32 := Scalar.addi v10 c4_i32
  let c8_i32 : BitVec 32 := 8#32
  let v14 : BitVec 32 := Scalar.divsi v13 c8_i32
  let c0_i32_4 : BitVec 32 := 0#32
  let v15 : BitVec 1 := Scalar.cmpi .sgt v13 c0_i32_4
  let v16 : BitVec 32 := Scalar.extui v15
  let c0_i32_5 : BitVec 32 := 0#32
  let v17 : BitVec 1 := Scalar.cmpi .slt v13 c0_i32_5
  let v18 : BitVec 32 := Scalar.extui v17
  let v19 : BitVec 32 := Scalar.subi v16 v18
  let c0_i32_6 : BitVec 32 := 0#32
  let v20 : BitVec 1 := Scalar.cmpi .sgt c8_i32 c0_i32_6
  let v21 : BitVec 32 := Scalar.extui v20
  let c0_i32_7 : BitVec 32 := 0#32
  let v22 : BitVec 1 := Scalar.cmpi .slt c8_i32 c0_i32_7
  let v23 : BitVec 32 := Scalar.extui v22
  let v24 : BitVec 32 := Scalar.subi v21 v23
  let v25 : BitVec 1 := Scalar.cmpi .ne v19 v24
  let v26 : BitVec 32 := Scalar.remsi v13 c8_i32
  let c0_i32_8 : BitVec 32 := 0#32
  let v27 : BitVec 1 := Scalar.cmpi .ne v26 c0_i32_8
  let v28 : BitVec 1 := Scalar.andi v25 v27
  let c1_i32_9 : BitVec 32 := 1#32
  let v29 : BitVec 32 := Scalar.subi v14 c1_i32_9
  let v30 : BitVec 32 := Scalar.select v28 v29 v14
  let v31 : BitVec 32 := Scalar.addi v12 v30
  let c8_i32_10 : BitVec 32 := 8#32
  let v32 : BitVec 32 := Scalar.muli v31 c8_i32_10
  let c0_i32_11 : BitVec 32 := 0#32
  let c0_i32_12 : BitVec 32 := 0#32
  ![v32.toNat, c0_i32_11.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let c0_i32_6 : BitVec 32 := 0#32
  let v19 : BitVec 1 := Scalar.cmpi .eq c2_i32 c0_i32_6
  let c1_i32_7 : BitVec 32 := 1#32
  let v20 : BitVec 32 := Scalar.select v19 c1_i32_7 c2_i32
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v28.toNat, c0_i32_11.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let c0_i32_6 : BitVec 32 := 0#32
  let v19 : BitVec 1 := Scalar.cmpi .eq c2_i32 c0_i32_6
  let c1_i32_7 : BitVec 32 := 1#32
  let v20 : BitVec 32 := Scalar.select v19 c1_i32_7 c2_i32
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v28.toNat, c0_i32_11.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let c0_i32_6 : BitVec 32 := 0#32
  let v19 : BitVec 1 := Scalar.cmpi .eq c2_i32 c0_i32_6
  let c1_i32_7 : BitVec 32 := 1#32
  let v20 : BitVec 32 := Scalar.select v19 c1_i32_7 c2_i32
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v28.toNat, c0_i32_11.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let c0_i32_6 : BitVec 32 := 0#32
  let v19 : BitVec 1 := Scalar.cmpi .eq c2_i32 c0_i32_6
  let c1_i32_7 : BitVec 32 := 1#32
  let v20 : BitVec 32 := Scalar.select v19 c1_i32_7 c2_i32
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v28.toNat, c0_i32_11.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c9_i32_8 : BitVec 32 := 9#32
  let c0_i32_9 : BitVec 32 := 0#32
  let v21 : BitVec 1 := Scalar.cmpi .eq c9_i32_8 c0_i32_9
  let c1_i32_10 : BitVec 32 := 1#32
  let v22 : BitVec 32 := Scalar.select v21 c1_i32_10 c9_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, v30.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8192x2048 : Shape := ⟨2, ![8192, 2048]⟩
abbrev S1x2048x9304 : Shape := ⟨3, ![1, 2048, 9304]⟩
abbrev S1x2x128 : Shape := ⟨3, ![1, 2, 128]⟩
abbrev S4x2048x2048 : Shape := ⟨3, ![4, 2048, 2048]⟩
abbrev S2048x9304 : Shape := ⟨2, ![2048, 9304]⟩
abbrev S4x2048x9304 : Shape := ⟨3, ![4, 2048, 9304]⟩
abbrev S4x2048x1024 : Shape := ⟨3, ![4, 2048, 1024]⟩
abbrev S4x2048x8 : Shape := ⟨3, ![4, 2048, 8]⟩
abbrev S4x2048x64 : Shape := ⟨3, ![4, 2048, 64]⟩
abbrev S4x2048x16 : Shape := ⟨3, ![4, 2048, 16]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S32 : Shape := ⟨1, ![32]⟩
abbrev S1x32 : Shape := ⟨2, ![1, 32]⟩
abbrev S2048x32 : Shape := ⟨2, ![2048, 32]⟩
abbrev S4x2048x8x128 : Shape := ⟨4, ![4, 2048, 8, 128]⟩
abbrev S2x128 : Shape := ⟨2, ![2, 128]⟩
abbrev S1x128 : Shape := ⟨2, ![1, 128]⟩
abbrev S128 : Shape := ⟨1, ![128]⟩
abbrev S4x2048x8x1 : Shape := ⟨4, ![4, 2048, 8, 1]⟩
abbrev S1x1x1x128 : Shape := ⟨4, ![1, 1, 1, 128]⟩
abbrev S4x2048x8x64 : Shape := ⟨4, ![4, 2048, 8, 64]⟩
abbrev S1x2048x1x64 : Shape := ⟨4, ![1, 2048, 1, 64]⟩
abbrev S4x2048x16x64 : Shape := ⟨4, ![4, 2048, 16, 64]⟩
abbrev S4x2048x16x32 : Shape := ⟨4, ![4, 2048, 16, 32]⟩
abbrev S1x2048x1x32 : Shape := ⟨4, ![1, 2048, 1, 32]⟩
abbrev S8192x1024 : Shape := ⟨2, ![8192, 1024]⟩
abbrev S8192x9216 : Shape := ⟨2, ![8192, 9216]⟩

abbrev nBuf : Space → Nat
  | .hbm => 229
  | .vmem => 0
  | .smem => 0
  | _ => 0

abbrev hbmTy0_0 (i : Nat) : BufTy := match i % 128 with
  | 0 => ⟨S8192x2048, .bf16⟩
  | 1 => ⟨S1x2048x9304, .f32⟩
  | 2 => ⟨S1x2x128, .f32⟩
  | 3 => ⟨S1x2x128, .f32⟩
  | 4 => ⟨S8192x2048, .f32⟩
  | 5 => ⟨S4x2048x2048, .f32⟩
  | 6 => ⟨S2048x9304, .f32⟩
  | 7 => ⟨S4x2048x9304, .f32⟩
  | 8 => ⟨S4x2048x1024, .f32⟩
  | 9 => ⟨S4x2048x1024, .f32⟩
  | 10 => ⟨S4x2048x1024, .f32⟩
  | 11 => ⟨S4x2048x1024, .f32⟩
  | 12 => ⟨S4x2048x8, .f32⟩
  | 13 => ⟨S4x2048x1024, .f32⟩
  | 14 => ⟨S4x2048x1024, .f32⟩
  | 15 => ⟨S4x2048x1024, .f32⟩
  | 16 => ⟨S4x2048x1024, .f32⟩
  | 17 => ⟨S4x2048x1024, .f32⟩
  | 18 => ⟨S4x2048x64, .f32⟩
  | 19 => ⟨S4x2048x16, .f32⟩
  | 20 => ⟨S64, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S_, .f32⟩
  | 31 => ⟨S64, .f32⟩
  | 32 => ⟨S64, .f32⟩
  | 33 => ⟨S_, .f32⟩
  | 34 => ⟨S64, .f32⟩
  | 35 => ⟨S64, .f32⟩
  | 36 => ⟨S2048, .f32⟩
  | 37 => ⟨S2048x1, .f32⟩
  | 38 => ⟨S1x64, .f32⟩
  | 39 => ⟨S2048x64, .f32⟩
  | 40 => ⟨S2048x64, .f32⟩
  | 41 => ⟨S2048x64, .f32⟩
  | 42 => ⟨S2048x64, .f32⟩
  | 43 => ⟨S2048x64, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S2048, .f32⟩
  | 61 => ⟨S2048x1, .f32⟩
  | 62 => ⟨S1x32, .f32⟩
  | 63 => ⟨S2048x32, .f32⟩
  | 64 => ⟨S2048x32, .f32⟩
  | 65 => ⟨S2048x32, .f32⟩
  | 66 => ⟨S2048x32, .f32⟩
  | 67 => ⟨S2048x32, .f32⟩
  | 68 => ⟨S4x2048x8x128, .f32⟩
  | 69 => ⟨S2x128, .f32⟩
  | 70 => ⟨S1x128, .f32⟩
  | 71 => ⟨S128, .f32⟩
  | 72 => ⟨S4x2048x8x128, .f32⟩
  | 73 => ⟨S_, .f32⟩
  | 74 => ⟨S4x2048x8, .f32⟩
  | 75 => ⟨S4x2048x8x1, .f32⟩
  | 76 => ⟨S_, .f32⟩
  | 77 => ⟨S4x2048x8x1, .f32⟩
  | 78 => ⟨S4x2048x8x1, .f32⟩
  | 79 => ⟨S_, .f32⟩
  | 80 => ⟨S4x2048x8x1, .f32⟩
  | 81 => ⟨S4x2048x8x1, .f32⟩
  | 82 => ⟨S4x2048x8x1, .f32⟩
  | 83 => ⟨S4x2048x8x128, .f32⟩
  | 84 => ⟨S4x2048x8x128, .f32⟩
  | 85 => ⟨S1x1x1x128, .f32⟩
  | 86 => ⟨S4x2048x8x128, .f32⟩
  | 87 => ⟨S4x2048x8x128, .f32⟩
  | 88 => ⟨S_, .f32⟩
  | 89 => ⟨S4x2048x8x128, .f32⟩
  | 90 => ⟨S4x2048x8x128, .f32⟩
  | 91 => ⟨S4x2048x8x128, .f32⟩
  | 92 => ⟨S2x128, .f32⟩
  | 93 => ⟨S1x128, .f32⟩
  | 94 => ⟨S128, .f32⟩
  | 95 => ⟨S4x2048x8x128, .f32⟩
  | 96 => ⟨S_, .f32⟩
  | 97 => ⟨S4x2048x8, .f32⟩
  | 98 => ⟨S4x2048x8x1, .f32⟩
  | 99 => ⟨S_, .f32⟩
  | 100 => ⟨S4x2048x8x1, .f32⟩
  | 101 => ⟨S4x2048x8x1, .f32⟩
  | 102 => ⟨S_, .f32⟩
  | 103 => ⟨S4x2048x8x1, .f32⟩
  | 104 => ⟨S4x2048x8x1, .f32⟩
  | 105 => ⟨S4x2048x8x1, .f32⟩
  | 106 => ⟨S4x2048x8x128, .f32⟩
  | 107 => ⟨S4x2048x8x128, .f32⟩
  | 108 => ⟨S1x1x1x128, .f32⟩
  | 109 => ⟨S4x2048x8x128, .f32⟩
  | 110 => ⟨S4x2048x8x128, .f32⟩
  | 111 => ⟨S4x2048x8x128, .f32⟩
  | 112 => ⟨S2x128, .f32⟩
  | 113 => ⟨S1x128, .f32⟩
  | 114 => ⟨S128, .f32⟩
  | 115 => ⟨S4x2048x8x128, .f32⟩
  | 116 => ⟨S_, .f32⟩
  | 117 => ⟨S4x2048x8, .f32⟩
  | 118 => ⟨S4x2048x8x1, .f32⟩
  | 119 => ⟨S_, .f32⟩
  | 120 => ⟨S4x2048x8x1, .f32⟩
  | 121 => ⟨S4x2048x8x1, .f32⟩
  | 122 => ⟨S_, .f32⟩
  | 123 => ⟨S4x2048x8x1, .f32⟩
  | 124 => ⟨S4x2048x8x1, .f32⟩
  | 125 => ⟨S4x2048x8x1, .f32⟩
  | 126 => ⟨S4x2048x8x128, .f32⟩
  | 127 => ⟨S4x2048x8x128, .f32⟩
  | _ => ⟨S8192x2048, .bf16⟩

abbrev hbmTy0_1 (i : Nat) : BufTy := match i % 128 with
  | 0 => ⟨S1x1x1x128, .f32⟩
  | 1 => ⟨S4x2048x8x128, .f32⟩
  | 2 => ⟨S4x2048x8x128, .f32⟩
  | 3 => ⟨S4x2048x8x64, .f32⟩
  | 4 => ⟨S4x2048x8x64, .f32⟩
  | 5 => ⟨S1x2048x1x64, .f32⟩
  | 6 => ⟨S1x2048x1x64, .f32⟩
  | 7 => ⟨S4x2048x8x64, .f32⟩
  | 8 => ⟨S4x2048x8x64, .f32⟩
  | 9 => ⟨S4x2048x8x64, .f32⟩
  | 10 => ⟨S4x2048x8x64, .f32⟩
  | 11 => ⟨S4x2048x8x64, .f32⟩
  | 12 => ⟨S4x2048x8x64, .f32⟩
  | 13 => ⟨S4x2048x8x64, .f32⟩
  | 14 => ⟨S4x2048x8x64, .f32⟩
  | 15 => ⟨S4x2048x8x64, .f32⟩
  | 16 => ⟨S4x2048x8x64, .f32⟩
  | 17 => ⟨S4x2048x8x128, .f32⟩
  | 18 => ⟨S_, .f32⟩
  | 19 => ⟨S4x2048x8x128, .f32⟩
  | 20 => ⟨S4x2048x8x128, .f32⟩
  | 21 => ⟨S4x2048x8x128, .f32⟩
  | 22 => ⟨S2x128, .f32⟩
  | 23 => ⟨S1x128, .f32⟩
  | 24 => ⟨S128, .f32⟩
  | 25 => ⟨S4x2048x8x128, .f32⟩
  | 26 => ⟨S_, .f32⟩
  | 27 => ⟨S4x2048x8, .f32⟩
  | 28 => ⟨S4x2048x8x1, .f32⟩
  | 29 => ⟨S_, .f32⟩
  | 30 => ⟨S4x2048x8x1, .f32⟩
  | 31 => ⟨S4x2048x8x1, .f32⟩
  | 32 => ⟨S_, .f32⟩
  | 33 => ⟨S4x2048x8x1, .f32⟩
  | 34 => ⟨S4x2048x8x1, .f32⟩
  | 35 => ⟨S4x2048x8x1, .f32⟩
  | 36 => ⟨S4x2048x8x128, .f32⟩
  | 37 => ⟨S4x2048x8x128, .f32⟩
  | 38 => ⟨S1x1x1x128, .f32⟩
  | 39 => ⟨S4x2048x8x128, .f32⟩
  | 40 => ⟨S4x2048x8x128, .f32⟩
  | 41 => ⟨S4x2048x8x64, .f32⟩
  | 42 => ⟨S4x2048x8x64, .f32⟩
  | 43 => ⟨S1x2048x1x64, .f32⟩
  | 44 => ⟨S1x2048x1x64, .f32⟩
  | 45 => ⟨S4x2048x8x64, .f32⟩
  | 46 => ⟨S4x2048x8x64, .f32⟩
  | 47 => ⟨S4x2048x8x64, .f32⟩
  | 48 => ⟨S4x2048x8x64, .f32⟩
  | 49 => ⟨S4x2048x8x64, .f32⟩
  | 50 => ⟨S4x2048x8x64, .f32⟩
  | 51 => ⟨S4x2048x8x64, .f32⟩
  | 52 => ⟨S4x2048x8x64, .f32⟩
  | 53 => ⟨S4x2048x8x64, .f32⟩
  | 54 => ⟨S4x2048x8x64, .f32⟩
  | 55 => ⟨S4x2048x8x128, .f32⟩
  | 56 => ⟨S4x2048x16x64, .f32⟩
  | 57 => ⟨S4x2048x16x32, .f32⟩
  | 58 => ⟨S4x2048x16x32, .f32⟩
  | 59 => ⟨S1x2048x1x32, .f32⟩
  | 60 => ⟨S1x2048x1x32, .f32⟩
  | 61 => ⟨S4x2048x16x32, .f32⟩
  | 62 => ⟨S4x2048x16x32, .f32⟩
  | 63 => ⟨S4x2048x16x32, .f32⟩
  | 64 => ⟨S4x2048x16x32, .f32⟩
  | 65 => ⟨S4x2048x16x32, .f32⟩
  | 66 => ⟨S4x2048x16x32, .f32⟩
  | 67 => ⟨S4x2048x16x32, .f32⟩
  | 68 => ⟨S4x2048x16x32, .f32⟩
  | 69 => ⟨S4x2048x16x32, .f32⟩
  | 70 => ⟨S4x2048x16x32, .f32⟩
  | 71 => ⟨S4x2048x16x64, .f32⟩
  | 72 => ⟨S8192x1024, .f32⟩
  | 73 => ⟨S8192x1024, .f32⟩
  | 74 => ⟨S8192x1024, .f32⟩
  | 75 => ⟨S4x2048x1024, .f32⟩
  | 76 => ⟨S4x2048x1024, .f32⟩
  | 77 => ⟨S_, .f32⟩
  | 78 => ⟨S4x2048x1024, .f32⟩
  | 79 => ⟨S4x2048x1024, .f32⟩
  | 80 => ⟨S_, .f32⟩
  | 81 => ⟨S4x2048x1024, .f32⟩
  | 82 => ⟨S4x2048x1024, .f32⟩
  | 83 => ⟨S4x2048x1024, .f32⟩
  | 84 => ⟨S8192x1024, .f32⟩
  | 85 => ⟨S8192x1024, .f32⟩
  | 86 => ⟨S8192x1024, .f32⟩
  | 87 => ⟨S8192x1024, .f32⟩
  | 88 => ⟨S4x2048x1024, .f32⟩
  | 89 => ⟨S4x2048x1024, .f32⟩
  | 90 => ⟨S_, .f32⟩
  | 91 => ⟨S4x2048x1024, .f32⟩
  | 92 => ⟨S4x2048x1024, .f32⟩
  | 93 => ⟨S_, .f32⟩
  | 94 => ⟨S4x2048x1024, .f32⟩
  | 95 => ⟨S4x2048x1024, .f32⟩
  | 96 => ⟨S4x2048x1024, .f32⟩
  | 97 => ⟨S8192x1024, .f32⟩
  | 98 => ⟨S8192x1024, .f32⟩
  | 99 => ⟨S8192x9216, .f32⟩
  | 100 => ⟨S8192x9216, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_9 : Ref sig .tc := ⟨.hbm, 73, rfl⟩
abbrev main_v59 : Ref sig .tc := ⟨.hbm, 74, rfl⟩
abbrev main_v60 : Ref sig .tc := ⟨.hbm, 75, rfl⟩
abbrev main_cst_10 : Ref sig .tc := ⟨.hbm, 76, rfl⟩
abbrev main_v61 : Ref sig .tc := ⟨.hbm, 77, rfl⟩
abbrev main_v62 : Ref sig .tc := ⟨.hbm, 78, rfl⟩
abbrev main_cst_11 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_12 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_13 : Ref sig .tc := ⟨.hbm, 96, rfl⟩
abbrev main_v78 : Ref sig .tc := ⟨.hbm, 97, rfl⟩
abbrev main_v79 : Ref sig .tc := ⟨.hbm, 98, rfl⟩
abbrev main_cst_14 : Ref sig .tc := ⟨.hbm, 99, rfl⟩
abbrev main_v80 : Ref sig .tc := ⟨.hbm, 100, rfl⟩
abbrev main_v81 : Ref sig .tc := ⟨.hbm, 101, rfl⟩
abbrev main_cst_15 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_16 : Ref sig .tc := ⟨.hbm, 116, rfl⟩
abbrev main_v95 : Ref sig .tc := ⟨.hbm, 117, rfl⟩
abbrev main_v96 : Ref sig .tc := ⟨.hbm, 118, rfl⟩
abbrev main_cst_17 : Ref sig .tc := ⟨.hbm, 119, rfl⟩
abbrev main_v97 : Ref sig .tc := ⟨.hbm, 120, rfl⟩
abbrev main_v98 : Ref sig .tc := ⟨.hbm, 121, rfl⟩
abbrev main_cst_18 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_cst_19 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_20 : Ref sig .tc := ⟨.hbm, 154, rfl⟩
abbrev main_v129 : Ref sig .tc := ⟨.hbm, 155, rfl⟩
abbrev main_v130 : Ref sig .tc := ⟨.hbm, 156, rfl⟩
abbrev main_cst_21 : Ref sig .tc := ⟨.hbm, 157, rfl⟩
abbrev main_v131 : Ref sig .tc := ⟨.hbm, 158, rfl⟩
abbrev main_v132 : Ref sig .tc := ⟨.hbm, 159, rfl⟩
abbrev main_cst_22 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_call0_v0 : Ref sig .tc := ⟨.hbm, 203, rfl⟩
abbrev main_call0_v1 : Ref sig .tc := ⟨.hbm, 204, rfl⟩
abbrev main_call0_cst : Ref sig .tc := ⟨.hbm, 205, rfl⟩
abbrev main_call0_v2 : Ref sig .tc := ⟨.hbm, 206, rfl⟩
abbrev main_call0_v3 : Ref sig .tc := ⟨.hbm, 207, rfl⟩
abbrev main_call0_cst_0 : Ref sig .tc := ⟨.hbm, 208, rfl⟩
abbrev main_call0_v4 : Ref sig .tc := ⟨.hbm, 209, rfl⟩
abbrev main_call0_v5 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_call1_v0 : Ref sig .tc := ⟨.hbm, 216, rfl⟩
abbrev main_call1_v1 : Ref sig .tc := ⟨.hbm, 217, rfl⟩
abbrev main_call1_cst : Ref sig .tc := ⟨.hbm, 218, rfl⟩
abbrev main_call1_v2 : Ref sig .tc := ⟨.hbm, 219, rfl⟩
abbrev main_call1_v3 : Ref sig .tc := ⟨.hbm, 220, rfl⟩
abbrev main_call1_cst_0 : Ref sig .tc := ⟨.hbm, 221, rfl⟩
abbrev main_call1_v4 : Ref sig .tc := ⟨.hbm, 222, rfl⟩
abbrev main_call1_v5 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩

abbrev nD : Nat := 1
abbrev τ : Topo := Topo.v7x

variable {F : FTy → Type} [FloatOps F]
-- ==== Kernel2.lean ====
abbrev S8192x2048 : Shape := ⟨2, ![8192, 2048]⟩
abbrev S1x2048x2048 : Shape := ⟨3, ![1, 2048, 2048]⟩
abbrev S4x2048x2048 : Shape := ⟨3, ![4, 2048, 2048]⟩
abbrev S512x2048 : Shape := ⟨2, ![512, 2048]⟩
abbrev S2048x2048 : Shape := ⟨2, ![2048, 2048]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S4x2048x2048, .f32⟩
  | .hbm, ⟨3, _⟩ => ⟨S8192x2048, .f32⟩
  | .hbm, ⟨4, _⟩ => ⟨S8192x2048, .f32⟩
  | .hbm, ⟨5, _⟩ => ⟨S4x2048x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8192x2048 : Shape := ⟨2, ![8192, 2048]⟩
abbrev S1x2048x2048 : Shape := ⟨3, ![1, 2048, 2048]⟩
abbrev S4x2048x2048 : Shape := ⟨3, ![4, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S4x2048x2048, .f32⟩
  | .hbm, ⟨3, _⟩ => ⟨S8192x2048, .f32⟩
  | .hbm, ⟨4, _⟩ => ⟨S4x2048x2048, .f32⟩
  | .hbm, ⟨5, _⟩ => ⟨S2048x2048, .f32⟩
  | .hbm, ⟨6, _⟩ => ⟨S4x2048x2048, .f32⟩
  | .hbm, ⟨7, _⟩ => ⟨S4x2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x2048 : Shape := ⟨2, ![8192, 2048]⟩
abbrev S1x2048x4608 : Shape := ⟨3, ![1, 2048, 4608]⟩
abbrev S1x2x64 : Shape := ⟨3, ![1, 2, 64]⟩
abbrev S2x1 : Shape := ⟨2, ![2, 1]⟩
abbrev S2x64 : Shape := ⟨2, ![2, 64]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048x1x128 : Shape := ⟨4, ![1, 2048, 1, 128]⟩
abbrev S32 : Shape := ⟨1, ![32]⟩
abbrev S1x32 : Shape := ⟨2, ![1, 32]⟩
abbrev S2048x32 : Shape := ⟨2, ![2048, 32]⟩
abbrev S1x2048x1x64 : Shape := ⟨4, ![1, 2048, 1, 64]⟩
abbrev S1x2048x2x64 : Shape := ⟨4, ![1, 2048, 2, 64]⟩
abbrev S1x2x1x64 : Shape := ⟨4, ![1, 2, 1, 64]⟩
abbrev S1x2x2x64 : Shape := ⟨4, ![1, 2, 2, 64]⟩
abbrev S2x128 : Shape := ⟨2, ![2, 128]⟩
abbrev S2x1x128 : Shape := ⟨3, ![2, 1, 128]⟩
abbrev S8192x4608 : Shape := ⟨2, ![8192, 4608]⟩
abbrev S1024x2048 : Shape := ⟨2, ![1024, 2048]⟩
abbrev S1x2048x512 : Shape := ⟨3, ![1, 2048, 512]⟩
abbrev S1024x128 : Shape := ⟨2, ![1024, 128]⟩
abbrev S1024x512 : Shape := ⟨2, ![1024, 512]⟩
abbrev S2048x512 : Shape := ⟨2, ![2048, 512]⟩
abbrev S1x1x128 : Shape := ⟨3, ![1, 1, 128]⟩
abbrev S1x128 : Shape := ⟨2, ![1, 128]⟩
abbrev S1024 : Shape := ⟨1, ![1024]⟩
abbrev S1024x1 : Shape := ⟨2, ![1024, 1]⟩

abbrev nBuf : Space → Nat
  | .hbm => 78
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S1x2048x4608, .f32⟩
  | .hbm, ⟨2, _⟩ => ⟨S1x2x64, .f32⟩
  | .hbm, ⟨3, _⟩ => ⟨S2x1, .f32⟩
  | .hbm, ⟨4, _⟩ => ⟨S2x64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S2048, .f32⟩
  | .hbm, ⟨22, _⟩ => ⟨S2048x1, .f32⟩
  | .hbm, ⟨23, _⟩ => ⟨S1x64, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S2048x64, .f32⟩
  | .hbm, ⟨28, _⟩ => ⟨S2048x64, .f32⟩
  | .hbm, ⟨29, _⟩ => ⟨S2048x128, .f32⟩
  | .hbm, ⟨30, _⟩ => ⟨S1x2048x1x128, .f32⟩
  | .hbm, ⟨31, _⟩ => ⟨S1x2048x1x128, .f32⟩
  | .hbm, ⟨32, _⟩ => ⟨S2048x128, .f32⟩
  | .hbm, ⟨33, _⟩ => ⟨S2048x64, .f32⟩
  | .hbm, ⟨34, _⟩ => ⟨S2048x128, .f32⟩
  | .hbm, ⟨35, _⟩ => ⟨S1x2048x1x128, .f32⟩
  | .hbm, ⟨36, _⟩ => ⟨S1x2048x1x128, .f32⟩
  | .hbm, ⟨37, _⟩ => ⟨S2048x128, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S2048, .f32⟩
  | .hbm, ⟨55, _⟩ => ⟨S2048x1, .f32⟩
  | .hbm, ⟨56, _⟩ => ⟨S1x32, .f32⟩
  | .hbm, ⟨57, _⟩ => ⟨S2048x32, .f32⟩
  | .hbm, ⟨58, _⟩ => ⟨S2048x32, .f32⟩
  | .hbm, ⟨59, _⟩ => ⟨S2048x32, .f32⟩
  | .hbm, ⟨60, _⟩ => ⟨S2048x32, .f32⟩
  | .hbm, ⟨61, _⟩ => ⟨S2048x32, .f32⟩
  | .hbm, ⟨62, _⟩ => ⟨S2048x64, .f32⟩
  | .hbm, ⟨63, _⟩ => ⟨S1x2048x1x64, .f32⟩
  | .hbm, ⟨64, _⟩ => ⟨S1x2048x2x64, .f32⟩
  | .hbm, ⟨65, _⟩ => ⟨S2048x128, .f32⟩
  | .hbm, ⟨66, _⟩ => ⟨S2048x32, .f32⟩
  | .hbm, ⟨67, _⟩ => ⟨S2048x64, .f32⟩
  | .hbm, ⟨68, _⟩ => ⟨S1x2048x1x64, .f32⟩
  | .hbm, ⟨69, _⟩ => ⟨S1x2048x2x64, .f32⟩
  | .hbm, ⟨70, _⟩ => ⟨S2048x128, .f32⟩
  | .hbm, ⟨71, _⟩ => ⟨S2x64, .f32⟩
  | .hbm, ⟨72, _⟩ => ⟨S2x64, .f32⟩
  | .hbm, ⟨73, _⟩ => ⟨S1x2x1x64, .f32⟩
  | .hbm, ⟨74, _⟩ => ⟨S1x2x2x64, .f32⟩
  | .hbm, ⟨75, _⟩ => ⟨S2x128, .f32⟩
  | .hbm, ⟨76, _⟩ => ⟨S2x1x128, .f32⟩
  | .hbm, ⟨77, _⟩ => ⟨S8192x4608, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2x1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x512, .bf16⟩
  | .local _ .vmem, ⟨10, _⟩ => ⟨S1024x512, .bf16⟩
  | .local _ .vmem, ⟨11, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![73], ![false]⟩

def k0_cond2 (i : grid0.Coords) : BitVec 1 :=
  let arg0 : BitVec 32 := BitVec.ofNat 32 (i 0).val
  let c0_i32_9 : BitVec 32 := 0#32
  let v18 : BitVec 1 := Scalar.cmpi .sgt arg0 c0_i32_9
  let c72_i32 : BitVec 32 := 72#32
  let v19 : BitVec 1 := Scalar.cmpi .slt arg0 c72_i32
  let v20 : BitVec 1 := Scalar.andi v18 v19
  let c9_i32 : BitVec 32 := 9#32
  let v0 : BitVec 32 := Scalar.addi arg0 c9_i32
  let c1_i32 : BitVec 32 := 1#32
  let v1 : BitVec 32 := Scalar.subi v0 c1_i32
  let c9_i32_0 : BitVec 32 := 9#32
  let c0_i32 : BitVec 32 := 0#32
  let v2 : BitVec 1 := Scalar.cmpi .eq c9_i32_0 c0_i32
  let c1_i32_1 : BitVec 32 := 1#32
  let v3 : BitVec 32 := Scalar.select v2 c1_i32_1 c9_i32_0
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c4_i32 : BitVec 32 := 4#32
  let v15 : BitVec 1 := Scalar.cmpi .slt v11 c4_i32
  let v21 : BitVec 1 := Scalar.andi v20 v15
  let v22 : BitVec 32 := Scalar.extui v21
  let c0_i32_10 : BitVec 32 := 0#32
  let v23 : BitVec 1 := Scalar.cmpi .ne v22 c0_i32_10
  v23

def k0_cond3 (i : grid0.Coords) : BitVec 1 :=
  let arg0 : BitVec 32 := BitVec.ofNat 32 (i 0).val
  let c0_i32_11 : BitVec 32 := 0#32
  let v24 : BitVec 1 := Scalar.cmpi .sgt arg0 c0_i32_11
  let c72_i32_12 : BitVec 32 := 72#32
  let v25 : BitVec 1 := Scalar.cmpi .slt arg0 c72_i32_12
  let v26 : BitVec 1 := Scalar.andi v24 v25
  let c9_i32 : BitVec 32 := 9#32
  let v0 : BitVec 32 := Scalar.addi arg0 c9_i32
  let c1_i32 : BitVec 32 := 1#32
  let v1 : BitVec 32 := Scalar.subi v0 c1_i32
  let c9_i32_0 : BitVec 32 := 9#32
  let c0_i32 : BitVec 32 := 0#32
  let v2 : BitVec 1 := Scalar.cmpi .eq c9_i32_0 c0_i32
  let c1_i32_1 : BitVec 32 := 1#32
  let v3 : BitVec 32 := Scalar.select v2 c1_i32_1 c9_i32_0
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c4_i32_7 : BitVec 32 := 4#32
  let v16 : BitVec 1 := Scalar.cmpi .eq v11 c4_i32_7
  let v27 : BitVec 1 := Scalar.andi v26 v16
  let v28 : BitVec 32 := Scalar.extui v27
  let c0_i32_13 : BitVec 32 := 0#32
  let v29 : BitVec 1 := Scalar.cmpi .ne v28 c0_i32_13
  v29

def k0_cond4 (i : grid0.Coords) : BitVec 1 :=
  let arg0 : BitVec 32 := BitVec.ofNat 32 (i 0).val
  let c0_i32_14 : BitVec 32 := 0#32
  let v30 : BitVec 1 := Scalar.cmpi .sgt arg0 c0_i32_14
  let c72_i32_15 : BitVec 32 := 72#32
  let v31 : BitVec 1 := Scalar.cmpi .slt arg0 c72_i32_15
  let v32 : BitVec 1 := Scalar.andi v30 v31
  let c9_i32 : BitVec 32 := 9#32
  let v0 : BitVec 32 := Scalar.addi arg0 c9_i32
  let c1_i32 : BitVec 32 := 1#32
  let v1 : BitVec 32 := Scalar.subi v0 c1_i32
  let c9_i32_0 : BitVec 32 := 9#32
  let c0_i32 : BitVec 32 := 0#32
  let v2 : BitVec 1 := Scalar.cmpi .eq c9_i32_0 c0_i32
  let c1_i32_1 : BitVec 32 := 1#32
  let v3 : BitVec 32 := Scalar.select v2 c1_i32_1 c9_i32_0
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c4_i32_8 : BitVec 32 := 4#32
  let v17 : BitVec 1 := Scalar.cmpi .sgt v11 c4_i32_8
  let v33 : BitVec 1 := Scalar.andi v32 v17
  let v34 : BitVec 32 := Scalar.extui v33
  let c0_i32_16 : BitVec 32 := 0#32
  let v35 : BitVec 1 := Scalar.cmpi .ne v34 c0_i32_16
  v35

def k0_cond5 (i : grid0.Coords) : BitVec 1 :=
  let arg0 : BitVec 32 := BitVec.ofNat 32 (i 0).val
  let c72_i32_17 : BitVec 32 := 72#32
  let v36 : BitVec 1 := Scalar.cmpi .eq arg0 c72_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c71_i32 : BitVec 32 := 71#32
  let v0 : BitVec 32 := Scalar.minsi arg0 c71_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 3 → Nat :=
  let arg0 : BitVec 32 := BitVec.ofNat 32 (i 0).val
  let c71_i32 : BitVec 32 := 71#32
  let v0 : BitVec 32 := Scalar.minsi arg0 c71_i32
  let c9_i32 : BitVec 32 := 9#32
  let c0_i32 : BitVec 32 := 0#32
  let v1 : BitVec 1 := Scalar.cmpi .eq c9_i32 c0_i32
  let c1_i32 : BitVec 32 := 1#32
  let v2 : BitVec 32 := Scalar.select v1 c1_i32 c9_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![c0_i32_3.toNat, c0_i32_4.toNat, v10.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let c0_i32_6 : BitVec 32 := 0#32
  let v19 : BitVec 1 := Scalar.cmpi .eq c2_i32 c0_i32_6
  let c1_i32_7 : BitVec 32 := 1#32
  let v20 : BitVec 32 := Scalar.select v19 c1_i32_7 c2_i32
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v28.toNat, c0_i32_11.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let c0_i32_6 : BitVec 32 := 0#32
  let v19 : BitVec 1 := Scalar.cmpi .eq c2_i32 c0_i32_6
  let c1_i32_7 : BitVec 32 := 1#32
  let v20 : BitVec 32 := Scalar.select v19 c1_i32_7 c2_i32
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v28.toNat, c0_i32_11.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c9_i32_8 : BitVec 32 := 9#32
  let c0_i32_9 : BitVec 32 := 0#32
  let v21 : BitVec 1 := Scalar.cmpi .eq c9_i32_8 c0_i32_9
  let c1_i32_10 : BitVec 32 := 1#32
  let v22 : BitVec 32 := Scalar.select v21 c1_i32_10 c9_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, v30.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8192x2048 : Shape := ⟨2, ![8192, 2048]⟩
abbrev S1x2048x4608 : Shape := ⟨3, ![1, 2048, 4608]⟩
abbrev S1x2x64 : Shape := ⟨3, ![1, 2, 64]⟩
abbrev S4x2048x2048 : Shape := ⟨3, ![4, 2048, 2048]⟩
abbrev S2048x4608 : Shape := ⟨2, ![2048, 4608]⟩
abbrev S4x2048x4608 : Shape := ⟨3, ![4, 2048, 4608]⟩
abbrev S4x2048x256 : Shape := ⟨3, ![4, 2048, 256]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S4x2048x32x64 : Shape := ⟨4, ![4, 2048, 32, 64]⟩
abbrev S2x64 : Shape := ⟨2, ![2, 64]⟩
abbrev S1x64 : Shape := ⟨2, ![1, 64]⟩
abbrev S64 : Shape := ⟨1, ![64]⟩
abbrev S4x2048x32 : Shape := ⟨3, ![4, 2048, 32]⟩
abbrev S4x2048x32x1 : Shape := ⟨4, ![4, 2048, 32, 1]⟩
abbrev S1x1x1x64 : Shape := ⟨4, ![1, 1, 1, 64]⟩
abbrev S4x2048x32x32 : Shape := ⟨4, ![4, 2048, 32, 32]⟩
abbrev S1x2048x1x32 : Shape := ⟨4, ![1, 2048, 1, 32]⟩
abbrev S4x2048x4x64 : Shape := ⟨4, ![4, 2048, 4, 64]⟩
abbrev S4x2048x4 : Shape := ⟨3, ![4, 2048, 4]⟩
abbrev S4x2048x4x1 : Shape := ⟨4, ![4, 2048, 4, 1]⟩
abbrev S4x2048x4x32 : Shape := ⟨4, ![4, 2048, 4, 32]⟩
abbrev S8192x256 : Shape := ⟨2, ![8192, 256]⟩
abbrev S8192x4608 : Shape := ⟨2, ![8192, 4608]⟩

abbrev nBuf : Space → Nat
  | .hbm => 123
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x4608, .f32⟩
  | .hbm, ⟨2, _⟩ => ⟨S1x2x64, .f32⟩
  | .hbm, ⟨3, _⟩ => ⟨S8192x2048, .f32⟩
  | .hbm, ⟨4, _⟩ => ⟨S4x2048x2048, .f32⟩
  | .hbm, ⟨5, _⟩ => ⟨S2048x4608, .f32⟩
  | .hbm, ⟨6, _⟩ => ⟨S4x2048x4608, .f32⟩
  | .hbm, ⟨7, _⟩ => ⟨S4x2048x2048, .f32⟩
  | .hbm, ⟨8, _⟩ => ⟨S4x2048x256, .f32⟩
  | .hbm, ⟨9, _⟩ => ⟨S4x2048x256, .f32⟩
  | .hbm, ⟨10, _⟩ => ⟨S4x2048x2048, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S2048, .f32⟩
  | .hbm, ⟨28, _⟩ => ⟨S2048x1, .f32⟩
  | .hbm, ⟨29, _⟩ => ⟨S1x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S4x2048x32x64, .f32⟩
  | .hbm, ⟨36, _⟩ => ⟨S2x64, .f32⟩
  | .hbm, ⟨37, _⟩ => ⟨S1x64, .f32⟩
  | .hbm, ⟨38, _⟩ => ⟨S64, .f32⟩
  | .hbm, ⟨39, _⟩ => ⟨S4x2048x32x64, .f32⟩
  | .hbm, ⟨40, _⟩ => ⟨S_, .f32⟩
  | .hbm, ⟨41, _⟩ => ⟨S4x2048x32, .f32⟩
  | .hbm, ⟨42, _⟩ => ⟨S4x2048x32x1, .f32⟩
  | .hbm, ⟨43, _⟩ => ⟨S_, .f32⟩
  | .hbm, ⟨44, _⟩ => ⟨S4x2048x32x1, .f32⟩
  | .hbm, ⟨45, _⟩ => ⟨S4x2048x32x1, .f32⟩
  | .hbm, ⟨46, _⟩ => ⟨S_, .f32⟩
  | .hbm, ⟨47, _⟩ => ⟨S4x2048x32x1, .f32⟩
  | .hbm, ⟨48, _⟩ => ⟨S4x2048x32x1, .f32⟩
  | .hbm, ⟨49, _⟩ => ⟨S4x2048x32x1, .f32⟩
  | .hbm, ⟨50, _⟩ => ⟨S4x2048x32x64, .f32⟩
  | .hbm, ⟨51, _⟩ => ⟨S4x2048x32x64, .f32⟩
  | .hbm, ⟨52, _⟩ => ⟨S1x1x1x64, .f32⟩
  | .hbm, ⟨53, _⟩ => ⟨S4x2048x32x64, .f32⟩
  | .hbm, ⟨54, _⟩ => ⟨S4x2048x32x64, .f32⟩
  | .hbm, ⟨55, _⟩ => ⟨S4x2048x32x32, .f32⟩
  | .hbm, ⟨56, _⟩ => ⟨S4x2048x32x32, .f32⟩
  | .hbm, ⟨57, _⟩ => ⟨S1x2048x1x32, .f32⟩
  | .hbm, ⟨58, _⟩ => ⟨S1x2048x1x32, .f32⟩
  | .hbm, ⟨59, _⟩ => ⟨S4x2048x32x32, .f32⟩
  | .hbm, ⟨60, _⟩ => ⟨S4x2048x32x32, .f32⟩
  | .hbm, ⟨61, _⟩ => ⟨S4x2048x32x32, .f32⟩
  | .hbm, ⟨62, _⟩ => ⟨S4x2048x32x32, .f32⟩
  | .hbm, ⟨63, _⟩ => ⟨S4x2048x32x32, .f32⟩
  | .hbm, ⟨64, _⟩ => ⟨S4x2048x32x32, .f32⟩
  | .hbm, ⟨65, _⟩ => ⟨S4x2048x32x32, .f32⟩
  | .hbm, ⟨66, _⟩ => ⟨S4x2048x32x32, .f32⟩
  | .hbm, ⟨67, _⟩ => ⟨S4x2048x32x32, .f32⟩
  | .hbm, ⟨68, _⟩ => ⟨S4x2048x32x32, .f32⟩
  | .hbm, ⟨69, _⟩ => ⟨S4x2048x32x64, .f32⟩
  | .hbm, ⟨70, _⟩ => ⟨S_, .f32⟩
  | .hbm, ⟨71, _⟩ => ⟨S4x2048x32x64, .f32⟩
  | .hbm, ⟨72, _⟩ => ⟨S4x2048x32x64, .f32⟩
  | .hbm, ⟨73, _⟩ => ⟨S4x2048x4x64, .f32⟩
  | .hbm, ⟨74, _⟩ => ⟨S2x64, .f32⟩
  | .hbm, ⟨75, _⟩ => ⟨S1x64, .f32⟩
  | .hbm, ⟨76, _⟩ => ⟨S64, .f32⟩
  | .hbm, ⟨77, _⟩ => ⟨S4x2048x4x64, .f32⟩
  | .hbm, ⟨78, _⟩ => ⟨S_, .f32⟩
  | .hbm, ⟨79, _⟩ => ⟨S4x2048x4, .f32⟩
  | .hbm, ⟨80, _⟩ => ⟨S4x2048x4x1, .f32⟩
  | .hbm, ⟨81, _⟩ => ⟨S_, .f32⟩
  | .hbm, ⟨82, _⟩ => ⟨S4x2048x4x1, .f32⟩
  | .hbm, ⟨83, _⟩ => ⟨S4x2048x4x1, .f32⟩
  | .hbm, ⟨84, _⟩ => ⟨S_, .f32⟩
  | .hbm, ⟨85, _⟩ => ⟨S4x2048x4x1, .f32⟩
  | .hbm, ⟨86, _⟩ => ⟨S4x2048x4x1, .f32⟩
  | .hbm, ⟨87, _⟩ => ⟨S4x2048x4x1, .f32⟩
  | .hbm, ⟨88, _⟩ => ⟨S4x2048x4x64, .f32⟩
  | .hbm, ⟨89, _⟩ => ⟨S4x2048x4x64, .f32⟩
  | .hbm, ⟨90, _⟩ => ⟨S1x1x1x64, .f32⟩
  | .hbm, ⟨91, _⟩ => ⟨S4x2048x4x64, .f32⟩
  | .hbm, ⟨92, _⟩ => ⟨S4x2048x4x64, .f32⟩
  | .hbm, ⟨93, _⟩ => ⟨S4x2048x4x32, .f32⟩
  | .hbm, ⟨94, _⟩ => ⟨S4x2048x4x32, .f32⟩
  | .hbm, ⟨95, _⟩ => ⟨S1x2048x1x32, .f32⟩
  | .hbm, ⟨96, _⟩ => ⟨S1x2048x1x32, .f32⟩
  | .hbm, ⟨97, _⟩ => ⟨S4x2048x4x32, .f32⟩
  | .hbm, ⟨98, _⟩ => ⟨S4x2048x4x32, .f32⟩
  | .hbm, ⟨99, _⟩ => ⟨S4x2048x4x32, .f32⟩
  | .hbm, ⟨100, _⟩ => ⟨S4x2048x4x32, .f32⟩
  | .hbm, ⟨101, _⟩ => ⟨S4x2048x4x32, .f32⟩
  | .hbm, ⟨102, _⟩ => ⟨S4x2048x4x32, .f32⟩
  | .hbm, ⟨103, _⟩ => ⟨S4x2048x4x32, .f32⟩
  | .hbm, ⟨104, _⟩ => ⟨S4x2048x4x32, .f32⟩
  | .hbm, ⟨105, _⟩ => ⟨S4x2048x4x32, .f32⟩
  | .hbm, ⟨106, _⟩ => ⟨S4x2048x4x32, .f32⟩
  | .hbm, ⟨107, _⟩ => ⟨S4x2048x4x64, .f32⟩
  | .hbm, ⟨108, _⟩ => ⟨S8192x2048, .f32⟩
  | .hbm, ⟨109, _⟩ => ⟨S8192x256, .f32⟩
  | .hbm, ⟨110, _⟩ => ⟨S8192x256, .f32⟩
  | .hbm, ⟨111, _⟩ => ⟨S4x2048x2048, .f32⟩
  | .hbm, ⟨112, _⟩ => ⟨S4x2048x2048, .f32⟩
  | .hbm, ⟨113, _⟩ => ⟨S_, .f32⟩
  | .hbm, ⟨114, _⟩ => ⟨S4x2048x2048, .f32⟩
  | .hbm, ⟨115, _⟩ => ⟨S4x2048x2048, .f32⟩
  | .hbm, ⟨116, _⟩ => ⟨S_, .f32⟩
  | .hbm, ⟨117, _⟩ => ⟨S4x2048x2048, .f32⟩
  | .hbm, ⟨118, _⟩ => ⟨S4x2048x2048, .f32⟩
  | .hbm, ⟨119, _⟩ => ⟨S4x2048x2048, .f32⟩
  | .hbm, ⟨120, _⟩ => ⟨S8192x2048, .f32⟩
  | .hbm, ⟨121, _⟩ => ⟨S8192x4608, .f32⟩
  | .hbm, ⟨122, _⟩ => ⟨S8192x4608, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_7 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_8 : Ref sig .tc := ⟨.hbm, 78, rfl⟩
abbrev main_v66 : Ref sig .tc := ⟨.hbm, 79, rfl⟩
abbrev main_v67 : Ref sig .tc := ⟨.hbm, 80, rfl⟩
abbrev main_cst_9 : Ref sig .tc := ⟨.hbm, 81, rfl⟩
abbrev main_v68 : Ref sig .tc := ⟨.hbm, 82, rfl⟩
abbrev main_v69 : Ref sig .tc := ⟨.hbm, 83, rfl⟩
abbrev main_cst_10 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_call0_v0 : Ref sig .tc := ⟨.hbm, 111, rfl⟩
abbrev main_call0_v1 : Ref sig .tc := ⟨.hbm, 112, rfl⟩
abbrev main_call0_cst : Ref sig .tc := ⟨.hbm, 113, rfl⟩
abbrev main_call0_v2 : Ref sig .tc := ⟨.hbm, 114, rfl⟩
abbrev main_call0_v3 : Ref sig .tc := ⟨.hbm, 115, rfl⟩
abbrev main_call0_cst_0 : Ref sig .tc := ⟨.hbm, 116, rfl⟩
abbrev main_call0_v4 : Ref sig .tc := ⟨.hbm, 117, rfl⟩
abbrev main_call0_v5 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩

abbrev nD : Nat := 1
abbrev τ : Topo := Topo.v7x

variable {F : FTy → Type} [FloatOps F]
-- ==== Kernel4.lean ====
abbrev S8192x1024 : Shape := ⟨2, ![8192, 1024]⟩
abbrev S1x2048x2048 : Shape := ⟨3, ![1, 2048, 2048]⟩
abbrev S4x2048x2048 : Shape := ⟨3, ![4, 2048, 2048]⟩
abbrev S1x2048 : Shape := ⟨2, ![1, 2048]⟩
abbrev S8192x2048 : Shape := ⟨2, ![8192, 2048]⟩
abbrev S2048 : Shape := ⟨1, ![2048]⟩
abbrev S512x1024 : Shape := ⟨2, ![512, 1024]⟩
abbrev S512x2048 : Shape := ⟨2, ![512, 2048]⟩
abbrev S2048x2048 : Shape := ⟨2, ![2048, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S4x2048x2048, .f32⟩
  | .hbm, ⟨4, _⟩ => ⟨S1x2048, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S2048x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8192x1024 : Shape := ⟨2, ![8192, 1024]⟩
abbrev S1x2048x2048 : Shape := ⟨3, ![1, 2048, 2048]⟩
abbrev S4x2048x2048 : Shape := ⟨3, ![4, 2048, 2048]⟩
abbrev S1x2048 : Shape := ⟨2, ![1, 2048]⟩
abbrev S4x2048x1024 : Shape := ⟨3, ![4, 2048, 1024]⟩
abbrev S2048x2048 : Shape := ⟨2, ![2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S4x2048x2048, .f32⟩
  | .hbm, ⟨4, _⟩ => ⟨S1x2048, .f32⟩
  | .hbm, ⟨5, _⟩ => ⟨S8192x1024, .f32⟩
  | .hbm, ⟨6, _⟩ => ⟨S4x2048x1024, .f32⟩
  | .hbm, ⟨7, _⟩ => ⟨S8192x1024, .f32⟩
  | .hbm, ⟨8, _⟩ => ⟨S4x2048x1024, .f32⟩
  | .hbm, ⟨9, _⟩ => ⟨S4x2048x2048, .f32⟩
  | .hbm, ⟨10, _⟩ => ⟨S2048x2048, .f32⟩
  | .hbm, ⟨11, _⟩ => ⟨S4x2048x2048, .f32⟩
  | .hbm, ⟨12, _⟩ => ⟨S4x2048x2048, .f32⟩
  | .hbm, ⟨13, _⟩ => ⟨S2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S8192x2048, .f32⟩
  | .hbm, ⟨31, _⟩ => ⟨S4x2048x2048, .bf16⟩
  | .hbm, ⟨32, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel5.lean ====
abbrev S8192x4608 : Shape := ⟨2, ![8192, 4608]⟩
abbrev S1x32 : Shape := ⟨2, ![1, 32]⟩
abbrev S32 : Shape := ⟨1, ![32]⟩
abbrev S8192x2048 : Shape := ⟨2, ![8192, 2048]⟩
abbrev S128x2048 : Shape := ⟨2, ![128, 2048]⟩
abbrev S128x512 : Shape := ⟨2, ![128, 512]⟩
abbrev S256x1024 : Shape := ⟨2, ![256, 1024]⟩
abbrev S1x1024 : Shape := ⟨2, ![1, 1024]⟩
abbrev S16x256 : Shape := ⟨2, ![16, 256]⟩
abbrev S128x64 : Shape := ⟨2, ![128, 64]⟩
abbrev S1024x64 : Shape := ⟨2, ![1024, 64]⟩
abbrev S256x64 : Shape := ⟨2, ![256, 64]⟩
abbrev S1 : Shape := ⟨1, ![1]⟩
abbrev S1024 : Shape := ⟨1, ![1024]⟩
abbrev S64x256 : Shape := ⟨2, ![64, 256]⟩
abbrev S80x256 : Shape := ⟨2, ![80, 256]⟩
abbrev S80x1024 : Shape := ⟨2, ![80, 1024]⟩
abbrev S64x1024 : Shape := ⟨2, ![64, 1024]⟩

abbrev nBuf : Space → Nat
  | .hbm => 4
  | .vmem => 16
  | .smem => 1
  | _ => 0

abbrev bufTy : (tb : Table) → Fin (tcTables nBuf tb) → BufTy
  | .hbm, ⟨0, _⟩ => ⟨S8192x4608, .bf16⟩
  | .hbm, ⟨1, _⟩ => ⟨S1x32, .f32⟩
  | .hbm, ⟨2, _⟩ => ⟨S32, .f32⟩
  | .hbm, ⟨3, _⟩ => ⟨S8192x2048, .bf16⟩
  | .local _ .vmem, ⟨0, _⟩ => ⟨S128x2048, .bf16⟩
  | .local _ .vmem, ⟨1, _⟩ => ⟨S128x2048, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x2048, .bf16⟩
  | .local _ .vmem, ⟨15, _⟩ => ⟨S128x2048, .bf16⟩
  | .local _ .smem, ⟨0, _⟩ => ⟨S32, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c7_i32 : BitVec 32 := 7#32
  let c0_i32 : BitVec 32 := 0#32
  ![v1.toNat, c7_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let c0_i32 : BitVec 32 := 0#32
  ![v1.toNat, c8_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel5Ideal.lean ====
variable {F : FTy → Type} [FloatOps F] [Named F]
def κ : String → Option EReal := fun
  | "log2e" => some (((Real.log 2)⁻¹ : ℝ) : EReal)
  | "mask" => some ⊥
  | _ => none
-- ==== Reference5Ideal.lean ====
abbrev S8192x4608 : Shape := ⟨2, ![8192, 4608]⟩
abbrev S1x32 : Shape := ⟨2, ![1, 32]⟩
abbrev S4x2048x4608 : Shape := ⟨3, ![4, 2048, 4608]⟩
abbrev S4x2048x2048 : Shape := ⟨3, ![4, 2048, 2048]⟩
abbrev S4x2048x256 : Shape := ⟨3, ![4, 2048, 256]⟩
abbrev S4x2048x32x64 : Shape := ⟨4, ![4, 2048, 32, 64]⟩
abbrev S4x2048x4x64 : Shape := ⟨4, ![4, 2048, 4, 64]⟩
abbrev S32 : Shape := ⟨1, ![32]⟩
abbrev S4x16x128x4x8x64 : Shape := ⟨6, ![4, 16, 128, 4, 8, 64]⟩
abbrev S4x16x128x4x64 : Shape := ⟨5, ![4, 16, 128, 4, 64]⟩
abbrev S_ : Shape := ⟨0, ![]⟩
abbrev S4x17x128x4x64 : Shape := ⟨5, ![4, 17, 128, 4, 64]⟩
abbrev S4x16x256x4x64 : Shape := ⟨5, ![4, 16, 256, 4, 64]⟩
abbrev S4x16x4x256x128x8 : Shape := ⟨6, ![4, 16, 4, 256, 128, 8]⟩
abbrev S4x16x4x8x128x256 : Shape := ⟨6, ![4, 16, 4, 8, 128, 256]⟩
abbrev S256 : Shape := ⟨1, ![256]⟩
abbrev S1x256 : Shape := ⟨2, ![1, 256]⟩
abbrev S128 : Shape := ⟨1, ![128]⟩
abbrev S128x1 : Shape := ⟨2, ![128, 1]⟩
abbrev S128x256 : Shape := ⟨2, ![128, 256]⟩
abbrev S1x128x256 : Shape := ⟨3, ![1, 128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S4x8 : Shape := ⟨2, ![4, 8]⟩
abbrev S1x1x4x8x1x1 : Shape := ⟨6, ![1, 1, 4, 8, 1, 1]⟩
abbrev S4x16x4x8x128x1 : Shape := ⟨6, ![4, 16, 4, 8, 128, 1]⟩
abbrev S4x16x4x8x128x257 : Shape := ⟨6, ![4, 16, 4, 8, 128, 257]⟩
abbrev S4x16x4x8x128 : Shape := ⟨5, ![4, 16, 4, 8, 128]⟩
abbrev S4x16x4x64x8x128 : Shape := ⟨6, ![4, 16, 4, 64, 8, 128]⟩
abbrev S8192x2048 : Shape := ⟨2, ![8192, 2048]⟩

abbrev nBuf : Space → Nat
  | .hbm => 97
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S1x32, .f32⟩
  | .hbm, ⟨2, _⟩ => ⟨S8192x4608, .f32⟩
  | .hbm, ⟨3, _⟩ => ⟨S4x2048x4608, .f32⟩
  | .hbm, ⟨4, _⟩ => ⟨S4x2048x2048, .f32⟩
  | .hbm, ⟨5, _⟩ => ⟨S4x2048x256, .f32⟩
  | .hbm, ⟨6, _⟩ => ⟨S4x2048x256, .f32⟩
  | .hbm, ⟨7, _⟩ => ⟨S4x2048x2048, .f32⟩
  | .hbm, ⟨8, _⟩ => ⟨S4x2048x32x64, .f32⟩
  | .hbm, ⟨9, _⟩ => ⟨S4x2048x4x64, .f32⟩
  | .hbm, ⟨10, _⟩ => ⟨S4x2048x4x64, .f32⟩
  | .hbm, ⟨11, _⟩ => ⟨S32, .f32⟩
  | .hbm, ⟨12, _⟩ => ⟨S4x16x128x4x8x64, .f32⟩
  | .hbm, ⟨13, _⟩ => ⟨S4x16x128x4x64, .f32⟩
  | .hbm, ⟨14, _⟩ => ⟨S_, .i32⟩
  | .hbm, ⟨15, _⟩ => ⟨S_, .f32⟩
  | .hbm, ⟨16, _⟩ => ⟨S4x17x128x4x64, .f32⟩
  | .hbm, ⟨17, _⟩ => ⟨S4x16x128x4x64, .f32⟩
  | .hbm, ⟨18, _⟩ => ⟨S4x16x256x4x64, .f32⟩
  | .hbm, ⟨19, _⟩ => ⟨S4x16x128x4x64, .f32⟩
  | .hbm, ⟨20, _⟩ => ⟨S_, .i32⟩
  | .hbm, ⟨21, _⟩ => ⟨S_, .f32⟩
  | .hbm, ⟨22, _⟩ => ⟨S4x17x128x4x64, .f32⟩
  | .hbm, ⟨23, _⟩ => ⟨S4x16x128x4x64, .f32⟩
  | .hbm, ⟨24, _⟩ => ⟨S4x16x256x4x64, .f32⟩
  | .hbm, ⟨25, _⟩ => ⟨S4x16x4x256x128x8, .f32⟩
  | .hbm, ⟨26, _⟩ => ⟨S4x16x4x8x128x256, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x16x4x8x128x256, .f32⟩
  | .hbm, ⟨31, _⟩ => ⟨S4x16x4x8x128x256, .f32⟩
  | .hbm, ⟨32, _⟩ => ⟨S256, .i32⟩
  | .hbm, ⟨33, _⟩ => ⟨S1x256, .i32⟩
  | .hbm, ⟨34, _⟩ => ⟨S128, .i32⟩
  | .hbm, ⟨35, _⟩ => ⟨S128x1, .i32⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S128x256, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S128x256, .i1⟩
  | .hbm, ⟨49, _⟩ => ⟨S1x128x256, .i1⟩
  | .hbm, ⟨50, _⟩ => ⟨S16, .i32⟩
  | .hbm, ⟨51, _⟩ => ⟨S16x1x1, .i32⟩
  | .hbm, ⟨52, _⟩ => ⟨S_, .i32⟩
  | .hbm, ⟨53, _⟩ => ⟨S16x1x1, .i32⟩
  | .hbm, ⟨54, _⟩ => ⟨S16x1x1, .i1⟩
  | .hbm, ⟨55, _⟩ => ⟨S_, .i32⟩
  | .hbm, ⟨56, _⟩ => ⟨S1x256, .i32⟩
  | .hbm, ⟨57, _⟩ => ⟨S1x256, .i1⟩
  | .hbm, ⟨58, _⟩ => ⟨S1x1x256, .i1⟩
  | .hbm, ⟨59, _⟩ => ⟨S16x1x256, .i1⟩
  | .hbm, ⟨60, _⟩ => ⟨S16x1x256, .i1⟩
  | .hbm, ⟨61, _⟩ => ⟨S16x1x256, .i1⟩
  | .hbm, ⟨62, _⟩ => ⟨S16x128x256, .i1⟩
  | .hbm, ⟨63, _⟩ => ⟨S16x128x256, .i1⟩
  | .hbm, ⟨64, _⟩ => ⟨S16x128x256, .i1⟩
  | .hbm, ⟨65, _⟩ => ⟨S1x16x1x1x128x256, .i1⟩
  | .hbm, ⟨66, _⟩ => ⟨S_, .f32⟩
  | .hbm, ⟨67, _⟩ => ⟨S_, .f32⟩
  | .hbm, ⟨68, _⟩ => ⟨S4x16x4x8x128x256, .i1⟩
  | .hbm, ⟨69, _⟩ => ⟨S4x16x4x8x128x256, .f32⟩
  | .hbm, ⟨70, _⟩ => ⟨S4x16x4x8x128x256, .f32⟩
  | .hbm, ⟨71, _⟩ => ⟨S4x8, .f32⟩
  | .hbm, ⟨72, _⟩ => ⟨S1x1x4x8x1x1, .f32⟩
  | .hbm, ⟨73, _⟩ => ⟨S4x16x4x8x128x1, .f32⟩
  | .hbm, ⟨74, _⟩ => ⟨S4x16x4x8x128x257, .f32⟩
  | .hbm, ⟨75, _⟩ => ⟨S_, .f32⟩
  | .hbm, ⟨76, _⟩ => ⟨S4x16x4x8x128, .f32⟩
  | .hbm, ⟨77, _⟩ => ⟨S_, .f32⟩
  | .hbm, ⟨78, _⟩ => ⟨S4x16x4x8x128, .f32⟩
  | .hbm, ⟨79, _⟩ => ⟨S4x16x4x8x128, .f32⟩
  | .hbm, ⟨80, _⟩ => ⟨S4x16x4x8x128x1, .f32⟩
  | .hbm, ⟨81, _⟩ => ⟨S4x16x4x8x128x257, .f32⟩
  | .hbm, ⟨82, _⟩ => ⟨S4x16x4x8x128x257, .f32⟩
  | .hbm, ⟨83, _⟩ => ⟨S4x16x4x8x128x257, .f32⟩
  | .hbm, ⟨84, _⟩ => ⟨S_, .f32⟩
  | .hbm, ⟨85, _⟩ => ⟨S4x16x4x8x128, .f32⟩
  | .hbm, ⟨86, _⟩ => ⟨S4x16x4x8x128x1, .f32⟩
  | .hbm, ⟨87, _⟩ => ⟨S4x16x4x8x128x257, .f32⟩
  | .hbm, ⟨88, _⟩ => ⟨S4x16x4x8x128x257, .f32⟩
  | .hbm, ⟨89, _⟩ => ⟨S4x16x4x8x128x256, .f32⟩
  | .hbm, ⟨90, _⟩ => ⟨S4x16x4x64x8x128, .f32⟩
  | .hbm, ⟨91, _⟩ => ⟨S4x16x128x4x8x64, .f32⟩
  | .hbm, ⟨92, _⟩ => ⟨S4x2048x32x64, .f32⟩
  | .hbm, ⟨93, _⟩ => ⟨S4x2048x2048, .f32⟩
  | .hbm, ⟨94, _⟩ => ⟨S4x2048x2048, .f32⟩
  | .hbm, ⟨95, _⟩ => ⟨S4x2048x2048, .bf16⟩
  | .hbm, ⟨96, _⟩ => ⟨S8192x2048, .bf16⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_call1_v0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_2 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_4 : Ref sig .tc := ⟨.hbm, 52, rfl⟩
abbrev main_v42 : Ref sig .tc := ⟨.hbm, 53, rfl⟩
abbrev main_v43 : Ref sig .tc := ⟨.hbm, 54, rfl⟩
abbrev main_c_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩

abbrev nD : Nat := 1
abbrev τ : Topo := Topo.v7x

variable {F : FTy → Type} [FloatOps F]
-- ==== Proof.Even.Lanes.lean ====
/- The projection's output block is stored as eight slabs of 128 lanes. This module states what the eight stores leave: a
   function of one slab applied to every slab of the accumulator. -/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Even

open Cert.KernelIdeal Cert.KernelIdeal.Gen
open Idealize.ShloMosaic Idealize.ShloMosaic.TcCoe

variable {F : FTy → Type} [FloatOps F]

/-- Lanes `128 k … 128 k + 127` lie inside the block. -/
theorem slab_inb (k : Fin 8) : ∀ a, (![0, 128 * k.val] : Fin 2 → Nat) a + S1024x128.size a ≤ S1024x1024.size a := by
  intro a
  match a with
  | ⟨0, _⟩ => exact Nat.le_refl 1024
  | ⟨1, _⟩ => show 128 * k.val + 128 ≤ 1024; omega

/-- The rectangle of slab `k`. -/
abbrev slabRect (k : Fin 8) : Rect S1024x1024 := Rect.unit (s := S1024x1024) ![0, 128 * k.val] S1024x128.size (slab_inb k)

/-- Slab `k` of the accumulator. -/
def slab (X : Vec F S1024x1024 .f32) (k : Fin 8) : Vec F S1024x128 .f32 := View.ld (Val := Elt F) (e' := .f32) X (slabRect k)

/-- The slab a lane lies in, -/
def slabOf (y : S1024x1024.Idx) : Fin 8 := ⟨(y 1).val / 128, by have : (y 1).val < 1024 := (y 1).isLt; omega⟩

/-- and its place there. -/
def inSlab (y : S1024x1024.Idx) : S1024x128.Idx := fun a => match a with
  | ⟨0, _⟩ => (y 0 : Fin 1024)
  | ⟨1, _⟩ => (⟨(y 1).val % 128, Nat.mod_lt _ (by decide)⟩ : Fin 128)

/-- `f` applied to every slab, the results side by side. -/
def lanes (f : Vec F S1024x128 .f32 → Vec F S1024x128 .bf16) (X : Vec F S1024x1024 .f32) : Vec F S1024x1024 .bf16 :=
  fun y => f (slab X (slabOf y)) (inSlab y)

/-- At place `x` of slab `k`, `lanes` is `f` of that slab. -/
theorem lanes_emb (f : Vec F S1024x128 .f32 → Vec F S1024x128 .bf16) (X : Vec F S1024x1024 .f32) (k : Fin 8) (x : S1024x128.Idx) :
    lanes f X ((slabRect k).emb x) = f (slab X k) x := by
  have hx : (x 1).val < 128 := (x 1).isLt
  have h1 : (((slabRect k).emb x) 1).val = 128 * k.val + 1 * (x 1).val := by rw [Rect.emb_apply]; rfl
  have hs : slabOf ((slabRect k).emb x) = k := Fin.ext (by show (((slabRect k).emb x) 1).val / 128 = _; omega)
  have hi : inSlab ((slabRect k).emb x) = x := by
    funext a
    match a with
    | ⟨0, _⟩ =>
      apply Fin.ext
      show (((slabRect k).emb x) 0).val = (x 0).val
      rw [Rect.emb_apply]; show 0 + 1 * (x 0).val = _; omega
    | ⟨1, _⟩ => apply Fin.ext; show (((slabRect k).emb x) 1).val % 128 = (x 1).val; omega
  unfold lanes; rw [hs, hi]

/-- A block whose eight slabs were stored with `f` of the accumulator's slabs reads `lanes f`. -/
theorem read_slabs {sig' : RefSig} {κ : Kind} {sp : Space} (v : View sig' κ sp S1024x1024 .bf16) (f0 : v.ty.Contents (Elt F))
    (f : Vec F S1024x128 .f32 → Vec F S1024x128 .bf16) (X : Vec F S1024x1024 .f32) (L : List (View.Piece (Elt F) S1024x1024 .bf16))
    (hL : L = (List.ofFn fun k : Fin 8 => (⟨slabRect k, f (slab X k)⟩ : View.Piece (Elt F) S1024x1024 .bf16)).reverse) :
    v.read (Elt F) (v.writes (Elt F) f0 L) = lanes f X := by
  have hc : ∀ y, ∃ p ∈ L, y ∈ p.1.set := fun y => by
    refine ⟨⟨slabRect (slabOf y), f (slab X (slabOf y))⟩, ?_, ?_⟩
    · rw [hL, List.mem_reverse]; exact (List.mem_ofFn).mpr ⟨slabOf y, rfl⟩
    · have h1 : (y 1).val < 1024 := (y 1).isLt
      have h0 : (y 0).val < 1024 := (y 0).isLt
      rw [Rect.mem_set_unit]
      intro a
      match a with
      | ⟨0, _⟩ => exact ⟨Nat.zero_le _, by show (y 0).val < 0 + 1024; omega⟩
      | ⟨1, _⟩ =>
        refine ⟨?_, ?_⟩
        · show 128 * ((y 1).val / 128) ≤ (y 1).val; omega
        · show (y 1).val < 128 * ((y 1).val / 128) + 128; omega
  rw [View.read_writes_eq_canon _ _ _ hc]
  funext y
  refine View.canon_apply_of_pieces (lanes f X) L ?_ y (hc y)
  intro p hp x
  rw [hL, List.mem_reverse] at hp
  obtain ⟨k, rfl⟩ := (List.mem_ofFn).mp hp
  exact (lanes_emb f X k x).symm

end Cert.KernelIdeal.Even

end
-- ==== Proof.Even.Cases.lean ====
/- The body of the projection kernel at one grid point, case by case: what it leaves in the output's staging block and in the
   accumulator, as functions of the blocks it was handed. -/
module

public import proofs.«01_k».proof.Proof.Even.Lanes

@[expose] public section

set_option maxRecDepth 16384

noncomputable section

namespace Cert.KernelIdeal.Even

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch: the first point of the grid. -/
abbrev first (i : grid0.Coords) : Prop :=
  (Scalar.cmpi .ne (Scalar.extui (Scalar.cmpi .eq (BitVec.ofNat 32 (i 0).val) 0#32)) 0#32) = 1#1

/-! ## What is computed -/

/-- The accumulator: the rows of `x` against the rows of the weight block. -/
def accOf (w : Vec F S1024x2048 .f32) (x : Vec F S1024x2048 .bf16) : Vec F S1024x1024 .f32 := k0_pay69 w x
/-- The gain row a norm point reads, -/
def gainN (i : grid0.Coords) (h : k0_cond2 i = 1#1) (g : Vec F S9x1x128 .f32) : Vec F S1x1x128 .f32 :=
  View.ld (Val := Elt F) (e' := .f32) g (Rect.unit (s := S9x1x128) (k0_off1 i) S1x1x128.size (k0_off1_inb i h))
/-- and a norm-and-rotate point. -/
def gainR (i : grid0.Coords) (h : k0_cond3 i = 1#1) (g : Vec F S9x1x128 .f32) : Vec F S1x1x128 .f32 :=
  View.ld (Val := Elt F) (e' := .f32) g (Rect.unit (s := S9x1x128) (k0_off2 i) S1x1x128.size (k0_off2_inb i h))
/-- A slab normalised, -/
def normF (g : Vec F S1x1x128 .f32) (a : Vec F S1024x128 .f32) : Vec F S1024x128 .bf16 := k0_pay8 a g
/-- normalised and rotated over the whole head, -/
def ropeF (g : Vec F S1x1x128 .f32) (c s : Vec F S1024x128 .f32) (a : Vec F S1024x128 .f32) : Vec F S1024x128 .bf16 := k0_pay16 a g c s
/-- rounded, -/
def castF (a : Vec F S1024x128 .f32) : Vec F S1024x128 .bf16 := k0_pay31 a
/-- times its logistic, -/
def siluF (a : Vec F S1024x128 .f32) : Vec F S1024x128 .bf16 := k0_pay39 a
/-- rotated over half heads. -/
def rope64F (c s : Vec F S1024x128 .f32) (a : Vec F S1024x128 .f32) : Vec F S1024x128 .bf16 := k0_pay45 a c s

section
variable (c : Dev nD) (i : grid0.Coords) (arg1 : Memref sig .tc .vmem S1024x2048 .bf16) (harg1 : arg1.IsWhole) (arg2 : Memref sig .tc .vmem S1024x2048 .f32) (harg2 : arg2.IsWhole) (arg3 : Memref sig .tc .vmem S9x1x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x1024 .f32) (harg9 : arg9.IsWhole)
    (x0 : Vec F S1024x2048 .bf16) (x1 : Vec F S1024x2048 .f32) (x2 : Vec F S9x1x128 .f32) (x3 : Vec F S1024x128 .f32) (x4 : Vec F S1024x128 .f32) (x5 : Vec F S1024x128 .f32) (x6 : Vec F S1024x128 .f32)

/-- The inputs' staging buffers at their contents. -/
def Ins : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6)

/-- The body's triple with the inputs kept: from `P` (the output's block and the accumulator before) to `Q`. -/
def Triple (P Q : sProp 𝕄) : Prop :=
  ∀ (E : Set ℕ) (K : PUnit → sProp 𝕄),
    iprop(Ins c arg1 arg2 arg3 arg4 arg5 arg6 arg7 x0 x1 x2 x3 x4 x5 x6 ∗ P ∗ (iprop(Ins c arg1 arg2 arg3 arg4 arg5 arg6 arg7 x0 x1 x2 x3 x4 x5 x6 ∗ Q) -∗ K ⟨⟩))
      ⊢ wp frame (wpE (defs₀ (F := F)) Variants.none c none) E (cc0_even_proj i arg1 harg1 arg2 harg2 arg3 harg3 arg4 harg4 arg5 harg5 arg6 harg6 arg7 harg7 arg8 harg8 arg9 harg9) K

end

/-- A load of a whole buffer at contents that read `x` reads `x` at the rectangle. -/
theorem readAt_unread {s : Shape} {e : EltTy} (a : Memref sig .tc .vmem s e) (ha : a.IsWhole) (x : Vec F s e) (r : Rect s) :
    View.readAt (Elt F) a.view r.toLoadRect (ha.unread x) = View.ld (Val := Elt F) (e' := e) x r := by
  rw [View.readAt_eq_ld, ha.read_unread]

/-- The zero offsets of a rank-two rectangle. -/
theorem zero2 : (![0, 0] : Fin 2 → Nat) = fun _ => 0 := by
  funext a
  match a with
  | ⟨0, _⟩ => rfl
  | ⟨1, _⟩ => rfl

/-- A block stored whole reads what was stored. -/
theorem read_whole (v : View sig .tc .vmem S1024x1024 .f32) (f0 : v.ty.Contents (Elt F)) (p : Vec F S1024x1024 .f32) :
    v.read (Elt F) (v.writes (Elt F) f0 [⟨Rect.unit ![0, 0] S1024x1024.size inb_S1024x1024_S1024x1024_0_0, p⟩]) = p := by
  rw [View.read_writes_eq_canon _ _ _ fun y => ⟨_, List.mem_singleton_self _, View.mem_set_unit_zero zero2 inb_S1024x1024_S1024x1024_0_0 y⟩]
  exact View.canon_unit_zero zero2 _ _

/-- The accumulator's payload over the two operand blocks loaded whole. -/
theorem acc_loads (x0 : Vec F S1024x2048 .bf16) (x1 : Vec F S1024x2048 .f32) :
    accOf (View.ld (Val := Elt F) (e' := .f32) x1 (Rect.unit ![0, 0] S1024x2048.size inb_S1024x2048_S1024x2048_0_0))
      (View.ld (Val := Elt F) (e' := .bf16) x0 (Rect.unit ![0, 0] S1024x2048.size inb_S1024x2048_S1024x2048_0_0)) = accOf x1 x0 := by
  rw [View.ld_unit_zero zero2, View.ld_unit_zero zero2]

/-- A table block loaded whole. -/
theorem tab_load (x : Vec F S1024x128 .f32) :
    View.ld (Val := Elt F) (e' := .f32) x (Rect.unit ![0, 0] S1024x128.size inb_S1024x128_S1024x128_0_0) = x :=
  View.ld_unit_zero zero2 _ _

section
variable (c : Dev nD) (i : grid0.Coords) (arg1 : Memref sig .tc .vmem S1024x2048 .bf16) (harg1 : arg1.IsWhole) (arg2 : Memref sig .tc .vmem S1024x2048 .f32) (harg2 : arg2.IsWhole) (arg3 : Memref sig .tc .vmem S9x1x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x1024 .f32) (harg9 : arg9.IsWhole)
    (x0 : Vec F S1024x2048 .bf16) (x1 : Vec F S1024x2048 .f32) (x2 : Vec F S9x1x128 .f32) (x3 : Vec F S1024x128 .f32) (x4 : Vec F S1024x128 .f32) (x5 : Vec F S1024x128 .f32) (x6 : Vec F S1024x128 .f32) (xs : Vec F S1024x1024 .f32)

set_option maxHeartbeats 1000000 in
/-- The first point only multiplies. -/
theorem run_first (hc0 : first i) (hc1 : ¬k0_cond2 i = 1#1) (hc2 : ¬k0_cond3 i = 1#1) (hc3 : ¬k0_cond4 i = 1#1) (hc4 : ¬k0_cond5 i = 1#1) (hc5 : ¬k0_cond6 i = 1#1) (hc6 : ¬k0_cond7 i = 1#1) :
    Triple c i arg1 harg1 arg2 harg2 arg3 harg3 arg4 harg4 arg5 harg5 arg6 harg6 arg7 harg7 arg8 harg8 arg9 harg9 x0 x1 x2 x3 x4 x5 x6
      iprop(∃ d, owns (c : Thread nD τ) arg9 fullShare d)
      iprop(owns (c : Thread nD τ) arg9 fullShare (accOf x1 x0)) := by
  intro E K
  simp only [cc0_even_proj_eq_skeleton]; unfold cc0_even_proj_skel
  simp only [k0_part21_eq_skeleton]
  unfold Ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1 | sl_exact hc2 | sl_exact hc3 | sl_exact hc4 | sl_exact hc5 | sl_exact hc6)
  sl_step
  iapply Hk
  isplitr [HS0]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; isplitr; · ipureintro; exact harg7.read_unread _
    iexact H6
  iexists _; isplitr
  swap; · iexact HS0
  ipureintro
  refine (read_whole _ _ _).trans ?_
  simp only [readAt_unread]
  exact acc_loads x0 x1

set_option maxHeartbeats 1000000 in
/-- A norm point. -/
theorem run_norm (hc0 : ¬first i) (hc1 : k0_cond2 i = 1#1) (hc2 : ¬k0_cond3 i = 1#1) (hc3 : ¬k0_cond4 i = 1#1) (hc4 : ¬k0_cond5 i = 1#1) (hc5 : ¬k0_cond6 i = 1#1) (hc6 : ¬k0_cond7 i = 1#1) :
    Triple c i arg1 harg1 arg2 harg2 arg3 harg3 arg4 harg4 arg5 harg5 arg6 harg6 arg7 harg7 arg8 harg8 arg9 harg9 x0 x1 x2 x3 x4 x5 x6
      iprop((∃ d, owns (c : Thread nD τ) arg8 fullShare d) ∗ owns (c : Thread nD τ) arg9 fullShare xs)
      iprop(owns (c : Thread nD τ) arg8 fullShare (lanes (normF (gainN i hc1 x2)) xs) ∗ owns (c : Thread nD τ) arg9 fullShare (accOf x1 x0)) := by
  intro E K
  simp only [cc0_even_proj_eq_skeleton]; unfold cc0_even_proj_skel
  simp only [k0_part21_eq_skeleton, k0_part1_eq_skeleton, k0_part2_eq_skeleton, k0_part3_eq_skeleton, k0_part4_eq_skeleton]
  unfold Ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%d7, %f7, -, H7⟩, ⟨%fs0, %hfs0, HS0⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
  sl_exec (disch := first | sl_exact hc0 | sl_exact hc1 | sl_exact hc2 | sl_exact hc3 | sl_exact hc4 | sl_exact hc5 | sl_exact hc6)
  sl_step
  iapply Hk
  isplitr [H7 HS0]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; isplitr; · ipureintro; exact harg7.read_unread _
    iexact H6
  isplitl [H7]
  · iexists _; isplitr
    swap; · iexact H7
    ipureintro
    refine read_slabs _ _ _ xs _ ?_
    sl_unfold_words
    simp only [readAt_unread]
    rfl
  iexists _; isplitr
  swap; · iexact HS0
  ipureintro
  refine (read_whole _ _ _).trans ?_
  simp only [readAt_unread]
  exact acc_loads x0 x1

set_option maxHeartbeats 1000000 in
/-- A norm-and-rotate point. -/
theorem run_rope (hc0 : ¬first i) (hc1 : ¬k0_cond2 i = 1#1) (hc2 : k0_cond3 i = 1#1) (hc3 : ¬k0_cond4 i = 1#1) (hc4 : ¬k0_cond5 i = 1#1) (hc5 : ¬k0_cond6 i = 1#1) (hc6 : ¬k0_cond7 i = 1#1) :
    Triple c i arg1 harg1 arg2 harg2 arg3 harg3 arg4 harg4 arg5 harg5 arg6 harg6 arg7 harg7 arg8 harg8 arg9 harg9 x0 x1 x2 x3 x4 x5 x6
      iprop((∃ d, owns (c : Thread nD τ) arg8 fullShare d) ∗ owns (c : Thread nD τ) arg9 fullShare xs)
      iprop(owns (c : Thread nD τ) arg8 fullShare (lanes (ropeF (gainR i hc2 x2) x3 x4) xs) ∗ owns (c : Thread nD τ) arg9 fullShare (accOf x1 x0)) := by
  intro E K
  simp only [cc0_even_proj_eq_skeleton]; unfold cc0_even_proj_skel
  simp only [k0_part21_eq_skeleton, k0_part5_eq_skeleton, k0_part6_eq_skeleton, k0_part7_eq_skeleton, k0_part8_eq_skeleton, k0_part9_eq_skeleton, k0_part10_eq_skeleton]
  unfold Ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%d7, %f7, -, H7⟩, ⟨%fs0, %hfs0, HS0⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
  sl_exec (disch := first | sl_exact hc0 | sl_exact hc1 | sl_exact hc2 | sl_exact hc3 | sl_exact hc4 | sl_exact hc5 | sl_exact hc6)
  sl_step
  iapply Hk
  isplitr [H7 HS0]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; isplitr; · ipureintro; exact harg7.read_unread _
    iexact H6
  isplitl [H7]
  · iexists _; isplitr
    swap; · iexact H7
    ipureintro
    refine (read_slabs _ _ (ropeF (gainR i hc2 x2) (View.ld (Val := Elt F) (e' := .f32) x3 (Rect.unit ![0, 0] S1024x128.size inb_S1024x128_S1024x128_0_0)) (View.ld (Val := Elt F) (e' := .f32) x4 (Rect.unit ![0, 0] S1024x128.size inb_S1024x128_S1024x128_0_0))) xs _ ?_).trans (by rw [tab_load, tab_load])
    sl_unfold_words
    simp only [readAt_unread]
    rfl
  iexists _; isplitr
  swap; · iexact HS0
  ipureintro
  refine (read_whole _ _ _).trans ?_
  simp only [readAt_unread]
  exact acc_loads x0 x1

set_option maxHeartbeats 1000000 in
/-- A point that only rounds. -/
theorem run_cast (hc0 : ¬first i) (hc1 : ¬k0_cond2 i = 1#1) (hc2 : ¬k0_cond3 i = 1#1) (hc3 : k0_cond4 i = 1#1) (hc4 : ¬k0_cond5 i = 1#1) (hc5 : ¬k0_cond6 i = 1#1) (hc6 : ¬k0_cond7 i = 1#1) :
    Triple c i arg1 harg1 arg2 harg2 arg3 harg3 arg4 harg4 arg5 harg5 arg6 harg6 arg7 harg7 arg8 harg8 arg9 harg9 x0 x1 x2 x3 x4 x5 x6
      iprop((∃ d, owns (c : Thread nD τ) arg8 fullShare d) ∗ owns (c : Thread nD τ) arg9 fullShare xs)
      iprop(owns (c : Thread nD τ) arg8 fullShare (lanes (castF) xs) ∗ owns (c : Thread nD τ) arg9 fullShare (accOf x1 x0)) := by
  intro E K
  simp only [cc0_even_proj_eq_skeleton]; unfold cc0_even_proj_skel
  simp only [k0_part21_eq_skeleton, k0_part11_eq_skeleton]
  unfold Ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%d7, %f7, -, H7⟩, ⟨%fs0, %hfs0, HS0⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
  sl_exec (disch := first | sl_exact hc0 | sl_exact hc1 | sl_exact hc2 | sl_exact hc3 | sl_exact hc4 | sl_exact hc5 | sl_exact hc6)
  sl_step
  iapply Hk
  isplitr [H7 HS0]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; isplitr; · ipureintro; exact harg7.read_unread _
    iexact H6
  isplitl [H7]
  · iexists _; isplitr
    swap; · iexact H7
    ipureintro
    refine read_slabs _ _ _ xs _ ?_
    sl_unfold_words
    simp only [readAt_unread]
    rfl
  iexists _; isplitr
  swap; · iexact HS0
  ipureintro
  refine (read_whole _ _ _).trans ?_
  simp only [readAt_unread]
  exact acc_loads x0 x1

set_option maxHeartbeats 1000000 in
/-- A gate point. -/
theorem run_silu (hc0 : ¬first i) (hc1 : ¬k0_cond2 i = 1#1) (hc2 : ¬k0_cond3 i = 1#1) (hc3 : ¬k0_cond4 i = 1#1) (hc4 : k0_cond5 i = 1#1) (hc5 : ¬k0_cond6 i = 1#1) (hc6 : ¬k0_cond7 i = 1#1) :
    Triple c i arg1 harg1 arg2 harg2 arg3 harg3 arg4 harg4 arg5 harg5 arg6 harg6 arg7 harg7 arg8 harg8 arg9 harg9 x0 x1 x2 x3 x4 x5 x6
      iprop((∃ d, owns (c : Thread nD τ) arg8 fullShare d) ∗ owns (c : Thread nD τ) arg9 fullShare xs)
      iprop(owns (c : Thread nD τ) arg8 fullShare (lanes (siluF) xs) ∗ owns (c : Thread nD τ) arg9 fullShare (accOf x1 x0)) := by
  intro E K
  simp only [cc0_even_proj_eq_skeleton]; unfold cc0_even_proj_skel
  simp only [k0_part21_eq_skeleton, k0_part12_eq_skeleton]
  unfold Ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%d7, %f7, -, H7⟩, ⟨%fs0, %hfs0, HS0⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
  sl_exec (disch := first | sl_exact hc0 | sl_exact hc1 | sl_exact hc2 | sl_exact hc3 | sl_exact hc4 | sl_exact hc5 | sl_exact hc6)
  sl_step
  iapply Hk
  isplitr [H7 HS0]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; isplitr; · ipureintro; exact harg7.read_unread _
    iexact H6
  isplitl [H7]
  · iexists _; isplitr
    swap; · iexact H7
    ipureintro
    refine read_slabs _ _ _ xs _ ?_
    sl_unfold_words
    simp only [readAt_unread]
    rfl
  iexists _; isplitr
  swap; · iexact HS0
  ipureintro
  refine (read_whole _ _ _).trans ?_
  simp only [readAt_unread]
  exact acc_loads x0 x1

set_option maxHeartbeats 1000000 in
/-- A half-head rotation point. -/
theorem run_rope64 (hc0 : ¬first i) (hc1 : ¬k0_cond2 i = 1#1) (hc2 : ¬k0_cond3 i = 1#1) (hc3 : ¬k0_cond4 i = 1#1) (hc4 : ¬k0_cond5 i = 1#1) (hc5 : k0_cond6 i = 1#1) (hc6 : ¬k0_cond7 i = 1#1) :
    Triple c i arg1 harg1 arg2 harg2 arg3 harg3 arg4 harg4 arg5 harg5 arg6 harg6 arg7 harg7 arg8 harg8 arg9 harg9 x0 x1 x2 x3 x4 x5 x6
      iprop((∃ d, owns (c : Thread nD τ) arg8 fullShare d) ∗ owns (c : Thread nD τ) arg9 fullShare xs)
      iprop(owns (c : Thread nD τ) arg8 fullShare (lanes (rope64F x5 x6) xs) ∗ owns (c : Thread nD τ) arg9 fullShare (accOf x1 x0)) := by
  intro E K
  simp only [cc0_even_proj_eq_skeleton]; unfold cc0_even_proj_skel
  simp only [k0_part21_eq_skeleton, k0_part13_eq_skeleton, k0_part14_eq_skeleton, k0_part15_eq_skeleton, k0_part16_eq_skeleton]
  unfold Ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%d7, %f7, -, H7⟩, ⟨%fs0, %hfs0, HS0⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
  sl_exec (disch := first | sl_exact hc0 | sl_exact hc1 | sl_exact hc2 | sl_exact hc3 | sl_exact hc4 | sl_exact hc5 | sl_exact hc6)
  sl_step
  iapply Hk
  isplitr [H7 HS0]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; isplitr; · ipureintro; exact harg7.read_unread _
    iexact H6
  isplitl [H7]
  · iexists _; isplitr
    swap; · iexact H7
    ipureintro
    refine (read_slabs _ _ (rope64F (View.ld (Val := Elt F) (e' := .f32) x5 (Rect.unit ![0, 0] S1024x128.size inb_S1024x128_S1024x128_0_0)) (View.ld (Val := Elt F) (e' := .f32) x6 (Rect.unit ![0, 0] S1024x128.size inb_S1024x128_S1024x128_0_0))) xs _ ?_).trans (by rw [tab_load, tab_load])
    sl_unfold_words
    simp only [readAt_unread]
    rfl
  iexists _; isplitr
  swap; · iexact HS0
  ipureintro
  refine (read_whole _ _ _).trans ?_
  simp only [readAt_unread]
  exact acc_loads x0 x1

set_option maxHeartbeats 1000000 in
/-- The last point only finishes. -/
theorem run_last (hc0 : ¬first i) (hc1 : ¬k0_cond2 i = 1#1) (hc2 : ¬k0_cond3 i = 1#1) (hc3 : ¬k0_cond4 i = 1#1) (hc4 : ¬k0_cond5 i = 1#1) (hc5 : ¬k0_cond6 i = 1#1) (hc6 : k0_cond7 i = 1#1) :
    Triple c i arg1 harg1 arg2 harg2 arg3 harg3 arg4 harg4 arg5 harg5 arg6 harg6 arg7 harg7 arg8 harg8 arg9 harg9 x0 x1 x2 x3 x4 x5 x6
      iprop((∃ d, owns (c : Thread nD τ) arg8 fullShare d) ∗ owns (c : Thread nD τ) arg9 fullShare xs)
      iprop(owns (c : Thread nD τ) arg8 fullShare (lanes (rope64F x5 x6) xs) ∗ owns (c : Thread nD τ) arg9 fullShare xs) := by
  intro E K
  simp only [cc0_even_proj_eq_skeleton]; unfold cc0_even_proj_skel
  simp only [k0_part21_eq_skeleton, k0_part17_eq_skeleton, k0_part18_eq_skeleton, k0_part19_eq_skeleton, k0_part20_eq_skeleton]
  unfold Ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%d7, %f7, -, H7⟩, ⟨%fs0, %hfs0, HS0⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
  sl_exec (disch := first | sl_exact hc0 | sl_exact hc1 | sl_exact hc2 | sl_exact hc3 | sl_exact hc4 | sl_exact hc5 | sl_exact hc6)
  sl_step
  iapply Hk
  isplitr [H7 HS0]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; isplitr; · ipureintro; exact harg7.read_unread _
    iexact H6
  isplitl [H7]
  · iexists _; isplitr
    swap; · iexact H7
    ipureintro
    refine (read_slabs _ _ (rope64F (View.ld (Val := Elt F) (e' := .f32) x5 (Rect.unit ![0, 0] S1024x128.size inb_S1024x128_S1024x128_0_0)) (View.ld (Val := Elt F) (e' := .f32) x6 (Rect.unit ![0, 0] S1024x128.size inb_S1024x128_S1024x128_0_0))) xs _ ?_).trans (by rw [tab_load, tab_load])
    sl_unfold_words
    simp only [readAt_unread]
    rfl
  iexists _; isplitr; · ipureintro; exact harg9.read_unread _
  iexact HS0

end

end Cert.KernelIdeal.Even

end
-- ==== Proof.Even.Frame.lean ====
/- The run of the projection pipeline: the accumulator carries one point's product to the next, which finishes it
   and writes the output's block; every point's body meets its obligation, so @main runs to the end and leaves every
   argument array as it was. Over any float values. -/
module

public import proofs.«01_k».proof.Proof.Even.Cases
public import Idealize.ShloMosaic.Lib.Claim

@[expose] public section

set_option maxRecDepth 16384

noncomputable section

namespace Cert.KernelIdeal.Even

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch a point takes -/

theorem at_first : ∀ t : Fin cfg0.N, first (grid0.coords t) ↔ t.val = 0 :=
  (by decide +kernel : ∀ t : Fin grid0.N, first (grid0.coords t) ↔ t.val = 0)
theorem at_norm : ∀ t : Fin cfg0.N, k0_cond2 (grid0.coords t) = 1#1 ↔ ((t.val + 8) % 9 = 0 ∨ (t.val + 8) % 9 = 1) :=
  (by decide +kernel : ∀ t : Fin grid0.N, k0_cond2 (grid0.coords t) = 1#1 ↔ ((t.val + 8) % 9 = 0 ∨ (t.val + 8) % 9 = 1))
theorem at_rope : ∀ t : Fin cfg0.N, k0_cond3 (grid0.coords t) = 1#1 ↔ ((t.val + 8) % 9 = 4 ∨ (t.val + 8) % 9 = 5) :=
  (by decide +kernel : ∀ t : Fin grid0.N, k0_cond3 (grid0.coords t) = 1#1 ↔ ((t.val + 8) % 9 = 4 ∨ (t.val + 8) % 9 = 5))
theorem at_cast : ∀ t : Fin cfg0.N, k0_cond4 (grid0.coords t) = 1#1 ↔ ((t.val + 8) % 9 = 2 ∨ (t.val + 8) % 9 = 6) :=
  (by decide +kernel : ∀ t : Fin grid0.N, k0_cond4 (grid0.coords t) = 1#1 ↔ ((t.val + 8) % 9 = 2 ∨ (t.val + 8) % 9 = 6))
theorem at_silu : ∀ t : Fin cfg0.N, k0_cond5 (grid0.coords t) = 1#1 ↔ ((t.val + 8) % 9 = 3 ∨ (t.val + 8) % 9 = 7) :=
  (by decide +kernel : ∀ t : Fin grid0.N, k0_cond5 (grid0.coords t) = 1#1 ↔ ((t.val + 8) % 9 = 3 ∨ (t.val + 8) % 9 = 7))
theorem at_rope64 : ∀ t : Fin cfg0.N, k0_cond6 (grid0.coords t) = 1#1 ↔ ((t.val + 8) % 9 = 8 ∧ t.val ≠ 0 ∧ t.val ≠ 72) :=
  (by decide +kernel : ∀ t : Fin grid0.N, k0_cond6 (grid0.coords t) = 1#1 ↔ ((t.val + 8) % 9 = 8 ∧ t.val ≠ 0 ∧ t.val ≠ 72))
theorem at_last : ∀ t : Fin cfg0.N, k0_cond7 (grid0.coords t) = 1#1 ↔ t.val = 72 :=
  (by decide +kernel : ∀ t : Fin grid0.N, k0_cond7 (grid0.coords t) = 1#1 ↔ t.val = 72)

/-- The output is idle at the first point, -/
theorem idle_first : ∀ t : Fin cfg0.N, t.val = 0 → cfg0.idle 7 (grid0.coords t) = true := by decide +kernel
/-- where it is not written back, -/
theorem noFlush_first : ∀ t : Fin cfg0.N, t.val = 0 → (cfg0.win 7).flush t = false := by decide +kernel
/-- and live at every other. -/
theorem live_rest : ∀ t : Fin cfg0.N, t.val ≠ 0 → cfg0.idle 7 (grid0.coords t) = false := by decide +kernel

/-! ## A point that finishes -/

/-- What a point does to each slab of the accumulator, by the group of columns it is at. -/
def lane (i : grid0.Coords) (x2 : Vec F S9x1x128 .f32) (x3 x4 x5 x6 : Vec F S1024x128 .f32) :
    Vec F S1024x128 .f32 → Vec F S1024x128 .bf16 :=
  if h : k0_cond2 i = 1#1 then normF (gainN i h x2)
  else if h : k0_cond3 i = 1#1 then ropeF (gainR i h x2) x3 x4
  else if k0_cond4 i = 1#1 then castF
  else if k0_cond5 i = 1#1 then siluF
  else rope64F x5 x6

/-- What it leaves in the accumulator. -/
def next (i : grid0.Coords) (x0 : Vec F S1024x2048 .bf16) (x1 : Vec F S1024x2048 .f32) (xs : Vec F S1024x1024 .f32) : Vec F S1024x1024 .f32 :=
  if k0_cond7 i = 1#1 then xs else accOf x1 x0

/-- Every point but the first: its block from the accumulator, then the next product. -/
theorem run_point (c : Dev nD) (t : Fin cfg0.N) (ht : t.val ≠ 0) (arg1 : Memref sig .tc .vmem S1024x2048 .bf16) (harg1 : arg1.IsWhole) (arg2 : Memref sig .tc .vmem S1024x2048 .f32) (harg2 : arg2.IsWhole) (arg3 : Memref sig .tc .vmem S9x1x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x1024 .f32) (harg9 : arg9.IsWhole)
    (x0 : Vec F S1024x2048 .bf16) (x1 : Vec F S1024x2048 .f32) (x2 : Vec F S9x1x128 .f32) (x3 : Vec F S1024x128 .f32) (x4 : Vec F S1024x128 .f32) (x5 : Vec F S1024x128 .f32) (x6 : Vec F S1024x128 .f32) (xs : Vec F S1024x1024 .f32) :
    Triple c (grid0.coords t) arg1 harg1 arg2 harg2 arg3 harg3 arg4 harg4 arg5 harg5 arg6 harg6 arg7 harg7 arg8 harg8 arg9 harg9 x0 x1 x2 x3 x4 x5 x6
      iprop((∃ d, owns (c : Thread nD τ) arg8 fullShare d) ∗ owns (c : Thread nD τ) arg9 fullShare xs)
      iprop(owns (c : Thread nD τ) arg8 fullShare (lanes (lane (grid0.coords t) x2 x3 x4 x5 x6) xs) ∗ owns (c : Thread nD τ) arg9 fullShare (next (grid0.coords t) x0 x1 xs)) := by
  have h0 := at_first t
  have h1 := at_norm t
  have h2 := at_rope t
  have h3 := at_cast t
  have h4 := at_silu t
  have h5 := at_rope64 t
  have h6 := at_last t
  have hN : t.val < 73 := lt_of_lt_of_eq t.isLt (show cfg0.N = 73 from N_0)
  have h0' : ¬first (grid0.coords t) := by rw [h0]; exact ht
  unfold lane next
  by_cases c1 : k0_cond2 (grid0.coords t) = 1#1
  · have q := h1.mp c1
    have n2 : ¬k0_cond3 (grid0.coords t) = 1#1 := by rw [h2]; omega
    have n3 : ¬k0_cond4 (grid0.coords t) = 1#1 := by rw [h3]; omega
    have n4 : ¬k0_cond5 (grid0.coords t) = 1#1 := by rw [h4]; omega
    have n5 : ¬k0_cond6 (grid0.coords t) = 1#1 := by rw [h5]; omega
    have n6 : ¬k0_cond7 (grid0.coords t) = 1#1 := by rw [h6]; omega
    rw [dif_pos c1, if_neg n6]
    exact run_norm c _ arg1 harg1 arg2 harg2 arg3 harg3 arg4 harg4 arg5 harg5 arg6 harg6 arg7 harg7 arg8 harg8 arg9 harg9 x0 x1 x2 x3 x4 x5 x6 xs h0' c1 n2 n3 n4 n5 n6
  rw [dif_neg c1]
  have q1 := fun h => c1 (h1.mpr h)
  by_cases c2 : k0_cond3 (grid0.coords t) = 1#1
  · have q := h2.mp c2
    have n3 : ¬k0_cond4 (grid0.coords t) = 1#1 := by rw [h3]; omega
    have n4 : ¬k0_cond5 (grid0.coords t) = 1#1 := by rw [h4]; omega
    have n5 : ¬k0_cond6 (grid0.coords t) = 1#1 := by rw [h5]; omega
    have n6 : ¬k0_cond7 (grid0.coords t) = 1#1 := by rw [h6]; omega
    rw [dif_pos c2, if_neg n6]
    exact run_rope c _ arg1 harg1 arg2 harg2 arg3 harg3 arg4 harg4 arg5 harg5 arg6 harg6 arg7 harg7 arg8 harg8 arg9 harg9 x0 x1 x2 x3 x4 x5 x6 xs h0' c1 c2 n3 n4 n5 n6
  rw [dif_neg c2]
  have q2 := fun h => c2 (h2.mpr h)
  by_cases c3 : k0_cond4 (grid0.coords t) = 1#1
  · have q := h3.mp c3
    have n4 : ¬k0_cond5 (grid0.coords t) = 1#1 := by rw [h4]; omega
    have n5 : ¬k0_cond6 (grid0.coords t) = 1#1 := by rw [h5]; omega
    have n6 : ¬k0_cond7 (grid0.coords t) = 1#1 := by rw [h6]; omega
    rw [if_pos c3, if_neg n6]
    exact run_cast c _ arg1 harg1 arg2 harg2 arg3 harg3 arg4 harg4 arg5 harg5 arg6 harg6 arg7 harg7 arg8 harg8 arg9 harg9 x0 x1 x2 x3 x4 x5 x6 xs h0' c1 c2 c3 n4 n5 n6
  rw [if_neg c3]
  have q3 := fun h => c3 (h3.mpr h)
  by_cases c4 : k0_cond5 (grid0.coords t) = 1#1
  · have q := h4.mp c4
    have n5 : ¬k0_cond6 (grid0.coords t) = 1#1 := by rw [h5]; omega
    have n6 : ¬k0_cond7 (grid0.coords t) = 1#1 := by rw [h6]; omega
    rw [if_pos c4, if_neg n6]
    exact run_silu c _ arg1 harg1 arg2 harg2 arg3 harg3 arg4 harg4 arg5 harg5 arg6 harg6 arg7 harg7 arg8 harg8 arg9 harg9 x0 x1 x2 x3 x4 x5 x6 xs h0' c1 c2 c3 c4 n5 n6
  rw [if_neg c4]
  have q4 := fun h => c4 (h4.mpr h)
  by_cases c6 : k0_cond7 (grid0.coords t) = 1#1
  · have q := h6.mp c6
    have n5 : ¬k0_cond6 (grid0.coords t) = 1#1 := by rw [h5]; omega
    rw [if_pos c6]
    exact run_last c _ arg1 harg1 arg2 harg2 arg3 harg3 arg4 harg4 arg5 harg5 arg6 harg6 arg7 harg7 arg8 harg8 arg9 harg9 x0 x1 x2 x3 x4 x5 x6 xs h0' c1 c2 c3 c4 n5 c6
  · have q6 : ¬t.val = 72 := fun h => c6 (h6.mpr h)
    have c5 : k0_cond6 (grid0.coords t) = 1#1 := by
      rw [h5]
      refine ⟨?_, ht, q6⟩
      by_contra hn
      by_cases a : (t.val + 8) % 9 = 0 ∨ (t.val + 8) % 9 = 1
      · exact q1 a
      by_cases b : (t.val + 8) % 9 = 4 ∨ (t.val + 8) % 9 = 5
      · exact q2 b
      by_cases e : (t.val + 8) % 9 = 2 ∨ (t.val + 8) % 9 = 6
      · exact q3 e
      exact q4 (by omega)
    rw [if_neg c6]
    exact run_rope64 c _ arg1 harg1 arg2 harg2 arg3 harg3 arg4 harg4 arg5 harg5 arg6 harg6 arg7 harg7 arg8 harg8 arg9 harg9 x0 x1 x2 x3 x4 x5 x6 xs h0' c1 c2 c3 c4 c5 c6

/-! ## The pipeline's proof data -/

variable (m : (ℓ : Loc nD τ sig) → Buf (Elt F) ℓ) (ρ : Dev nD → PrngReg)

/-- The point whose product the accumulator holds after point `n`: the last point makes none. -/
def prodPt (n : ℕ) : Fin cfg0.N := ⟨min n 71, by rw [show cfg0.N = 73 from N_0]; omega⟩

/-- The accumulator after point `n`. -/
def accAt (c : Dev nD) (n : ℕ) : Vec F S1024x1024 .f32 :=
  accOf (iblk m c 1 (prodPt n)) (iblk m c 0 (prodPt n))

/-- The output's block after point `t` (which the first point does not make). -/
def outAt (c : Dev nD) (t : Fin cfg0.N) : Vec F S1024x1024 .bf16 :=
  lanes (lane (grid0.coords t) (iblk m c 2 t) (iblk m c 3 t) (iblk m c 4 t) (iblk m c 5 t) (iblk m c 6 t)) (accAt m c (t.val - 1))

theorem accAt_next (c : Dev nD) (t : Fin cfg0.N) (ht : t.val ≠ 0) :
    next (grid0.coords t) (iblk m c 0 t) (iblk m c 1 t) (accAt m c (t.val - 1)) = accAt m c t.val := by
  have hN : t.val < 73 := lt_of_lt_of_eq t.isLt (show cfg0.N = 73 from N_0)
  unfold next accAt
  by_cases h : k0_cond7 (grid0.coords t) = 1#1
  · rw [if_pos h]
    have := (at_last t).mp h
    have e : prodPt (t.val - 1) = prodPt t.val := Fin.ext (by unfold prodPt; simp only; omega)
    rw [e]
  · rw [if_neg h]
    have : t.val ≠ 72 := fun q => h ((at_last t).mpr q)
    have e : prodPt t.val = t := Fin.ext (by unfold prodPt; simp only; omega)
    rw [e]

/-- The accumulator's buffer. -/
abbrev acc : Memref sig .tc .vmem S1024x1024 .f32 := Memref.whole cc0_scratch0

/-- What the launch hands the region, the accumulator spelled as a buffer owned. -/
theorem entry_eq (c : Dev nD) :
    (Pipeline.ΦA spec0 c : sProp 𝕄) = iprop(iprop((∃ d, owns (c : Thread nD τ) acc fullShare d)) ∗ (∃ r, prngReg c r)) := by
  unfold Pipeline.ΦA; rw [scopedRest0_eq]; simp only [acc, owns_whole]; try rfl

/-- What is kept between points: the accumulator at anything before the first, then at the last product made. -/
def kept (c : Dev nD) : ℕ → sProp 𝕄
  | 0 => Pipeline.ΦA spec0 c
  | n + 1 => iprop(owns (c : Thread nD τ) acc fullShare (accAt m c n) ∗ (∃ r, prngReg c r))

theorem kept_pos (c : Dev nD) (n : ℕ) (hn : n ≠ 0) :
    kept m c n = iprop(owns (c : Thread nD τ) acc fullShare (accAt m c (n - 1)) ∗ (∃ r, prngReg c r)) := by
  obtain ⟨k, rfl⟩ := Nat.exists_eq_succ_of_ne_zero hn
  rfl

/-- The arrays as the region finds them; each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := kept m c t.val
  q _ := fullShare
  owed _ := 0

theorem dat_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

theorem before_0 (c : Dev nD) (t : Fin cfg0.N) (d) : (dats m 0 c).before 0 t d = iblk m c 0 t :=
  before0_0_of m (dats m 0 c) (dat_A m c 0) (after_0 m c) t d
theorem before_1 (c : Dev nD) (t : Fin cfg0.N) (d) : (dats m 0 c).before 1 t d = iblk m c 1 t :=
  before0_1_of m (dats m 0 c) (dat_A m c 1) (after_1 m c) t d
theorem before_2 (c : Dev nD) (t : Fin cfg0.N) (d) : (dats m 0 c).before 2 t d = iblk m c 2 t :=
  before0_2_of m (dats m 0 c) (dat_A m c 2) (after_2 m c) t d
theorem before_3 (c : Dev nD) (t : Fin cfg0.N) (d) : (dats m 0 c).before 3 t d = iblk m c 3 t :=
  before0_3_of m (dats m 0 c) (dat_A m c 3) (after_3 m c) t d
theorem before_4 (c : Dev nD) (t : Fin cfg0.N) (d) : (dats m 0 c).before 4 t d = iblk m c 4 t :=
  before0_4_of m (dats m 0 c) (dat_A m c 4) (after_4 m c) t d
theorem before_5 (c : Dev nD) (t : Fin cfg0.N) (d) : (dats m 0 c).before 5 t d = iblk m c 5 t :=
  before0_5_of m (dats m 0 c) (dat_A m c 5) (after_5 m c) t d
theorem before_6 (c : Dev nD) (t : Fin cfg0.N) (d) : (dats m 0 c).before 6 t d = iblk m c 6 t :=
  before0_6_of m (dats m 0 c) (dat_A m c 6) (after_6 m c) t d
theorem leaves_0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (cfg0.grid.coords t) = false from rfl, after_5]
theorem leaves_6 (c : Dev nD) (t : Fin cfg0.N) : (dats m 0 c).leavesExact 6 t = owns (c : Thread nD τ) (st0_6 t) fullShare (iblk m c 6 t) := by
  unfold Dat.leavesExact; rw [show cfg0.idle 6 (cfg0.grid.coords t) = false from rfl, after_6]
theorem leaves_7 (c : Dev nD) (t : Fin cfg0.N) (ht : t.val ≠ 0) : (dats m 0 c).leavesExact 7 t = owns (c : Thread nD τ) (st0_7 t) fullShare (outAt m c t) := by
  unfold Dat.leavesExact; rw [live_rest t ht, after_7]

/-! ## The body's obligation -/

/-- What the body is called with at a point, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 2000000 in
/-- The body at any point: the first only makes a product; every other finishes the last product, then makes its own. -/
theorem sound_body (c : Dev nD) (t : Fin cfg0.N) :
    pre m c t ⊢ wp frame (wpE (defs₀ (F := F)) Variants.none c none) Set.univ (bodyAt0 t) (fun _ => post m c t) := by
  unfold pre post
  simp only [before_0, before_1, before_2, before_3, before_4, before_5, before_6]
  rw [leaves_0, leaves_1, leaves_2, leaves_3, leaves_4, leaves_5, leaves_6]
  rw [show (dats m 0 c).owesAt () t.succ = (dats m 0 c).owesAt () t.castSucc from rfl]
  rw [show (dats m 0 c).Φ t.succ = kept m c (t.val + 1) from rfl, show (dats m 0 c).Φ t.castSucc = kept m c t.val from rfl]
  rw [kept_pos m c (t.val + 1) (Nat.succ_ne_zero _), Nat.add_sub_cancel]
  by_cases ht : t.val = 0
  · have h0 := (at_first t).mpr ht
    have n1 : ¬k0_cond2 (grid0.coords t) = 1#1 := by rw [at_norm t]; omega
    have n2 : ¬k0_cond3 (grid0.coords t) = 1#1 := by rw [at_rope t]; omega
    have n3 : ¬k0_cond4 (grid0.coords t) = 1#1 := by rw [at_cast t]; omega
    have n4 : ¬k0_cond5 (grid0.coords t) = 1#1 := by rw [at_silu t]; omega
    have n5 : ¬k0_cond6 (grid0.coords t) = 1#1 := by rw [at_rope64 t]; omega
    have n6 : ¬k0_cond7 (grid0.coords t) = 1#1 := by rw [at_last t]; omega
    have e : prodPt t.val = t := Fin.ext (by unfold prodPt; simp only; omega)
    rw [Dat.leavesExact_idle (dats m 0 c) 7 t (idle_first t ht) (noFlush_first t ht)]
    rw [show kept m c t.val = Pipeline.ΦA spec0 c from by rw [ht]; rfl, entry_eq]
    unfold accAt; rw [e]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) acc (Memref.isWhole_whole _) (iblk m c 0 t) (iblk m c 1 t) (iblk m c 2 t) (iblk m c 3 t) (iblk m c 4 t) (iblk m c 5 t) (iblk m c 6 t) h0 n1 n2 n3 n4 n5 n6 Set.univ _)
    unfold Ins
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [HS]; · iexact HS
    iintro ⟨⟨H0, H1, H2, H3, H4, H5, H6⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [leaves_7 m c t ht, kept_pos m c t.val ht, ← accAt_next m c t ht]
    unfold outAt
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_point c t ht (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) acc (Memref.isWhole_whole _) (iblk m c 0 t) (iblk m c 1 t) (iblk m c 2 t) (iblk m c 3 t) (iblk m c 4 t) (iblk m c 5 t) (iblk m c 6 t) (accAt m c (t.val - 1)) Set.univ _)
    unfold Ins
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7 HS]
    · isplitl [H7]; · iexists _; iexact H7
      iexact HS
    iintro ⟨⟨H0, H1, H2, H3, H4, H5, H6⟩, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at a point's slots is the body there. -/
theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The region's end: what the accumulator holds is forgotten. -/
theorem leave (c : Dev nD) : (dats m 0 c).Φ (Fin.last cfg0.N) ⊢ Pipeline.ΦA spec0 c := by
  rw [show (dats m 0 c).Φ (Fin.last cfg0.N) = kept m c (Fin.last cfg0.N).val from rfl,
    kept_pos m c _ (by rw [Fin.val_last, show cfg0.N = 73 from N_0]; decide), entry_eq]
  iintro ⟨HS, Hg⟩
  isplitl [HS]
  · iexists _; iexact HS
  iexact Hg

/-! ## The run -/

set_option backward.isDefEq.respectTransparency.types false in
/-- @main runs to the end from any memory with zero counters: every array of the pipeline at what the proof data gives it,
    every other buffer as the region found it, every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dat_A m)
    (hin := fun c => Idealize.SL.BI.Entails.refl _) (hout := leave m)

theorem run : θ_run defs (onTc (τ := τ) (main (F := F))) (s₀ m ρ) (Pipeline.FramePost cfgs (dats m) 0 (V m)) :=
  (θ_run defs _ _).mono (fun _ h => h.1) (run_quiet m ρ)

/-- The argument arrays end unchanged and the counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dat_A m) (run m ρ)) ((θ_run defs _ _).mono (fun _ h => h.2) (run_quiet m ρ))

end Cert.KernelIdeal.Even

end
-- ==== Proof.Even.Slab.lean ====
/- What a point does to one slab of 128 columns, element by element over the extended reals. -/
module

public import proofs.«01_k».proof.Proof.Even.Cases
public import Idealize.ShloMosaic.Lib.Pointwise
public import Idealize.ShloMosaic.Lib.ValueIdx
public import Idealize.ShloMosaic.Lib.MatmulPlain
public import Idealize.ShloMosaic.Lib.KernelVsHost
public import Idealize.ShloMosaic.PureOps.Ideal.Laws

@[expose] public section

set_option maxRecDepth 16384

noncomputable section

namespace Cert.KernelIdeal.Even

open Cert.KernelIdeal Cert.KernelIdeal.Gen
open Idealize.ShloMosaic

/-- A row of a head divided by its root mean square. -/
def unitRow (x : Fin 128 → EReal) (l : Fin 128) : EReal :=
  x l * Ideal.rsqrt (Ideal.div (∑ k, x k * x k) (Ideal.ofBits .f32 0x43000000#32) + Ideal.ofBits .f32 0x358637BD#32)

/-- A row turned by a table of cosines and a table of signed sines, the other half brought in by a rotation of all 128 lanes. -/
def rope (v c s : Fin 128 → EReal) (l : Fin 128) : EReal :=
  v l * c l + v ⟨(l.val + 128 - 64) % 128, Nat.mod_lt _ (by decide)⟩ * s l

/-- The same for two rows of 64 lanes side by side: the other half of a lane's own row is 32 lanes to one side or the other. -/
def rope64 (v c s : Fin 128 → EReal) (l : Fin 128) : EReal :=
  v l * c l + (if l.val % 64 < 32 then v ⟨(l.val + 128 - 96) % 128, Nat.mod_lt _ (by decide)⟩
    else v ⟨(l.val + 128 - 32) % 128, Nat.mod_lt _ (by decide)⟩) * s l

/-- The angle at place `s` of the sequence and frequency `i`: `s / 10000 ^ (2 i / d)`, `d` given by its pattern. -/
def angle (d : BitVec 32) (s i : ℕ) : EReal :=
  FloatOps.sitofp (F := Ideal) FTy.f32 (BitVec.ofNat 32 s)
    * Ideal.div 1 (Ideal.pow (Ideal.ofBits .f32 0x461C4000#32)
        (Ideal.div (Ideal.ofBits .f32 0x40000000#32 * FloatOps.sitofp (F := Ideal) FTy.f32 (BitVec.ofNat 32 i)) (Ideal.ofBits .f32 d)))

/-- Cosines for rows of 128 lanes, the second half repeating the first, -/
def cosRow (s : ℕ) (l : Fin 128) : EReal :=
  if l.val < 64 then Ideal.cos (angle 0x43000000#32 s l.val) else Ideal.cos (angle 0x43000000#32 s (l.val - 64))
/-- and signed sines, negative in the first half. -/
def sinRow (s : ℕ) (l : Fin 128) : EReal :=
  if l.val < 64 then -Ideal.sin (angle 0x43000000#32 s l.val) else Ideal.sin (angle 0x43000000#32 s (l.val - 64))
/-- Cosines for two rows of 64 lanes side by side, -/
def cosRow64 (s : ℕ) (l : Fin 128) : EReal :=
  if l.val % 64 < 32 then Ideal.cos (angle 0x42800000#32 s (l.val % 64)) else Ideal.cos (angle 0x42800000#32 s (l.val % 64 - 32))
/-- and signed sines. -/
def sinRow64 (s : ℕ) (l : Fin 128) : EReal :=
  if l.val % 64 < 32 then -Ideal.sin (angle 0x42800000#32 s (l.val % 64)) else Ideal.sin (angle 0x42800000#32 s (l.val % 64 - 32))

/-- The query's scale, `128 ^ (-1/2) * log2 e` rounded. -/
def qscale : EReal := Ideal.ofBits .f32 0x3E0293EE#32

/-- The projection at row `r` of the activations and column `j` of the weight (zero past the last column). -/
def proj (x0 : (⟨2, ![8192, 2048]⟩ : Shape).Idx → EReal) (x1 : (⟨3, ![1, 2048, 9304]⟩ : Shape).Idx → EReal) (r : Fin 8192) (j : ℕ) : EReal :=
  if h : j < 9304 then ∑ k : Fin 2048, x0 (ix2 r k) * x1 (ix3 0 k ⟨j, h⟩) else 0

/-- The 128 columns of the projection from column `j` on. -/
def projRow (x0 : (⟨2, ![8192, 2048]⟩ : Shape).Idx → EReal) (x1 : (⟨3, ![1, 2048, 9304]⟩ : Shape).Idx → EReal) (r : Fin 8192) (j : ℕ)
    (l : Fin 128) : EReal := proj x0 x1 r (j + l.val)

/-- What the kernel hands on of one head's row of the projection at place `s` of its sequence, by the group `g` of columns the head
    is in: the sliding mixer's query, key, value and gate, the sparse mixer's, and the indexer's queries. -/
def finish (x2 x3 : Vec Ideal S1x2x128 .f32) (s g : ℕ) (v : Fin 128 → EReal) (l : Fin 128) : EReal :=
  if g = 0 then unitRow v l * (x2 (ix3 0 0 l) * qscale)
  else if g = 1 then unitRow v l * x2 (ix3 0 1 l)
  else if g = 4 then rope (fun k => unitRow v k * (x3 (ix3 0 0 k) * qscale)) (cosRow s) (sinRow s) l
  else if g = 5 then rope (fun k => unitRow v k * x3 (ix3 0 1 k)) (cosRow s) (sinRow s) l
  else if g = 2 ∨ g = 6 then v l
  else if g = 3 ∨ g = 7 then v l * Ideal.logistic (v l)
  else rope64 v (cosRow64 s) (sinRow64 s) l

/-- The first column of a group in the projection: from the fifth on, past the eight columns that are not handed on. -/
abbrev colOf (g : ℕ) : ℕ := g * 1024 + (g + 4) / 8 * 8

/-- A row of the result at column `j` of group `g`. -/
def outRow (x0 : Vec Ideal S8192x2048 .bf16) (x1 : Vec Ideal S1x2048x9304 .f32) (x2 x3 : Vec Ideal S1x2x128 .f32) (r : Fin 8192) (g : ℕ) (j : Fin 1024) : EReal :=
  finish x2 x3 (r.val % 2048) g (projRow x0 x1 r (colOf g + j.val / 128 * 128)) ⟨j.val % 128, Nat.mod_lt _ (by decide)⟩

/-- Which half of its row a lane is in, as the kernel tests it. -/
theorem half_test : ∀ l : Fin 128,
    IntOp.cmpi .eq (IntOp.andi (BitVec.ofNat 32 l.val) 32#32) 0#32 = if l.val % 64 < 32 then 1#1 else 0#1 := by
  decide +kernel

/-- The product: row `r` of the activations against row `c` of the weight block. -/
theorem accOf_apply (w : Vec Ideal S1024x2048 .f32) (x : Vec Ideal S1024x2048 .bf16) (r c : Fin 1024) :
    accOf (F := Ideal) w x (ix2 r c) = ∑ k : Fin 2048, (x (ix2 r k) : EReal) * w (ix2 c k) := by
  unfold accOf k0_pay69
  pointwise

theorem normF_apply (g : Vec Ideal S1x1x128 .f32) (a : Vec Ideal S1024x128 .f32) (r : Fin 1024) (l : Fin 128) :
    normF (F := Ideal) g a (ix2 r l) = unitRow (fun k => a (ix2 r k)) l * g (ix3 0 0 l) := by
  unfold normF k0_pay8
  pointwise
  rfl

theorem ropeF_apply (g : Vec Ideal S1x1x128 .f32) (c s : Vec Ideal S1024x128 .f32) (a : Vec Ideal S1024x128 .f32) (r : Fin 1024) (l : Fin 128) :
    ropeF (F := Ideal) g c s a (ix2 r l)
      = rope (fun k => unitRow (fun k => a (ix2 r k)) k * g (ix3 0 0 k)) (fun k => c (ix2 r k)) (fun k => s (ix2 r k)) l := by
  unfold ropeF k0_pay16
  pointwise
  rfl

theorem castF_apply (a : Vec Ideal S1024x128 .f32) (r : Fin 1024) (l : Fin 128) :
    castF (F := Ideal) a (ix2 r l) = a (ix2 r l) := rfl

theorem siluF_apply (a : Vec Ideal S1024x128 .f32) (r : Fin 1024) (l : Fin 128) :
    siluF (F := Ideal) a (ix2 r l) = (a (ix2 r l) : EReal) * Ideal.logistic (a (ix2 r l)) := rfl

theorem rope64F_apply (c s : Vec Ideal S1024x128 .f32) (a : Vec Ideal S1024x128 .f32) (r : Fin 1024) (l : Fin 128) :
    rope64F (F := Ideal) c s a (ix2 r l)
      = rope64 (fun k => a (ix2 r k)) (fun k => c (ix2 r k)) (fun k => s (ix2 r k)) l := by
  unfold rope64F k0_pay45
  pointwise
  rw [half_test]
  unfold rope64
  by_cases h : l.val % 64 < 32
  · rw [if_pos h, if_pos h]; rfl
  · rw [if_neg h, if_neg h]; rfl

end Cert.KernelIdeal.Even

end
-- ==== Proof.Even.Blocks.lean ====
/- The blocks the projection's windows hand the body at a grid point, read at an index from the arrays the region finds. -/
module

public import proofs.«01_k».proof.Proof.Even.Frame
public import proofs.«01_k».proof.Proof.Even.Slab

@[expose] public section

set_option maxRecDepth 16384

noncomputable section

namespace Cert.KernelIdeal.Even

open Cert.KernelIdeal Cert.KernelIdeal.Gen
open Idealize.ShloMosaic Idealize.ShloMosaic.TcCoe Idealize.SL.Sem

variable (m : (ℓ : Loc nD τ sig) → Buf (Elt Ideal) ℓ) (c : Dev nD)

/-! ## Where each window's block lies -/

theorem index_0 : ∀ t : Fin cfg0.N, cc0_transform_0 (grid0.coords t) 0 = min t.val 71 / 9 ∧ cc0_transform_0 (grid0.coords t) 1 = 0 :=
  (by decide +kernel : ∀ t : Fin grid0.N, cc0_transform_0 (grid0.coords t) 0 = min t.val 71 / 9 ∧ cc0_transform_0 (grid0.coords t) 1 = 0)
theorem index_1 : ∀ t : Fin cfg0.N, cc0_transform_1 (grid0.coords t) 0 = min t.val 71 % 9 * 1024 + (min t.val 71 % 9 + 4) / 8 * 8 ∧ cc0_transform_1 (grid0.coords t) 1 = 0 :=
  (by decide +kernel : ∀ t : Fin grid0.N, cc0_transform_1 (grid0.coords t) 0 = min t.val 71 % 9 * 1024 + (min t.val 71 % 9 + 4) / 8 * 8 ∧ cc0_transform_1 (grid0.coords t) 1 = 0)
theorem index_2 : ∀ t : Fin cfg0.N, cc0_transform_2 (grid0.coords t) 0 = 0 ∧ cc0_transform_2 (grid0.coords t) 1 = 0 ∧ cc0_transform_2 (grid0.coords t) 2 = 0 :=
  (by decide +kernel : ∀ t : Fin grid0.N, cc0_transform_2 (grid0.coords t) 0 = 0 ∧ cc0_transform_2 (grid0.coords t) 1 = 0 ∧ cc0_transform_2 (grid0.coords t) 2 = 0)
theorem index_3 : ∀ t : Fin cfg0.N, cc0_transform_3 (grid0.coords t) 0 = (t.val - 1) / 9 % 2 ∧ cc0_transform_3 (grid0.coords t) 1 = 0 :=
  (by decide +kernel : ∀ t : Fin grid0.N, cc0_transform_3 (grid0.coords t) 0 = (t.val - 1) / 9 % 2 ∧ cc0_transform_3 (grid0.coords t) 1 = 0)
theorem index_4 : ∀ t : Fin cfg0.N, cc0_transform_4 (grid0.coords t) 0 = (t.val - 1) / 9 % 2 ∧ cc0_transform_4 (grid0.coords t) 1 = 0 :=
  (by decide +kernel : ∀ t : Fin grid0.N, cc0_transform_4 (grid0.coords t) 0 = (t.val - 1) / 9 % 2 ∧ cc0_transform_4 (grid0.coords t) 1 = 0)
theorem index_5 : ∀ t : Fin cfg0.N, cc0_transform_5 (grid0.coords t) 0 = (t.val - 1) / 9 % 2 ∧ cc0_transform_5 (grid0.coords t) 1 = 0 :=
  (by decide +kernel : ∀ t : Fin grid0.N, cc0_transform_5 (grid0.coords t) 0 = (t.val - 1) / 9 % 2 ∧ cc0_transform_5 (grid0.coords t) 1 = 0)
theorem index_6 : ∀ t : Fin cfg0.N, cc0_transform_6 (grid0.coords t) 0 = (t.val - 1) / 9 % 2 ∧ cc0_transform_6 (grid0.coords t) 1 = 0 :=
  (by decide +kernel : ∀ t : Fin grid0.N, cc0_transform_6 (grid0.coords t) 0 = (t.val - 1) / 9 % 2 ∧ cc0_transform_6 (grid0.coords t) 1 = 0)
theorem index_7 : ∀ t : Fin cfg0.N, cc0_transform_7 (grid0.coords t) 0 = (t.val - 1) / 9 ∧ cc0_transform_7 (grid0.coords t) 1 = (t.val - 1) % 9 :=
  (by decide +kernel : ∀ t : Fin grid0.N, cc0_transform_7 (grid0.coords t) 0 = (t.val - 1) / 9 ∧ cc0_transform_7 (grid0.coords t) 1 = (t.val - 1) % 9)

/-- The row of the stack a norm point reads -/
theorem off_norm : ∀ t : Fin cfg0.N, k0_cond2 (grid0.coords t) = 1#1 → k0_off1 (grid0.coords t) 0 = (t.val + 8) % 9 ∧ k0_off1 (grid0.coords t) 1 = 0 ∧ k0_off1 (grid0.coords t) 2 = 0 :=
  (by decide +kernel : ∀ t : Fin grid0.N, k0_cond2 (grid0.coords t) = 1#1 → k0_off1 (grid0.coords t) 0 = (t.val + 8) % 9 ∧ k0_off1 (grid0.coords t) 1 = 0 ∧ k0_off1 (grid0.coords t) 2 = 0)
/-- and a norm-and-rotate point. -/
theorem off_rope : ∀ t : Fin cfg0.N, k0_cond3 (grid0.coords t) = 1#1 → k0_off2 (grid0.coords t) 0 = (t.val + 8) % 9 ∧ k0_off2 (grid0.coords t) 1 = 0 ∧ k0_off2 (grid0.coords t) 2 = 0 :=
  (by decide +kernel : ∀ t : Fin grid0.N, k0_cond3 (grid0.coords t) = 1#1 → k0_off2 (grid0.coords t) 0 = (t.val + 8) % 9 ∧ k0_off2 (grid0.coords t) 1 = 0 ∧ k0_off2 (grid0.coords t) 2 = 0)

/-! ## What it holds -/

/-- The activations' rows. -/
theorem blk_0 (n : ℕ) (hn : n < 72) (a : Fin 1024) (k : Fin 2048) :
    iblk m c 0 (prodPt n) (ix2 a k) = V m c main_arg0 (ix2 ⟨n / 9 * 1024 + a.val, by omega⟩ k) := by
  obtain ⟨e0, e1⟩ := index_0 (prodPt n)
  show V m c main_arg0 (((cfg0.win 0).rect (prodPt n)).emb (ix2 a k)) = _
  congr 1
  have e : (prodPt n).val = n := by show min n 71 = n; omega
  rw [e] at e0
  funext b
  match b with
  | ⟨0, _⟩ =>
    apply Fin.ext
    show cc0_transform_0 (grid0.coords (prodPt n)) 0 * 1024 + 1 * a.val = n / 9 * 1024 + a.val
    rw [e0]; omega
  | ⟨1, _⟩ =>
    apply Fin.ext
    show cc0_transform_0 (grid0.coords (prodPt n)) 1 * 2048 + 1 * k.val = k.val
    rw [e1]; omega

/-- The transposed weight's rows, from the group's first column on. -/
theorem blk_1 (n : ℕ) (hn : n < 72) (r : Fin 1024) (k : Fin 2048) :
    iblk m c 1 (prodPt n) (ix2 r k) = V m c main_v59 (ix2 ⟨n % 9 * 1024 + (n % 9 + 4) / 8 * 8 + r.val, by omega⟩ k) := by
  obtain ⟨e0, e1⟩ := index_1 (prodPt n)
  show V m c main_v59 (((cfg0.win 1).rect (prodPt n)).emb (ix2 r k)) = _
  congr 1
  have e : (prodPt n).val = n := by show min n 71 = n; omega
  rw [e, show min n 71 = n by omega] at e0
  funext b
  match b with
  | ⟨0, _⟩ =>
    apply Fin.ext
    show cc0_transform_1 (grid0.coords (prodPt n)) 0 + 1 * r.val = n % 9 * 1024 + (n % 9 + 4) / 8 * 8 + r.val
    rw [e0]; omega
  | ⟨1, _⟩ =>
    apply Fin.ext
    show cc0_transform_1 (grid0.coords (prodPt n)) 1 + 1 * k.val = k.val
    rw [e1]; omega

/-- The stack of gains, whole. -/
theorem blk_2 (t : Fin cfg0.N) (g : Fin 9) (l : Fin 128) :
    iblk m c 2 t (ix3 g 0 l) = V m c main_v83 (ix3 g 0 l) := by
  obtain ⟨e0, e1, e2⟩ := index_2 t
  show V m c main_v83 (((cfg0.win 2).rect t).emb (ix3 g 0 l)) = _
  congr 1
  funext b
  match b with
  | ⟨0, _⟩ => apply Fin.ext; show cc0_transform_2 (grid0.coords t) 0 * 9 + 1 * g.val = g.val; rw [e0]; omega
  | ⟨1, _⟩ => apply Fin.ext; show cc0_transform_2 (grid0.coords t) 1 * 1 + 1 * 0 = 0; rw [e1]
  | ⟨2, _⟩ => apply Fin.ext; show cc0_transform_2 (grid0.coords t) 2 * 128 + 1 * l.val = l.val; rw [e2]; omega

/-- The row of the tables that row `a` of point `t` turns by. -/
abbrev tabRow (t : Fin cfg0.N) (a : Fin 1024) : Fin 2048 := ⟨(t.val - 1) / 9 % 2 * 1024 + a.val, by omega⟩

/-- A table's block is its rows from the point's place in the sequence on. -/
theorem tab_emb (t : Fin cfg0.N) (a : Fin 1024) (l : Fin 128) (f : Fin 2 → ℕ) (hf : ∀ b, f b + S1024x128.size b ≤ S2048x128.size b)
    (h0 : f 0 = (t.val - 1) / 9 % 2 * 1024) (h1 : f 1 = 0) :
    (Rect.unit (s := S2048x128) f S1024x128.size hf).emb (ix2 a l) = ix2 (tabRow t a) l := by
  funext b
  match b with
  | ⟨0, _⟩ => apply Fin.ext; show f 0 + 1 * a.val = (t.val - 1) / 9 % 2 * 1024 + a.val; rw [h0]; omega
  | ⟨1, _⟩ => apply Fin.ext; show f 1 + 1 * l.val = l.val; rw [h1]; omega

theorem blk_3 (t : Fin cfg0.N) (a : Fin 1024) (l : Fin 128) : iblk m c 3 t (ix2 a l) = V m c main_v24 (ix2 (tabRow t a) l) := by
  obtain ⟨e0, e1⟩ := index_3 t
  show V m c main_v24 (((cfg0.win 3).rect t).emb (ix2 a l)) = _
  refine congrArg (V m c main_v24) (tab_emb t a l _ _ ?_ ?_)
  · show cc0_transform_3 (grid0.coords t) 0 * 1024 = _; rw [e0]
  · show cc0_transform_3 (grid0.coords t) 1 * 128 = _; rw [e1]
theorem blk_4 (t : Fin cfg0.N) (a : Fin 1024) (l : Fin 128) : iblk m c 4 t (ix2 a l) = V m c main_v29 (ix2 (tabRow t a) l) := by
  obtain ⟨e0, e1⟩ := index_4 t
  show V m c main_v29 (((cfg0.win 4).rect t).emb (ix2 a l)) = _
  refine congrArg (V m c main_v29) (tab_emb t a l _ _ ?_ ?_)
  · show cc0_transform_4 (grid0.coords t) 0 * 1024 = _; rw [e0]
  · show cc0_transform_4 (grid0.coords t) 1 * 128 = _; rw [e1]
theorem blk_5 (t : Fin cfg0.N) (a : Fin 1024) (l : Fin 128) : iblk m c 5 t (ix2 a l) = V m c main_v52 (ix2 (tabRow t a) l) := by
  obtain ⟨e0, e1⟩ := index_5 t
  show V m c main_v52 (((cfg0.win 5).rect t).emb (ix2 a l)) = _
  refine congrArg (V m c main_v52) (tab_emb t a l _ _ ?_ ?_)
  · show cc0_transform_5 (grid0.coords t) 0 * 1024 = _; rw [e0]
  · show cc0_transform_5 (grid0.coords t) 1 * 128 = _; rw [e1]
theorem blk_6 (t : Fin cfg0.N) (a : Fin 1024) (l : Fin 128) : iblk m c 6 t (ix2 a l) = V m c main_v57 (ix2 (tabRow t a) l) := by
  obtain ⟨e0, e1⟩ := index_6 t
  show V m c main_v57 (((cfg0.win 6).rect t).emb (ix2 a l)) = _
  refine congrArg (V m c main_v57) (tab_emb t a l _ _ ?_ ?_)
  · show cc0_transform_6 (grid0.coords t) 0 * 1024 = _; rw [e0]
  · show cc0_transform_6 (grid0.coords t) 1 * 128 = _; rw [e1]

/-- The gain row a norm point reads from the stack, -/
theorem gainN_apply (t : Fin cfg0.N) (h : k0_cond2 (grid0.coords t) = 1#1) (g : Vec Ideal S9x1x128 .f32) (l : Fin 128) :
    gainN (grid0.coords t) h g (ix3 0 0 l) = g (ix3 ⟨(t.val + 8) % 9, Nat.mod_lt _ (by decide)⟩ 0 l) := by
  obtain ⟨e0, e1, e2⟩ := off_norm t h
  show g ((Rect.unit (s := S9x1x128) (k0_off1 (grid0.coords t)) S1x1x128.size (k0_off1_inb _ h)).idx (ix3 0 0 l)) = _
  refine congrArg g ?_
  funext b
  match b with
  | ⟨0, _⟩ => apply Fin.ext; show k0_off1 (grid0.coords t) 0 + 1 * 0 = _; rw [e0]; rfl
  | ⟨1, _⟩ => apply Fin.ext; show k0_off1 (grid0.coords t) 1 + 1 * 0 = _; rw [e1]; rfl
  | ⟨2, _⟩ => apply Fin.ext; show k0_off1 (grid0.coords t) 2 + 1 * l.val = _; rw [e2]; show 0 + 1 * l.val = l.val; omega

/-- and a norm-and-rotate point. -/
theorem gainR_apply (t : Fin cfg0.N) (h : k0_cond3 (grid0.coords t) = 1#1) (g : Vec Ideal S9x1x128 .f32) (l : Fin 128) :
    gainR (grid0.coords t) h g (ix3 0 0 l) = g (ix3 ⟨(t.val + 8) % 9, Nat.mod_lt _ (by decide)⟩ 0 l) := by
  obtain ⟨e0, e1, e2⟩ := off_rope t h
  show g ((Rect.unit (s := S9x1x128) (k0_off2 (grid0.coords t)) S1x1x128.size (k0_off2_inb _ h)).idx (ix3 0 0 l)) = _
  refine congrArg g ?_
  funext b
  match b with
  | ⟨0, _⟩ => apply Fin.ext; show k0_off2 (grid0.coords t) 0 + 1 * 0 = _; rw [e0]; rfl
  | ⟨1, _⟩ => apply Fin.ext; show k0_off2 (grid0.coords t) 1 + 1 * 0 = _; rw [e1]; rfl
  | ⟨2, _⟩ => apply Fin.ext; show k0_off2 (grid0.coords t) 2 + 1 * l.val = _; rw [e2]; show 0 + 1 * l.val = l.val; omega

end Cert.KernelIdeal.Even

end
-- ==== Proof.Even.Host.lean ====
/- What the host's preparation leaves in the arrays the pipeline reads, element by element. -/
module

public import proofs.«01_k».proof.Proof.Even.Frame
public import proofs.«01_k».proof.Proof.Even.Slab

@[expose] public section

set_option maxRecDepth 16384

noncomputable section

namespace Cert.KernelIdeal.Even

open Cert.KernelIdeal Cert.KernelIdeal.Gen
open Idealize.ShloMosaic Idealize.ShloMosaic.TcCoe

variable (m : (ℓ : Loc nD τ sig) → Buf (Elt Ideal) ℓ) (c : Dev nD)

/-- The weight, rows and columns exchanged. -/
theorem wt_apply (r : Fin 9304) (k : Fin 2048) :
    V m c main_v59 (ix2 r k) = m ((c.tc : Thread nD τ).loc main_arg1) (ix3 0 k r) := by
  entry_read
  pointwise

theorem cos128_apply (s : Fin 2048) (l : Fin 128) :
    V m c main_v24 (ix2 s l) = cosRow s.val l := by
  entry_read
  pointwise
  rfl

theorem sin128_apply (s : Fin 2048) (l : Fin 128) :
    V m c main_v29 (ix2 s l) = sinRow s.val l := by
  entry_read
  pointwise
  rfl

theorem cos64_apply (s : Fin 2048) (l : Fin 128) :
    V m c main_v52 (ix2 s l) = cosRow64 s.val l := by
  entry_read
  pointwise
  rfl

theorem sin64_apply (s : Fin 2048) (l : Fin 128) :
    V m c main_v57 (ix2 s l) = sinRow64 s.val l := by
  entry_read
  pointwise
  rfl

end Cert.KernelIdeal.Even

end
-- ==== Proof.Even.Gains.lean ====
/- The gains, as the host stacks them: one row for each group of columns. -/
module

public import proofs.«01_k».proof.Proof.Even.Frame
public import proofs.«01_k».proof.Proof.Even.Slab

@[expose] public section

set_option maxRecDepth 16384

noncomputable section

namespace Cert.KernelIdeal.Even

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The host's last two operations: nine rows stacked, an axis put between. -/
abbrev stackOps : List (HloOp τ sig (Elt Ideal)) :=
  [ StableHlo.nary ![main_v73, main_v74, main_v75, main_v76, main_v77, main_v78, main_v79, main_v80, main_v81] main_v82 (fun u => (concatenate S9x128 0 [⟨S1x128, (u 0 : (⟨S1x128, .f32⟩ : BufTy).Contents (Elt Ideal))⟩, ⟨S1x128, (u 1 : (⟨S1x128, .f32⟩ : BufTy).Contents (Elt Ideal))⟩, ⟨S1x128, (u 2 : (⟨S1x128, .f32⟩ : BufTy).Contents (Elt Ideal))⟩, ⟨S1x128, (u 3 : (⟨S1x128, .f32⟩ : BufTy).Contents (Elt Ideal))⟩, ⟨S1x128, (u 4 : (⟨S1x128, .f32⟩ : BufTy).Contents (Elt Ideal))⟩, ⟨S1x128, (u 5 : (⟨S1x128, .f32⟩ : BufTy).Contents (Elt Ideal))⟩, ⟨S1x128, (u 6 : (⟨S1x128, .f32⟩ : BufTy).Contents (Elt Ideal))⟩, ⟨S1x128, (u 7 : (⟨S1x128, .f32⟩ : BufTy).Contents (Elt Ideal))⟩, ⟨S1x128, (u 8 : (⟨S1x128, .f32⟩ : BufTy).Contents (Elt Ideal))⟩] concatenates_S1x128_S1x128_S1x128_S1x128_S1x128_S1x128_S1x128_S1x128_S1x128_S9x128_d0 : (⟨S9x128, .f32⟩ : BufTy).Contents (Elt Ideal))),
    StableHlo.reshape main_v82 main_v83 (rfl : (.f32 : EltTy) = .f32) shapeCasts_S9x128_S9x1x128 ]

/-- They leave the nine rows as they were, -/
theorem after_stack_row (W : Valuation τ sig (Elt Ideal)) (r : Ref sig .tc) (h2 : r ≠ main_v82) (h3 : r ≠ main_v83) :
    StableHlo.after stackOps W (Proc.devRef .tc r) = W (Proc.devRef .tc r) := by
  rw [StableHlo.after_cons, StableHlo.after_cons, StableHlo.after_nil]
  rw [StableHlo.reshape_result_ne _ _ _ _ _ _ _ h3, StableHlo.nary_result_ne _ _ _ _ _ _ h2]

/-- and the stack in the array the pipeline reads. -/
theorem after_stack (W : Valuation τ sig (Elt Ideal)) :
    StableHlo.after stackOps W (Proc.devRef .tc main_v83)
      = shapeCast S9x1x128 (concatenate S9x128 0 [⟨S1x128, (W (Proc.devRef .tc main_v73) : Vec Ideal S1x128 .f32)⟩, ⟨S1x128, (W (Proc.devRef .tc main_v74) : Vec Ideal S1x128 .f32)⟩, ⟨S1x128, (W (Proc.devRef .tc main_v75) : Vec Ideal S1x128 .f32)⟩, ⟨S1x128, (W (Proc.devRef .tc main_v76) : Vec Ideal S1x128 .f32)⟩, ⟨S1x128, (W (Proc.devRef .tc main_v77) : Vec Ideal S1x128 .f32)⟩, ⟨S1x128, (W (Proc.devRef .tc main_v78) : Vec Ideal S1x128 .f32)⟩, ⟨S1x128, (W (Proc.devRef .tc main_v79) : Vec Ideal S1x128 .f32)⟩, ⟨S1x128, (W (Proc.devRef .tc main_v80) : Vec Ideal S1x128 .f32)⟩, ⟨S1x128, (W (Proc.devRef .tc main_v81) : Vec Ideal S1x128 .f32)⟩]
          concatenates_S1x128_S1x128_S1x128_S1x128_S1x128_S1x128_S1x128_S1x128_S1x128_S9x128_d0) shapeCasts_S9x128_S9x1x128 := by
  after_results_simp
  rfl

/-- Everything before them. -/
abbrev before (c : Dev nD) : Valuation τ sig (Elt Ideal) := StableHlo.after (hostOps0.take 95) (fun b => m (c, b))

theorem V_split (b : Ref sig .tc) : V m c b = StableHlo.after stackOps (before m c) (Proc.devRef .tc b) := by
  show StableHlo.after hostOps0 (fun b => m (c, b)) (Proc.devRef .tc b) = _
  rw [show (hostOps0 : List (HloOp τ sig (Elt Ideal))) = hostOps0.take 95 ++ stackOps from rfl, StableHlo.after_append]

theorem before_row (b : Ref sig .tc) (h2 : b ≠ main_v82) (h3 : b ≠ main_v83) : before m c (Proc.devRef .tc b) = V m c b := by
  rw [V_split m c b, after_stack_row _ b h2 h3]

/-- The stack, its rows as the region finds them. -/
theorem stack_eq : V m c main_v83
      = shapeCast S9x1x128 (concatenate S9x128 0 [⟨S1x128, (V m c main_v73 : Vec Ideal S1x128 .f32)⟩, ⟨S1x128, (V m c main_v74 : Vec Ideal S1x128 .f32)⟩, ⟨S1x128, (V m c main_v75 : Vec Ideal S1x128 .f32)⟩, ⟨S1x128, (V m c main_v76 : Vec Ideal S1x128 .f32)⟩, ⟨S1x128, (V m c main_v77 : Vec Ideal S1x128 .f32)⟩, ⟨S1x128, (V m c main_v78 : Vec Ideal S1x128 .f32)⟩, ⟨S1x128, (V m c main_v79 : Vec Ideal S1x128 .f32)⟩, ⟨S1x128, (V m c main_v80 : Vec Ideal S1x128 .f32)⟩, ⟨S1x128, (V m c main_v81 : Vec Ideal S1x128 .f32)⟩]
          concatenates_S1x128_S1x128_S1x128_S1x128_S1x128_S1x128_S1x128_S1x128_S1x128_S9x128_d0) shapeCasts_S9x128_S9x1x128 := by
  rw [V_split m c main_v83, after_stack]
  rw [before_row m c main_v73 (by decide) (by decide), before_row m c main_v74 (by decide) (by decide), before_row m c main_v75 (by decide) (by decide), before_row m c main_v76 (by decide) (by decide), before_row m c main_v77 (by decide) (by decide), before_row m c main_v78 (by decide) (by decide), before_row m c main_v79 (by decide) (by decide), before_row m c main_v80 (by decide) (by decide), before_row m c main_v81 (by decide) (by decide)]

/-- The first group's gain: the queries', scaled; -/
theorem gain0_apply (l : Fin 128) :
    V m c main_v83 (ix3 0 0 l) = HMul.hMul (α := EReal) (β := EReal) (m ((c.tc : Thread nD τ).loc main_arg2) (ix3 0 0 l)) qscale := by
  rw [stack_eq]
  pointwise
  entry_read
  pointwise
  rfl

/-- the second's: the keys'; -/
theorem gain1_apply (l : Fin 128) :
    V m c main_v83 (ix3 1 0 l) = m ((c.tc : Thread nD τ).loc main_arg2) (ix3 0 1 l) := by
  rw [stack_eq]
  pointwise
  entry_read
  pointwise

/-- the fifth's -/
theorem gain4_apply (l : Fin 128) :
    V m c main_v83 (ix3 4 0 l) = HMul.hMul (α := EReal) (β := EReal) (m ((c.tc : Thread nD τ).loc main_arg3) (ix3 0 0 l)) qscale := by
  rw [stack_eq]
  pointwise
  entry_read
  pointwise
  rfl

/-- and the sixth's. -/
theorem gain5_apply (l : Fin 128) :
    V m c main_v83 (ix3 5 0 l) = m ((c.tc : Thread nD τ).loc main_arg3) (ix3 0 1 l) := by
  rw [stack_eq]
  pointwise
  entry_read
  pointwise

end Cert.KernelIdeal.Even

end
-- ==== Proof.Even.Value.lean ====
/- What the pipeline leaves in its output array, element by element: block by block, each point's slabs finished from the
   product the point before it left. -/
module

public import proofs.«01_k».proof.Proof.Even.Blocks
public import proofs.«01_k».proof.Proof.Even.Host
public import proofs.«01_k».proof.Proof.Even.Gains

@[expose] public section

set_option maxRecDepth 16384

noncomputable section

namespace Cert.KernelIdeal.Even

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The arguments as launched. -/
abbrev a0 : Vec Ideal S8192x2048 .bf16 := m ((c.tc : Thread nD τ).loc main_arg0)
abbrev a1 : Vec Ideal S1x2048x9304 .f32 := m ((c.tc : Thread nD τ).loc main_arg1)
abbrev a2 : Vec Ideal S1x2x128 .f32 := m ((c.tc : Thread nD τ).loc main_arg2)
abbrev a3 : Vec Ideal S1x2x128 .f32 := m ((c.tc : Thread nD τ).loc main_arg3)

/-! ## The product -/

/-- The accumulator after point `n` is the projection, at the point's rows and its group's columns. -/
theorem accAt_apply (n : ℕ) (hn : n < 72) (a j : Fin 1024) :
    accAt m c n (ix2 a j) = proj (a0 m c) (a1 m c) ⟨n / 9 * 1024 + a.val, by omega⟩ (colOf (n % 9) + j.val) := by
  unfold accAt proj
  rw [accOf_apply, dif_pos (show colOf (n % 9) + j.val < 9304 by unfold colOf; omega)]
  refine Finset.sum_congr rfl fun k _ => ?_
  rw [blk_0 m c n hn, blk_1 m c n hn, V_main_arg0, wt_apply]

/-- A slab's row. -/
theorem slab_apply (X : Vec Ideal S1024x1024 .f32) (k : Fin 8) (a : Fin 1024) (l : Fin 128) :
    slab X k (ix2 a l) = X (ix2 a ⟨128 * k.val + l.val, by omega⟩) := by
  show X ((slabRect k).idx (ix2 a l)) = _
  refine congrArg X ?_
  funext b
  match b with
  | ⟨0, _⟩ => apply Fin.ext; show 0 + 1 * a.val = a.val; omega
  | ⟨1, _⟩ => apply Fin.ext; show 128 * k.val + 1 * l.val = 128 * k.val + l.val; omega

theorem lanes_apply (f : Vec Ideal S1024x128 .f32 → Vec Ideal S1024x128 .bf16) (X : Vec Ideal S1024x1024 .f32) (a j : Fin 1024) :
    lanes f X (ix2 a j) = f (slab X ⟨j.val / 128, by omega⟩) (ix2 a ⟨j.val % 128, Nat.mod_lt _ (by decide)⟩) := by
  unfold lanes
  refine congrArg (f (slab X ⟨j.val / 128, by omega⟩)) ?_
  funext b
  match b with
  | ⟨0, _⟩ => rfl
  | ⟨1, _⟩ => rfl

/-- A head's row of the projection, as its slab of the accumulator holds it. -/
theorem slab_row (n : ℕ) (hn : n < 72) (a j : Fin 1024) :
    (fun k => slab (accAt m c n) ⟨j.val / 128, by omega⟩ (ix2 a k))
      = projRow (a0 m c) (a1 m c) ⟨n / 9 * 1024 + a.val, by omega⟩ (colOf (n % 9) + j.val / 128 * 128) := by
  funext k
  rw [slab_apply, accAt_apply m c n hn]
  unfold projRow
  congr 1
  show colOf (n % 9) + (128 * (j.val / 128) + k.val) = colOf (n % 9) + j.val / 128 * 128 + k.val
  omega

/-! ## The finish -/

/-- A row of the gains, by its group. -/
theorem gain_eq (g g' : Fin 9) (h : g = g') (l : Fin 128) : V m c main_v83 (ix3 g 0 l) = V m c main_v83 (ix3 g' 0 l) := by rw [h]

/-- What point `t` does to one row of a slab. -/
theorem lane_apply (t : Fin cfg0.N) (ht : t.val ≠ 0) (X : Vec Ideal S1024x128 .f32) (a : Fin 1024) (l : Fin 128) :
    lane (grid0.coords t) (iblk m c 2 t) (iblk m c 3 t) (iblk m c 4 t) (iblk m c 5 t) (iblk m c 6 t) X (ix2 a l)
      = finish (a2 m c) (a3 m c) (tabRow t a).val ((t.val - 1) % 9) (fun k => X (ix2 a k)) l := by
  have e : (t.val + 8) % 9 = (t.val - 1) % 9 := by omega
  have h1 := at_norm t
  have h2 := at_rope t
  have h3 := at_cast t
  have h4 := at_silu t
  rw [e] at h1 h2 h3 h4
  have hc : (fun k => iblk m c 3 t (ix2 a k)) = cosRow (tabRow t a).val := funext fun k => by rw [blk_3, cos128_apply]
  have hs : (fun k => iblk m c 4 t (ix2 a k)) = sinRow (tabRow t a).val := funext fun k => by rw [blk_4, sin128_apply]
  have hc' : (fun k => iblk m c 5 t (ix2 a k)) = cosRow64 (tabRow t a).val := funext fun k => by rw [blk_5, cos64_apply]
  have hs' : (fun k => iblk m c 6 t (ix2 a k)) = sinRow64 (tabRow t a).val := funext fun k => by rw [blk_6, sin64_apply]
  unfold lane finish
  by_cases c1 : k0_cond2 (grid0.coords t) = 1#1
  · rw [dif_pos c1, normF_apply, gainN_apply, blk_2]
    rcases h1.mp c1 with q | q
    · rw [if_pos q, gain_eq m c _ 0 (Fin.ext (e.trans q)), gain0_apply]
    · rw [if_neg (show ¬(t.val - 1) % 9 = 0 by omega), if_pos q, gain_eq m c _ 1 (Fin.ext (e.trans q)), gain1_apply]
  have q1 : ¬((t.val - 1) % 9 = 0 ∨ (t.val - 1) % 9 = 1) := fun h => c1 (h1.mpr h)
  rw [dif_neg c1, if_neg (show ¬(t.val - 1) % 9 = 0 by omega), if_neg (show ¬(t.val - 1) % 9 = 1 by omega)]
  by_cases c2 : k0_cond3 (grid0.coords t) = 1#1
  · rw [dif_pos c2, ropeF_apply, hc, hs]
    rcases h2.mp c2 with q | q
    · rw [if_pos q]
      simp only [gainR_apply, blk_2, gain_eq m c ⟨(t.val + 8) % 9, Nat.mod_lt _ (by decide)⟩ 4 (Fin.ext (e.trans q))]
      exact congrArg (fun g : Fin 128 → EReal => rope (fun k => unitRow (fun k => X (ix2 a k)) k * g k) _ _ l) (funext (gain4_apply m c))
    · rw [if_neg (show ¬(t.val - 1) % 9 = 4 by omega), if_pos q]
      simp only [gainR_apply, blk_2, gain_eq m c ⟨(t.val + 8) % 9, Nat.mod_lt _ (by decide)⟩ 5 (Fin.ext (e.trans q))]
      exact congrArg (fun g : Fin 128 → EReal => rope (fun k => unitRow (fun k => X (ix2 a k)) k * g k) _ _ l) (funext (gain5_apply m c))
  have q2 : ¬((t.val - 1) % 9 = 4 ∨ (t.val - 1) % 9 = 5) := fun h => c2 (h2.mpr h)
  rw [dif_neg c2, if_neg (show ¬(t.val - 1) % 9 = 4 by omega), if_neg (show ¬(t.val - 1) % 9 = 5 by omega)]
  by_cases c3 : k0_cond4 (grid0.coords t) = 1#1
  · rw [if_pos c3, if_pos (h3.mp c3), castF_apply]
  rw [if_neg c3, if_neg fun h => c3 (h3.mpr h)]
  by_cases c4 : k0_cond5 (grid0.coords t) = 1#1
  · rw [if_pos c4, if_pos (h4.mp c4), siluF_apply]
  rw [if_neg c4, if_neg fun h => c4 (h4.mpr h), rope64F_apply, hc', hs']

/-- The block a point writes back. -/
theorem outAt_apply (t : Fin cfg0.N) (ht : t.val ≠ 0) (a j : Fin 1024) :
    outAt m c t (ix2 a j)
      = outRow (a0 m c) (a1 m c) (a2 m c) (a3 m c) ⟨(t.val - 1) / 9 * 1024 + a.val, by have := lt_of_lt_of_eq t.isLt N_0; omega⟩ ((t.val - 1) % 9) j := by
  have hN : t.val < 73 := lt_of_lt_of_eq t.isLt N_0
  unfold outAt outRow
  rw [lanes_apply, lane_apply m c t ht, slab_row m c (t.val - 1) (by omega),
    show (tabRow t a).val = ((t.val - 1) / 9 * 1024 + a.val) % 2048 by show (t.val - 1) / 9 % 2 * 1024 + a.val = _; omega]

/-! ## The array -/

/-- The output array: row `r`, column `q`. -/
def result : Vec Ideal S8192x9216 .bf16 := fun i =>
  outRow (a0 m c) (a1 m c) (a2 m c) (a3 m c) (i 0) ((i 1).val / 1024) ⟨(i 1).val % 1024, Nat.mod_lt _ (by decide)⟩

theorem flush_7 : ∀ t : Fin cfg0.N, (cfg0.win 7).flush t = true ↔ t.val ≠ 0 :=
  (by decide +kernel : ∀ t : Fin grid0.N, win0_7.flush t = true ↔ t.val ≠ 0)

/-- Where a block's element sits in the array. -/
theorem emb_7 (t : Fin cfg0.N) (a j : Fin 1024) :
    ((cfg0.win 7).rect t).emb (ix2 a j)
      = (ix2 ⟨(t.val - 1) / 9 * 1024 + a.val, by have := lt_of_lt_of_eq t.isLt N_0; omega⟩ ⟨(t.val - 1) % 9 * 1024 + j.val, by omega⟩ : S8192x9216.Idx) := by
  obtain ⟨e0, e1⟩ := index_7 t
  funext b
  match b with
  | ⟨0, _⟩ => apply Fin.ext; show cc0_transform_7 (grid0.coords t) 0 * 1024 + 1 * a.val = (t.val - 1) / 9 * 1024 + a.val; rw [e0]; omega
  | ⟨1, _⟩ => apply Fin.ext; show cc0_transform_7 (grid0.coords t) 1 * 1024 + 1 * j.val = (t.val - 1) % 9 * 1024 + j.val; rw [e1]; omega

theorem result_block (t : Fin cfg0.N) (ht : t.val ≠ 0) (a j : Fin 1024) :
    outAt m c t (ix2 a j) = result m c (((cfg0.win 7).rect t).emb (ix2 a j)) := by
  rw [outAt_apply m c t ht, emb_7]
  unfold result
  have e1 : ((t.val - 1) % 9 * 1024 + j.val) / 1024 = (t.val - 1) % 9 := by omega
  have e2 : ((t.val - 1) % 9 * 1024 + j.val) % 1024 = j.val := by omega
  show _ = outRow _ _ _ _ _ (((t.val - 1) % 9 * 1024 + j.val) / 1024) ⟨((t.val - 1) % 9 * 1024 + j.val) % 1024, _⟩
  rw [e1, show (⟨((t.val - 1) % 9 * 1024 + j.val) % 1024, Nat.mod_lt _ (by decide)⟩ : Fin 1024) = j from Fin.ext e2]
  rfl

theorem final : (dats m 0 c).arrAt 7 cfg0.N = result m c := by
  refine Pipeline.Dat.arrAt_eq_of_cover (dats m 0 c) 7 (result m c) (fun t hf => ?_) (fun i => ?_)
  · have ht := (flush_7 t).mp hf
    show (cfg0.win 7).cut (grid0.coords t) ((dats m 0 c).after 7 t) = _
    rw [after_7]
    funext y
    have hy : (y : S1024x1024.Idx) = ix2 (y 0) (y 1) := by
      funext b
      match b with
      | ⟨0, _⟩ => rfl
      | ⟨1, _⟩ => rfl
    show outAt m c t y = result m c (((cfg0.win 7).rect t).emb y)
    rw [hy]
    exact result_block m c t ht (y 0) (y 1)
  · have h0 : (i 0).val < 8192 := (i 0).isLt
    have h1 : (i 1).val < 9216 := (i 1).isLt
    have hN : (i 0).val / 1024 * 9 + (i 1).val / 1024 + 1 < cfg0.N := by rw [show cfg0.N = 73 from N_0]; omega
    refine ⟨⟨_, hN⟩, (flush_7 _).mpr (Nat.succ_ne_zero _), ?_⟩
    have hi : i = ((cfg0.win 7).rect ⟨_, hN⟩).emb (ix2 (⟨(i 0).val % 1024, Nat.mod_lt _ (by decide)⟩ : Fin 1024) (⟨(i 1).val % 1024, Nat.mod_lt _ (by decide)⟩ : Fin 1024)) := by
      rw [emb_7]
      funext b
      match b with
      | ⟨0, _⟩ =>
        apply Fin.ext
        show (i 0).val = ((i 0).val / 1024 * 9 + (i 1).val / 1024 + 1 - 1) / 9 * 1024 + (i 0).val % 1024
        omega
      | ⟨1, _⟩ =>
        apply Fin.ext
        show (i 1).val = ((i 0).val / 1024 * 9 + (i 1).val / 1024 + 1 - 1) % 9 * 1024 + (i 1).val % 1024
        omega
    exact Eq.mp (congrArg (· ∈ ((cfg0.win 7).blk ⟨_, hN⟩).view.set) hi.symm) (View.emb_mem_set ((cfg0.win 7).blk ⟨_, hN⟩).view _)

end Cert.KernelIdeal.Even

end
-- ==== Proof.Even.Printed.lean ====
/- The kernel as printed for the machine's floats is the text the run was written for: the two bodies are one program, so the
   frame of one is the frame of the other. -/
module

public import proofs.«01_k».proof.Defs
public import proofs.«01_k».proof.Proof.Gen.Kernel
public import proofs.«01_k».proof.Proof.Even.Frame

@[expose] public section

set_option maxRecDepth 16384
set_option maxHeartbeats 2000000

noncomputable section

namespace Cert.KernelIdeal.Even

open Idealize.ShloMosaic Idealize.SL.Sem

/-- The two body tables agree, label by label, -/
theorem bodies_eq : @Cert.Kernel.defs₀ Bits _ _ = @Cert.KernelIdeal.defs₀ Bits _ _ := by
  unfold Cert.Kernel.defs₀ Cert.KernelIdeal.defs₀
  refine congrArg Defs.onTc ?_
  funext l x
  match l, x with
  | 0, (t, s) => rfl

/-- and so do the tables with the pipeline's labels. -/
theorem tables_eq : @Cert.Kernel.defs Bits _ _ = @Cert.KernelIdeal.defs Bits _ _ :=
  congrArg (Pipeline.defs (Cert.KernelIdeal.pcfgs (F := Bits))) bodies_eq

/-- The kernel's frame: the run, over the float values the kernel is printed at. -/
theorem frame_kernel : Cert.quiescent_Kernel := fun m ρ _ => by
  rw [tables_eq]
  exact quiet (F := Bits) m ρ

end Cert.KernelIdeal.Even

end
-- ==== Proof.Even.Ref.lean ====
/- The reference, read element by element: the projection, its columns by head, and each group of columns as it is handed on,
   in the terms the pipeline's points compute it. -/
module

public import proofs.«01_k».proof.Proof.Gen.ReferenceIdeal.Read
public import proofs.«01_k».proof.Proof.Even.Slab

@[expose] public section

set_option maxRecDepth 16384

noncomputable section

namespace Cert.ReferenceIdeal.Even

open Cert.ReferenceIdeal Cert.ReferenceIdeal.Gen Cert.ReferenceIdeal.Read
open Idealize.ShloMosaic
open Cert.KernelIdeal.Even (unitRow rope rope64 proj projRow angle cosRow sinRow cosRow64 sinRow64 qscale)

variable (x0 : Vec Ideal S8192x2048 .bf16) (x1 : Vec Ideal S1x2048x9304 .f32) (x2 x3 : Vec Ideal S1x2x128 .f32)

/-- The row of the activations at place `s` of sequence `b`. -/
abbrev rowAt (b : Fin 4) (s : Fin 2048) : Fin 8192 := ⟨b.val * 2048 + s.val, by omega⟩

/-! ## The projection, its slices, and the tables -/

theorem v3_apply (b : Fin 4) (s : Fin 2048) (j : Fin 9304) :
    val_main_v3 (F := Ideal) x0 x1 (ix3 b s j) = proj x0 x1 (rowAt b s) j.val := by
  pointwise [val_main_v3, val_main_v2, val_main_v1, val_main_v0]
  unfold proj
  rw [dif_pos j.isLt]

theorem v54_apply (b : Fin 4) (s : Fin 2048) (h : Fin 8) (l : Fin 128) :
    val_main_v54 (F := Ideal) x0 x1 (ix4 b s h l) = projRow x0 x1 (rowAt b s) (0 + h.val * 128) l := by
  pointwise [val_main_v54, val_main_v4]
  rw [v3_apply]
  unfold projRow
  congr 1

theorem v73_apply (b : Fin 4) (s : Fin 2048) (h : Fin 8) (l : Fin 128) :
    val_main_v73 (F := Ideal) x0 x1 (ix4 b s h l) = projRow x0 x1 (rowAt b s) (1024 + h.val * 128) l := by
  pointwise [val_main_v73, val_main_v5]
  rw [v3_apply]
  unfold projRow
  congr 1
  show 1024 + (h.val * 128 + l.val) = 1024 + h.val * 128 + l.val
  omega

theorem v90_apply (b : Fin 4) (s : Fin 2048) (h : Fin 8) (l : Fin 128) :
    val_main_v90 (F := Ideal) x0 x1 (ix4 b s h l) = projRow x0 x1 (rowAt b s) (4104 + h.val * 128) l := by
  pointwise [val_main_v90, val_main_v9]
  rw [v3_apply]
  unfold projRow
  congr 1
  show 4104 + (h.val * 128 + l.val) = 4104 + h.val * 128 + l.val
  omega

theorem v124_apply (b : Fin 4) (s : Fin 2048) (h : Fin 8) (l : Fin 128) :
    val_main_v124 (F := Ideal) x0 x1 (ix4 b s h l) = projRow x0 x1 (rowAt b s) (5128 + h.val * 128) l := by
  pointwise [val_main_v124, val_main_v10]
  rw [v3_apply]
  unfold projRow
  congr 1
  show 5128 + (h.val * 128 + l.val) = 5128 + h.val * 128 + l.val
  omega

theorem v156_apply (b : Fin 4) (s : Fin 2048) (h : Fin 16) (l : Fin 64) :
    val_main_v156 (F := Ideal) x0 x1 (ix4 b s h l) = proj x0 x1 (rowAt b s) (8200 + h.val * 64 + l.val) := by
  pointwise [val_main_v156, val_main_v13]
  rw [v3_apply]
  congr 1
  show 8200 + (h.val * 64 + l.val) = 8200 + h.val * 64 + l.val
  omega

theorem v33_apply (s : Fin 2048) (l : Fin 64) :
    val_main_v33 (F := Ideal) (ix2 s l) = Ideal.cos (angle 0x43000000#32 s.val l.val) := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_cst, val_main_cst_0, val_main_cst_1, val_main_cst_2, val_main_cst_3]
  rfl

theorem v34_apply (s : Fin 2048) (l : Fin 64) :
    val_main_v34 (F := Ideal) (ix2 s l) = Ideal.sin (angle 0x43000000#32 s.val l.val) := by
  pointwise [val_main_v34, val_main_v32, val_main_v31, val_main_v30, val_main_v29, val_main_v28, val_main_v27, val_main_v26, val_main_v25, val_main_v24, val_main_v23, val_main_v22, val_main_v21, val_main_v20, val_main_v19, val_main_v18, val_main_v17, val_main_v16, val_main_cst, val_main_cst_0, val_main_cst_1, val_main_cst_2, val_main_cst_3]
  rfl

theorem v52_apply (s : Fin 2048) (l : Fin 32) :
    val_main_v52 (F := Ideal) (ix2 s l) = Ideal.cos (angle 0x42800000#32 s.val l.val) := by
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_cst_4, val_main_cst_5, val_main_cst_6, val_main_cst_7, val_main_cst_8]
  rfl

theorem v53_apply (s : Fin 2048) (l : Fin 32) :
    val_main_v53 (F := Ideal) (ix2 s l) = Ideal.sin (angle 0x42800000#32 s.val l.val) := by
  pointwise [val_main_v53, val_main_v51, val_main_v50, val_main_v49, val_main_v48, val_main_v47, val_main_v46, val_main_v45, val_main_v44, val_main_v43, val_main_v42, val_main_v41, val_main_v40, val_main_v39, val_main_v38, val_main_v37, val_main_v36, val_main_v35, val_main_cst_4, val_main_cst_5, val_main_cst_6, val_main_cst_7, val_main_cst_8]
  rfl

/-! ## The normalised heads -/

theorem v70_apply (b : Fin 4) (s : Fin 2048) (h : Fin 8) (l : Fin 128) :
    val_main_v70 (F := Ideal) x0 x1 x2 (ix4 b s h l)
      = unitRow (projRow x0 x1 (rowAt b s) (0 + h.val * 128)) l * x2 (ix3 0 0 l) := by
  pointwise [val_main_v70, val_main_v69, val_main_v68, val_main_v67, val_main_v66, val_main_v65, val_main_v64, val_main_v63, val_main_v62, val_main_v61, val_main_v60, val_main_v59, val_main_v58, val_main_v57, val_main_v56, val_main_v55, val_main_cst_9, val_main_cst_10, val_main_cst_11]
  simp only [v54_apply, zero_add]
  rfl

theorem v89_apply (b : Fin 4) (s : Fin 2048) (h : Fin 8) (l : Fin 128) :
    val_main_v89 (F := Ideal) x0 x1 x2 (ix4 b s h l)
      = unitRow (projRow x0 x1 (rowAt b s) (1024 + h.val * 128)) l * x2 (ix3 0 1 l) := by
  pointwise [val_main_v89, val_main_v88, val_main_v87, val_main_v86, val_main_v85, val_main_v84, val_main_v83, val_main_v82, val_main_v81, val_main_v80, val_main_v79, val_main_v78, val_main_v77, val_main_v76, val_main_v75, val_main_v74, val_main_cst_13, val_main_cst_14, val_main_cst_15]
  simp only [v73_apply]
  rfl

theorem v106_apply (b : Fin 4) (s : Fin 2048) (h : Fin 8) (l : Fin 128) :
    val_main_v106 (F := Ideal) x0 x1 x3 (ix4 b s h l)
      = unitRow (projRow x0 x1 (rowAt b s) (4104 + h.val * 128)) l * x3 (ix3 0 0 l) := by
  pointwise [val_main_v106, val_main_v105, val_main_v104, val_main_v103, val_main_v102, val_main_v101, val_main_v100, val_main_v99, val_main_v98, val_main_v97, val_main_v96, val_main_v95, val_main_v94, val_main_v93, val_main_v92, val_main_v91, val_main_cst_16, val_main_cst_17, val_main_cst_18]
  simp only [v90_apply]
  rfl

theorem v140_apply (b : Fin 4) (s : Fin 2048) (h : Fin 8) (l : Fin 128) :
    val_main_v140 (F := Ideal) x0 x1 x3 (ix4 b s h l)
      = unitRow (projRow x0 x1 (rowAt b s) (5128 + h.val * 128)) l * x3 (ix3 0 1 l) := by
  pointwise [val_main_v140, val_main_v139, val_main_v138, val_main_v137, val_main_v136, val_main_v135, val_main_v134, val_main_v133, val_main_v132, val_main_v131, val_main_v130, val_main_v129, val_main_v128, val_main_v127, val_main_v126, val_main_v125, val_main_cst_20, val_main_cst_21, val_main_cst_22]
  simp only [v124_apply]
  rfl

/-! ## Turned rows -/

/-- The scale passes a difference of products: it is a number, and not negative. -/
theorem qscale_nonneg : 0 ≤ qscale := by
  unfold qscale
  simp [Ideal.ofBits, Ideal.ieee, -EReal.coe_mul]
  done

theorem qscale_ne_top : qscale ≠ ⊤ := by
  unfold qscale
  simp [Ideal.ofBits, Ideal.ieee, -EReal.coe_mul]
  done

/-- A row turned half by half is the row turned with the signed table. -/
theorem rope_halves (w : Fin 128 → EReal) (s : ℕ) (l : Fin 128) :
    rope w (cosRow s) (sinRow s) l
      = if h : l.val < 64 then
          w l * Ideal.cos (angle 0x43000000#32 s l.val) - w ⟨64 + l.val, by omega⟩ * Ideal.sin (angle 0x43000000#32 s l.val)
        else
          w ⟨l.val - 64, by omega⟩ * Ideal.sin (angle 0x43000000#32 s (l.val - 64))
            + w ⟨64 + (l.val - 64), by omega⟩ * Ideal.cos (angle 0x43000000#32 s (l.val - 64)) := by
  unfold rope cosRow sinRow
  by_cases hl : l.val < 64
  · rw [if_pos hl, if_pos hl, dif_pos hl, mul_neg, ← sub_eq_add_neg]
    congr 3
    apply Fin.ext; show (l.val + 128 - 64) % 128 = 64 + l.val; omega
  · rw [if_neg hl, if_neg hl, dif_neg hl, add_comm]
    congr 3
    · apply Fin.ext; show (l.val + 128 - 64) % 128 = l.val - 64; omega
    · apply Fin.ext; show l.val = 64 + (l.val - 64); omega

/-- Two rows of 64 lanes, side by side in the projection from column `c` on, turned half by half. -/
theorem rope64_halves (P : ℕ → EReal) (c s : ℕ) (l : Fin 128) :
    rope64 (fun k => P (c + k.val)) (cosRow64 s) (sinRow64 s) l
      = if l.val % 64 < 32 then
          P (c + l.val / 64 * 64 + l.val % 64) * Ideal.cos (angle 0x42800000#32 s (l.val % 64))
            - P (c + l.val / 64 * 64 + (32 + l.val % 64)) * Ideal.sin (angle 0x42800000#32 s (l.val % 64))
        else
          P (c + l.val / 64 * 64 + (l.val % 64 - 32)) * Ideal.sin (angle 0x42800000#32 s (l.val % 64 - 32))
            + P (c + l.val / 64 * 64 + (32 + (l.val % 64 - 32))) * Ideal.cos (angle 0x42800000#32 s (l.val % 64 - 32)) := by
  unfold rope64 cosRow64 sinRow64
  have e : c + l.val = c + l.val / 64 * 64 + l.val % 64 := by omega
  by_cases hl : l.val % 64 < 32
  · simp only [if_pos hl]
    rw [mul_neg, ← sub_eq_add_neg, ← e]
    congr 3
    show c + (l.val + 128 - 96) % 128 = _; omega
  · simp only [if_neg hl]
    rw [add_comm]
    congr 3
    · show c + (l.val + 128 - 32) % 128 = _; omega
    · omega

theorem v155_apply (b : Fin 4) (s : Fin 2048) (h : Fin 8) (l : Fin 128) :
    val_main_v155 (F := Ideal) x0 x1 x3 (ix4 b s h l)
      = rope (fun k => unitRow (projRow x0 x1 (rowAt b s) (5128 + h.val * 128)) k * x3 (ix3 0 1 k)) (cosRow s.val) (sinRow s.val) l := by
  pointwise [val_main_v155, val_main_v154, val_main_v153, val_main_v152, val_main_v151, val_main_v150, val_main_v149, val_main_v148, val_main_v147, val_main_v146, val_main_v145, val_main_v144, val_main_v143, val_main_v142, val_main_v141]
  simp only [v140_apply, v33_apply, v34_apply]
  rw [rope_halves]

theorem v123_apply (b : Fin 4) (s : Fin 2048) (h : Fin 8) (l : Fin 128) :
    val_main_v123 (F := Ideal) x0 x1 x3 (ix4 b s h l)
      = rope (fun k => unitRow (projRow x0 x1 (rowAt b s) (4104 + h.val * 128)) k * (x3 (ix3 0 0 k) * qscale)) (cosRow s.val) (sinRow s.val) l := by
  pointwise [val_main_v123, val_main_v122, val_main_v121, val_main_v120, val_main_v119, val_main_v118, val_main_v117, val_main_v116, val_main_v115, val_main_v114, val_main_v113, val_main_v112, val_main_v111, val_main_v110, val_main_v109, val_main_v108, val_main_v107, val_main_cst_19]
  simp only [v106_apply, v33_apply, v34_apply]
  rw [rope_halves, show Ideal.ofBits FTy.f32 1040356334#32 = qscale from rfl]
  by_cases hl : l.val < 64
  · rw [dif_pos hl, dif_pos hl, sub_eq_add_neg, EReal.right_distrib_of_nonneg_of_ne_top qscale_nonneg qscale_ne_top, sub_eq_add_neg, EReal.neg_mul]
    congr 1
    · ac_rfl
    · congr 1; ac_rfl
  · rw [dif_neg hl, dif_neg hl, EReal.right_distrib_of_nonneg_of_ne_top qscale_nonneg qscale_ne_top]
    congr 1 <;> ac_rfl

theorem v171_apply (b : Fin 4) (s : Fin 2048) (h : Fin 16) (l : Fin 64) :
    val_main_v171 (F := Ideal) x0 x1 (ix4 b s h l)
      = if l.val < 32 then
          proj x0 x1 (rowAt b s) (8200 + h.val * 64 + l.val) * Ideal.cos (angle 0x42800000#32 s.val l.val)
            - proj x0 x1 (rowAt b s) (8200 + h.val * 64 + (32 + l.val)) * Ideal.sin (angle 0x42800000#32 s.val l.val)
        else
          proj x0 x1 (rowAt b s) (8200 + h.val * 64 + (l.val - 32)) * Ideal.sin (angle 0x42800000#32 s.val (l.val - 32))
            + proj x0 x1 (rowAt b s) (8200 + h.val * 64 + (32 + (l.val - 32))) * Ideal.cos (angle 0x42800000#32 s.val (l.val - 32)) := by
  pointwise [val_main_v171, val_main_v170, val_main_v169, val_main_v168, val_main_v167, val_main_v166, val_main_v165, val_main_v164, val_main_v163, val_main_v162, val_main_v161, val_main_v160, val_main_v159, val_main_v158, val_main_v157]
  simp only [v156_apply, v52_apply, v53_apply]
  rfl

/-! ## The nine groups -/

/-- Row `r` is place `r % 2048` of sequence `r / 2048`. -/
theorem rowAt_div_mod (r : Fin 8192) : rowAt ⟨r.val / 2048, by omega⟩ ⟨r.val % 2048, Nat.mod_lt _ (by decide)⟩ = r :=
  Fin.ext (by show r.val / 2048 * 2048 + r.val % 2048 = r.val; omega)

/-- The projection at a row given by sequence and place and a column given by head and lane. -/
theorem proj_at (r : Fin 8192) (j : Fin 1024) (c n : ℕ) (hn : n = c + j.val) :
    proj x0 x1 (rowAt ⟨r.val / 2048, by omega⟩ ⟨r.val % 2048, Nat.mod_lt _ (by decide)⟩) n
      = projRow x0 x1 r (c + j.val / 128 * 128) ⟨j.val % 128, Nat.mod_lt _ (by decide)⟩ := by
  rw [rowAt_div_mod]
  unfold projRow
  congr 1
  show n = c + j.val / 128 * 128 + j.val % 128
  omega

/-- A column's place in its head. -/
abbrev laneOf (j : Fin 1024) : Fin 128 := ⟨j.val % 128, Nat.mod_lt _ (by decide)⟩

theorem v172_apply (r : Fin 8192) (j : Fin 1024) :
    val_main_v172 (F := Ideal) x0 x1 x2 (ix2 r j)
      = unitRow (projRow x0 x1 r (0 + j.val / 128 * 128)) (laneOf j) * (x2 (ix3 0 0 (laneOf j)) * qscale) := by
  pointwise [val_main_v172, val_main_v72, val_main_v71, val_main_cst_12]
  rw [v70_apply, rowAt_div_mod, mul_assoc, zero_add]
  rfl

theorem v173_apply (r : Fin 8192) (j : Fin 1024) :
    val_main_v173 (F := Ideal) x0 x1 x2 (ix2 r j)
      = unitRow (projRow x0 x1 r (1024 + j.val / 128 * 128)) (laneOf j) * x2 (ix3 0 1 (laneOf j)) := by
  pointwise [val_main_v173]
  rw [v89_apply, rowAt_div_mod]

theorem v174_apply (r : Fin 8192) (j : Fin 1024) :
    val_main_v174 (F := Ideal) x0 x1 (ix2 r j)
      = projRow x0 x1 r (2048 + j.val / 128 * 128) (laneOf j) := by
  pointwise [val_main_v174, val_main_v6]
  rw [v3_apply]
  exact proj_at x0 x1 r j _ _ rfl

theorem v179_apply (r : Fin 8192) (j : Fin 1024) :
    val_main_v179 (F := Ideal) x0 x1 (ix2 r j)
      = projRow x0 x1 r (6152 + j.val / 128 * 128) (laneOf j) := by
  pointwise [val_main_v179, val_main_v11]
  rw [v3_apply]
  exact proj_at x0 x1 r j _ _ rfl

theorem v176_apply (r : Fin 8192) (j : Fin 1024) :
    val_main_v176 (F := Ideal) x0 x1 (ix2 r j)
      = projRow x0 x1 r (3072 + j.val / 128 * 128) (laneOf j) * Ideal.logistic (projRow x0 x1 r (3072 + j.val / 128 * 128) (laneOf j)) := by
  pointwise [val_main_v176, val_main_v175, val_main_v7, val_main_call0_v5, val_main_call0_v4, val_main_call0_v3, val_main_call0_v2, val_main_call0_v1, val_main_call0_v0, val_main_call0_cst, val_main_call0_cst_0]
  rw [v3_apply, proj_at x0 x1 r j _ _ rfl]
  rfl

theorem v181_apply (r : Fin 8192) (j : Fin 1024) :
    val_main_v181 (F := Ideal) x0 x1 (ix2 r j)
      = projRow x0 x1 r (7176 + j.val / 128 * 128) (laneOf j) * Ideal.logistic (projRow x0 x1 r (7176 + j.val / 128 * 128) (laneOf j)) := by
  pointwise [val_main_v181, val_main_v180, val_main_v12, val_main_call1_v5, val_main_call1_v4, val_main_call1_v3, val_main_call1_v2, val_main_call1_v1, val_main_call1_v0, val_main_call1_cst, val_main_call1_cst_0]
  rw [v3_apply, proj_at x0 x1 r j _ _ rfl]
  rfl

theorem v177_apply (r : Fin 8192) (j : Fin 1024) :
    val_main_v177 (F := Ideal) x0 x1 x3 (ix2 r j)
      = rope (fun k => unitRow (projRow x0 x1 r (4104 + j.val / 128 * 128)) k * (x3 (ix3 0 0 k) * qscale)) (cosRow (r.val % 2048)) (sinRow (r.val % 2048)) (laneOf j) := by
  pointwise [val_main_v177]
  rw [v123_apply, rowAt_div_mod]

theorem v178_apply (r : Fin 8192) (j : Fin 1024) :
    val_main_v178 (F := Ideal) x0 x1 x3 (ix2 r j)
      = rope (fun k => unitRow (projRow x0 x1 r (5128 + j.val / 128 * 128)) k * x3 (ix3 0 1 k)) (cosRow (r.val % 2048)) (sinRow (r.val % 2048)) (laneOf j) := by
  pointwise [val_main_v178]
  rw [v155_apply, rowAt_div_mod]

theorem v182_apply (r : Fin 8192) (j : Fin 1024) :
    val_main_v182 (F := Ideal) x0 x1 (ix2 r j)
      = rope64 (projRow x0 x1 r (8200 + j.val / 128 * 128)) (cosRow64 (r.val % 2048)) (sinRow64 (r.val % 2048)) (laneOf j) := by
  pointwise [val_main_v182]
  rw [v171_apply, rowAt_div_mod]
  unfold projRow
  rw [rope64_halves (proj x0 x1 r)]
  have e : 8200 + j.val / 128 * 128 + (laneOf j).val / 64 * 64 = 8200 + j.val / 64 * 64 := by
    show 8200 + j.val / 128 * 128 + j.val % 128 / 64 * 64 = _; omega
  have e' : (laneOf j).val % 64 = j.val % 64 := by show j.val % 128 % 64 = _; omega
  rw [e, e']

end Cert.ReferenceIdeal.Even

end
-- ==== Proof.Even.RefOut.lean ====
/- The reference's result, its nine groups of columns side by side. -/
module
public import proofs.«01_k».proof.Proof.Even.Ref

@[expose] public section

set_option maxRecDepth 16384

noncomputable section

namespace Cert.ReferenceIdeal.Even

open Cert.ReferenceIdeal Cert.ReferenceIdeal.Read
open Cert.KernelIdeal.Even (outRow finish projRow)
open Idealize.ShloMosaic Idealize.ShloMosaic.TcCoe

variable (x0 : Vec Ideal S8192x2048 .bf16) (x1 : Vec Ideal S1x2048x9304 .f32) (x2 x3 : Vec Ideal S1x2x128 .f32)

/-- A column's group and its place there, however they are found. -/
theorem outRow_at (r : Fin 8192) (j : Fin 9216) (g : ℕ) (i : Fin 1024) (hg : j.val / 1024 = g) (hi : i.val = j.val % 1024) :
    outRow x0 x1 x2 x3 r (j.val / 1024) ⟨j.val % 1024, Nat.mod_lt _ (by decide)⟩ = outRow x0 x1 x2 x3 r g i := by
  rw [hg, show (⟨j.val % 1024, Nat.mod_lt _ (by decide)⟩ : Fin 1024) = i from Fin.ext hi.symm]

theorem outRow_six (r : Fin 8192) (i : Fin 1024) :
    outRow x0 x1 x2 x3 r 6 i = projRow x0 x1 r (6152 + i.val / 128 * 128) (laneOf i) := by
  unfold outRow finish
  rw [if_neg (by decide), if_neg (by decide), if_neg (by decide), if_neg (by decide), if_pos (Or.inr rfl)]

/-- The reference's result, element by element. -/
theorem v184_apply (r : Fin 8192) (j : Fin 9216) :
    val_main_v184 (F := Ideal) x0 x1 x2 x3 (ix2 r j)
      = outRow x0 x1 x2 x3 r (j.val / 1024) ⟨j.val % 1024, Nat.mod_lt _ (by decide)⟩ := by
  pointwise [val_main_v184, val_main_v183]
  by_cases h0 : j.val < 1024
  · rw [dif_pos h0, v172_apply]
    exact (outRow_at x0 x1 x2 x3 r j 0 _ (by omega) (by show j.val = j.val % 1024; omega)).symm
  rw [dif_neg h0]
  by_cases h1 : j.val - 1024 < 1024
  · rw [dif_pos h1, v173_apply]
    exact (outRow_at x0 x1 x2 x3 r j 1 _ (by omega) (by show j.val - 1024 = j.val % 1024; omega)).symm
  rw [dif_neg h1]
  by_cases h2 : j.val - 1024 - 1024 < 1024
  · rw [dif_pos h2, v174_apply]
    exact (outRow_at x0 x1 x2 x3 r j 2 _ (by omega) (by show j.val - 1024 - 1024 = j.val % 1024; omega)).symm
  rw [dif_neg h2]
  by_cases h3 : j.val - 1024 - 1024 - 1024 < 1024
  · rw [dif_pos h3, v176_apply]
    exact (outRow_at x0 x1 x2 x3 r j 3 _ (by omega) (by show j.val - 1024 - 1024 - 1024 = j.val % 1024; omega)).symm
  rw [dif_neg h3]
  by_cases h4 : j.val - 1024 - 1024 - 1024 - 1024 < 1024
  · rw [dif_pos h4, v177_apply]
    exact (outRow_at x0 x1 x2 x3 r j 4 _ (by omega) (by show j.val - 1024 - 1024 - 1024 - 1024 = j.val % 1024; omega)).symm
  rw [dif_neg h4]
  by_cases h5 : j.val - 1024 - 1024 - 1024 - 1024 - 1024 < 1024
  · rw [dif_pos h5, v178_apply]
    exact (outRow_at x0 x1 x2 x3 r j 5 _ (by omega) (by show j.val - 1024 - 1024 - 1024 - 1024 - 1024 = j.val % 1024; omega)).symm
  rw [dif_neg h5]
  by_cases h6 : j.val - 1024 - 1024 - 1024 - 1024 - 1024 - 1024 < 1024
  · rw [dif_pos h6, v179_apply]
    rw [outRow_at x0 x1 x2 x3 r j 6 ⟨j.val - 1024 - 1024 - 1024 - 1024 - 1024 - 1024, by omega⟩ (by omega) (by show j.val - 1024 - 1024 - 1024 - 1024 - 1024 - 1024 = j.val % 1024; omega)]
    exact (outRow_six x0 x1 x2 x3 r _).symm
  rw [dif_neg h6]
  by_cases h7 : j.val - 1024 - 1024 - 1024 - 1024 - 1024 - 1024 - 1024 < 1024
  · rw [dif_pos h7, v181_apply]
    exact (outRow_at x0 x1 x2 x3 r j 7 _ (by omega) (by show j.val - 1024 - 1024 - 1024 - 1024 - 1024 - 1024 - 1024 = j.val % 1024; omega)).symm
  rw [dif_neg h7]
  rw [v182_apply]
  exact (outRow_at x0 x1 x2 x3 r j 8 _ (by omega) (by show j.val - 1024 - 1024 - 1024 - 1024 - 1024 - 1024 - 1024 - 1024 = j.val % 1024; omega)).symm

end Cert.ReferenceIdeal.Even

end
-- ==== Proof.Out.Value.lean ====
/- What the output projection's pipeline leaves: the residual plus the product, element by element. The weight, cast
   once at the first point, is what every later point finds in the scratch. -/
module

public import proofs.«01_k».proof.Proof.Gen.Kernel2Ideal.Frame
public import proofs.«01_k».proof.Proof.Gen.Reference2Ideal.Read
public import Idealize.ShloMosaic.Lib.Pointwise
public import Idealize.ShloMosaic.Lib.ValueIdx
public import Idealize.ShloMosaic.Lib.MatmulPlain
public import Idealize.ShloMosaic.Lib.KernelVsHost
public import Idealize.ShloMosaic.PureOps.Ideal.Laws

@[expose] public section

set_option maxRecDepth 16384

noncomputable section

namespace Cert.Kernel2Ideal.Out

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- The arguments as launched. -/
abbrev a0 : Vec Ideal S8192x2048 .bf16 := m ((c.tc : Thread nD τ).loc main_arg0)
abbrev a1 : Vec Ideal S1x2048x2048 .f32 := m ((c.tc : Thread nD τ).loc main_arg1)
abbrev a2 : Vec Ideal S4x2048x2048 .f32 := m ((c.tc : Thread nD τ).loc main_arg2)

/-! ## What a point leaves -/

theorem zero2 : (![0, 0] : Fin 2 → Nat) = fun _ => 0 := by funext a; match a with | ⟨0, _⟩ => rfl | ⟨1, _⟩ => rfl
theorem zero3 : (![0, 0, 0] : Fin 3 → Nat) = fun _ => 0 := by
  funext a; match a with | ⟨0, _⟩ => rfl | ⟨1, _⟩ => rfl | ⟨2, _⟩ => rfl

/-- A load of a whole buffer at contents that read `x` reads `x`. -/
theorem load2 {n k : ℕ} {e : EltTy} (b : Memref sig .tc .vmem ⟨2, ![n, k]⟩ e) (hb : b.IsWhole) (x : Vec Ideal ⟨2, ![n, k]⟩ e) (inb) :
    View.readAt (Elt Ideal) b.view (Rect.unit (s := ⟨2, ![n, k]⟩) ![0, 0] ![n, k] inb).toLoadRect (hb.unread x) = x := by
  rw [View.readAt_eq_ld, hb.read_unread]
  exact View.ld_unit_zero zero2 _ _

theorem load3 {l n k : ℕ} {e : EltTy} (b : Memref sig .tc .vmem ⟨3, ![l, n, k]⟩ e) (hb : b.IsWhole) (x : Vec Ideal ⟨3, ![l, n, k]⟩ e) (inb) :
    View.readAt (Elt Ideal) b.view (Rect.unit (s := ⟨3, ![l, n, k]⟩) ![0, 0, 0] ![l, n, k] inb).toLoadRect (hb.unread x) = x := by
  rw [View.readAt_eq_ld, hb.read_unread]
  exact View.ld_unit_zero zero3 _ _

/-- The first point casts the weight into the scratch -/
theorem scratch_A (c : Dev nD) (i : grid0.Coords) (b1 h1 b2 h2 b3 h3 b4 h4 b5 h5 hc) (x0 : Vec Ideal S512x2048 .bf16) (x1 : Vec Ideal S1x2048x2048 .f32)
    (x2 : Vec Ideal S512x2048 .f32) : sout0_A_0 c i b1 h1 b2 h2 b3 h3 b4 h4 b5 h5 hc x0 x1 x2 = k0_pay1 x1 := by
  unfold sout0_A_0
  rw [View.read_writes_eq_canon _ _ _ (scover0_A_0 c i b1 h1 b2 h2 b3 h3 b4 h4 b5 h5 hc x0 x1 x2)]
  unfold kernelRun0_A
  sl_unfold_words
  dsimp only
  refine (View.canon_unit_zero zero2 _ _).trans ?_
  exact congrArg k0_pay1 (load3 b2 h2 x1 _)

/-- and finishes its block with it, -/
theorem out_A (c : Dev nD) (i : grid0.Coords) (b1 h1 b2 h2 b3 h3 b4 h4 b5 h5 hc) (x0 : Vec Ideal S512x2048 .bf16) (x1 : Vec Ideal S1x2048x2048 .f32)
    (x2 : Vec Ideal S512x2048 .f32) : out0_A_3 c i b1 h1 b2 h2 b3 h3 b4 h4 b5 h5 hc x0 x1 x2 = k0_pay2 x2 x0 (k0_pay1 x1) := by
  unfold out0_A_3
  rw [View.read_writes_eq_canon _ _ _ (cover0_A_3 c i b1 h1 b2 h2 b3 h3 b4 h4 b5 h5 hc x0 x1 x2)]
  unfold kernelRun0_A
  sl_unfold_words
  dsimp only
  refine (View.canon_unit_zero zero2 _ _).trans ?_
  exact congr (congrArg₂ k0_pay2 (load2 b3 h3 x2 _) (load2 b1 h1 x0 _))
    ((View.readCov_unit_zero b5.view zero2 _ _).trans (congrArg k0_pay1 (load3 b2 h2 x1 _)))

/-- as every later point does with what it finds there. -/
theorem out_B (c : Dev nD) (i : grid0.Coords) (b1 h1 b2 h2 b3 h3 b4 h4 b5 h5 hc) (x0 : Vec Ideal S512x2048 .bf16) (x1 : Vec Ideal S1x2048x2048 .f32)
    (x2 : Vec Ideal S512x2048 .f32) (xs : Vec Ideal S2048x2048 .bf16) :
    out0_B_3 c i b1 h1 b2 h2 b3 h3 b4 h4 b5 h5 hc x0 x1 x2 xs = k0_pay2 x2 x0 xs := by
  unfold out0_B_3
  rw [View.read_writes_eq_canon _ _ _ (cover0_B_3 c i b1 h1 b2 h2 b3 h3 b4 h4 b5 h5 hc x0 x1 x2 xs)]
  unfold kernelRun0_B
  dsimp only
  refine (View.canon_unit_zero zero2 _ _).trans ?_
  exact congr (congrArg₂ k0_pay2 (load2 b3 h3 x2 _) (load2 b1 h1 x0 _)) (load2 b5 h5 xs _)

/-! ## The blocks -/

theorem index_0 : ∀ t : Fin cfg0.N, cc0_transform_0 (grid0.coords t) 0 = t.val ∧ cc0_transform_0 (grid0.coords t) 1 = 0 :=
  (by decide +kernel : ∀ t : Fin grid0.N, cc0_transform_0 (grid0.coords t) 0 = t.val ∧ cc0_transform_0 (grid0.coords t) 1 = 0)
theorem index_1 : ∀ t : Fin cfg0.N, cc0_transform_1 (grid0.coords t) 0 = 0 ∧ cc0_transform_1 (grid0.coords t) 1 = 0 ∧ cc0_transform_1 (grid0.coords t) 2 = 0 :=
  (by decide +kernel : ∀ t : Fin grid0.N, cc0_transform_1 (grid0.coords t) 0 = 0 ∧ cc0_transform_1 (grid0.coords t) 1 = 0 ∧ cc0_transform_1 (grid0.coords t) 2 = 0)
theorem index_2 : ∀ t : Fin cfg0.N, cc0_transform_2 (grid0.coords t) 0 = t.val ∧ cc0_transform_2 (grid0.coords t) 1 = 0 :=
  (by decide +kernel : ∀ t : Fin grid0.N, cc0_transform_2 (grid0.coords t) 0 = t.val ∧ cc0_transform_2 (grid0.coords t) 1 = 0)
theorem index_3 : ∀ t : Fin cfg0.N, cc0_transform_3 (grid0.coords t) 0 = t.val ∧ cc0_transform_3 (grid0.coords t) 1 = 0 :=
  (by decide +kernel : ∀ t : Fin grid0.N, cc0_transform_3 (grid0.coords t) 0 = t.val ∧ cc0_transform_3 (grid0.coords t) 1 = 0)

/-- The row of the arrays that row `a` of point `t`'s blocks is. -/
def row (t : Fin cfg0.N) (a : Fin 512) : Fin 8192 := ⟨t.val * 512 + a.val, by have := lt_of_lt_of_eq t.isLt N_0; omega⟩

theorem blk_0 (t : Fin cfg0.N) (a : Fin 512) (k : Fin 2048) : iblk m c 0 t (ix2 a k) = a0 m c (ix2 (row t a) k) := by
  obtain ⟨e0, e1⟩ := index_0 t
  show V m c main_arg0 (((cfg0.win 0).rect t).emb (ix2 a k)) = _
  rw [V_main_arg0]
  congr 1
  funext b
  match b with
  | ⟨0, _⟩ => apply Fin.ext; show cc0_transform_0 (grid0.coords t) 0 * 512 + 1 * a.val = t.val * 512 + a.val; rw [e0]; omega
  | ⟨1, _⟩ => apply Fin.ext; show cc0_transform_0 (grid0.coords t) 1 * 2048 + 1 * k.val = k.val; rw [e1]; omega

theorem blk_1 (t : Fin cfg0.N) : iblk m c 1 t = a1 m c := by
  obtain ⟨e0, e1, e2⟩ := index_1 t
  funext y
  show V m c main_arg1 (((cfg0.win 1).rect t).emb y) = _
  rw [V_main_arg1]
  congr 1
  funext b
  match b with
  | ⟨0, _⟩ => apply Fin.ext; show cc0_transform_1 (grid0.coords t) 0 * 1 + 1 * (y 0).val = (y 0).val; rw [e0]; omega
  | ⟨1, _⟩ => apply Fin.ext; show cc0_transform_1 (grid0.coords t) 1 * 2048 + 1 * (y 1).val = (y 1).val; rw [e1]; omega
  | ⟨2, _⟩ => apply Fin.ext; show cc0_transform_1 (grid0.coords t) 2 * 2048 + 1 * (y 2).val = (y 2).val; rw [e2]; omega

/-- The residual's rows, in the batch and place they come from. -/
theorem blk_2 (t : Fin cfg0.N) (a : Fin 512) (j : Fin 2048) :
    iblk m c 2 t (ix2 a j) = a2 m c (ix3 ⟨(row t a).val / 2048, by omega⟩ ⟨(row t a).val % 2048, Nat.mod_lt _ (by decide)⟩ j) := by
  obtain ⟨e0, e1⟩ := index_2 t
  have h : ∀ (r : Fin 8192), V m c main_v0 (ix2 r j) = a2 m c (ix3 ⟨r.val / 2048, by omega⟩ ⟨r.val % 2048, Nat.mod_lt _ (by decide)⟩ j) := by
    intro r
    show (StableHlo.reshape main_arg2 main_v0 (rfl : (.f32 : EltTy) = .f32) shapeCasts_S4x2048x2048_S8192x2048 : HloOp τ sig (Elt Ideal)).result (fun b => m (c, b)) (Proc.devRef .tc main_v0) (ix2 r j) = _
    rw [StableHlo.reshape_result]
    show shapeCast S8192x2048 (a2 m c) shapeCasts_S4x2048x2048_S8192x2048 (ix2 r j) = _
    pointwise
  rw [← h]
  show V m c main_v0 (((cfg0.win 2).rect t).emb (ix2 a j)) = _
  congr 1
  funext b
  match b with
  | ⟨0, _⟩ => apply Fin.ext; show cc0_transform_2 (grid0.coords t) 0 * 512 + 1 * a.val = t.val * 512 + a.val; rw [e0]; omega
  | ⟨1, _⟩ => apply Fin.ext; show cc0_transform_2 (grid0.coords t) 1 * 2048 + 1 * j.val = j.val; rw [e1]; omega

/-! ## Every point -/

theorem scratch_eq (n : ℕ) (hn : n < cfg0.N) : (outsAt0 m c n hn).2 = k0_pay1 (a1 m c) := by
  induction n with
  | zero =>
    have h := outsAt0_A m c ⟨0, hn⟩ rfl
    dsimp only at h
    rw [h]
    dsimp only
    rw [scratch_A, blk_1]
  | succ n ih =>
    have hN : n + 1 < 16 := lt_of_lt_of_eq hn N_0
    have h := outsAt0_B m c ⟨n + 1, hn⟩ (show ¬(n + 1) % 16 = 0 by omega)
    dsimp only at h
    rw [h]
    dsimp only
    unfold sout0_B_0
    exact ih _

theorem out_eq (t : Fin cfg0.N) : (outsAt0 m c t.val t.isLt).1 = k0_pay2 (iblk m c 2 t) (iblk m c 0 t) (k0_pay1 (a1 m c)) := by
  by_cases h0 : t.val % 16 = 0
  · rw [outsAt0_A m c t h0]
    dsimp only
    rw [out_A, blk_1]
  · rw [outsAt0_B m c t h0]
    dsimp only
    rw [out_B, scratch_eq]

/-- Row `r`, column `j` of the layer's output. -/
def cell (x0 : Vec Ideal S8192x2048 .bf16) (x1 : Vec Ideal S1x2048x2048 .f32) (x2 : Vec Ideal S4x2048x2048 .f32) (r : Fin 8192) (j : Fin 2048) : EReal :=
  (x2 (ix3 ⟨r.val / 2048, by omega⟩ ⟨r.val % 2048, Nat.mod_lt _ (by decide)⟩ j) : EReal) + ∑ k : Fin 2048, (x0 (ix2 r k) : EReal) * x1 (ix3 0 k j)

theorem pay_apply (x : Vec Ideal S512x2048 .f32) (y : Vec Ideal S512x2048 .bf16) (w : Vec Ideal S1x2048x2048 .f32) (a : Fin 512) (j : Fin 2048) :
    k0_pay2 x y (k0_pay1 w) (ix2 a j) = (x (ix2 a j) : EReal) + ∑ k : Fin 2048, (y (ix2 a k) : EReal) * w (ix3 0 k j) := by
  unfold k0_pay2 k0_pay1
  pointwise

theorem block_apply (t : Fin cfg0.N) (a : Fin 512) (j : Fin 2048) :
    (outsAt0 m c t.val t.isLt).1 (ix2 a j) = cell (a0 m c) (a1 m c) (a2 m c) (row t a) j := by
  rw [out_eq, pay_apply, blk_2]
  simp only [blk_0]
  rfl

/-! ## The array -/

/-- The array the pipeline fills. -/
def flat : Vec Ideal S8192x2048 .f32 := fun i => cell (a0 m c) (a1 m c) (a2 m c) (i 0) (i 1)

theorem emb_3 (t : Fin cfg0.N) (a : Fin 512) (j : Fin 2048) :
    ((cfg0.win 3).rect t).emb (ix2 a j) = (ix2 (row t a) j : S8192x2048.Idx) := by
  obtain ⟨e0, e1⟩ := index_3 t
  funext b
  match b with
  | ⟨0, _⟩ => apply Fin.ext; show cc0_transform_3 (grid0.coords t) 0 * 512 + 1 * a.val = t.val * 512 + a.val; rw [e0]; omega
  | ⟨1, _⟩ => apply Fin.ext; show cc0_transform_3 (grid0.coords t) 1 * 2048 + 1 * j.val = j.val; rw [e1]; omega

theorem result_block (t : Fin cfg0.N) (a : Fin 512) (j : Fin 2048) :
    (outsAt0 m c t.val t.isLt).1 (ix2 a j) = flat m c (((cfg0.win 3).rect t).emb (ix2 a j)) := by
  rw [emb_3, block_apply]
  rfl

theorem final : (dats m 0 c).arrAt 3 cfg0.N = flat m c := by
  refine Pipeline.Dat.arrAt_eq_of_cover (dats m 0 c) 3 (flat m c) (fun t hf => ?_) (fun i => ?_)
  · show (cfg0.win 3).cut (grid0.coords t) ((dats m 0 c).after 3 t) = _
    rw [after0_3]
    funext y
    have hy : (y : S512x2048.Idx) = ix2 (y 0) (y 1) := by
      funext b
      match b with
      | ⟨0, _⟩ => rfl
      | ⟨1, _⟩ => rfl
    show (outsAt0 m c t.val t.isLt).1 y = flat m c (((cfg0.win 3).rect t).emb y)
    rw [hy]
    exact result_block m c t (y 0) (y 1)
  · have h0 : (i 0).val < 8192 := (i 0).isLt
    have h1 : (i 1).val < 2048 := (i 1).isLt
    have hN : (i 0).val / 512 < cfg0.N := by rw [show cfg0.N = 16 from N_0]; omega
    refine ⟨⟨_, hN⟩, flush0_3 _, ?_⟩
    have hi : i = ((cfg0.win 3).rect ⟨_, hN⟩).emb (ix2 (⟨(i 0).val % 512, Nat.mod_lt _ (by decide)⟩ : Fin 512) (⟨(i 1).val, h1⟩ : Fin 2048)) := by
      rw [emb_3]
      funext b
      match b with
      | ⟨0, _⟩ => apply Fin.ext; show (i 0).val = (i 0).val / 512 * 512 + (i 0).val % 512; omega
      | ⟨1, _⟩ => rfl
    exact Eq.mp (congrArg (· ∈ ((cfg0.win 3).blk ⟨_, hN⟩).view.set) hi.symm) (View.emb_mem_set ((cfg0.win 3).blk ⟨_, hN⟩).view _)

/-! ## The result -/

/-- The layer's output, in its batches. -/
def result : Vec Ideal S4x2048x2048 .f32 := shapeCast S4x2048x2048 (flat m c) shapeCasts_S8192x2048_S4x2048x2048

/-- The line after the pipeline lays its array out in batches. -/
theorem tail_eq : Pipeline.afterTail₀ cfgs (dats m) 0 (V0 m) [hostOps1] c main_v2 = result m c := by
  unfold Pipeline.afterTail₀
  show (StableHlo.reshape main_v1 main_v2 (rfl : (.f32 : EltTy) = .f32) shapeCasts_S8192x2048_S4x2048x2048 : HloOp τ sig (Elt Ideal)).result _ (Proc.devRef .tc main_v2) = _
  rw [StableHlo.reshape_result]
  have h := Pipeline.withArrays_arr (cfgs 0).spec launch0.win.arr_inj c (V0 m c) (fun w => (dats m 0 c).arrAt w (cfgs 0).N) 3
  have e := h.trans (final m c)
  exact congrArg (fun x : Vec Ideal S8192x2048 .f32 => shapeCast S4x2048x2048 x shapeCasts_S8192x2048_S4x2048x2048) e

/-- The same rows, batch by batch, as the reference computes them. -/
theorem ref_eq (x0 : Vec Ideal S8192x2048 .bf16) (x1 : Vec Ideal S1x2048x2048 .f32) (x2 : Vec Ideal S4x2048x2048 .f32) (b : Fin 4) (s j : Fin 2048) :
    Cert.Reference2Ideal.Read.val_main_v4 (F := Ideal) x0 x1 x2 (ix3 b s j) = cell x0 x1 x2 ⟨b.val * 2048 + s.val, by omega⟩ j := by
  have e1 : (b.val * 2048 + s.val) / 2048 = b.val := by omega
  have e2 : (b.val * 2048 + s.val) % 2048 = s.val := by omega
  unfold cell
  pointwise [Cert.Reference2Ideal.Read.val_main_v4, Cert.Reference2Ideal.Read.val_main_v3, Cert.Reference2Ideal.Read.val_main_v2, Cert.Reference2Ideal.Read.val_main_v1, Cert.Reference2Ideal.Read.val_main_v0]
  simp only [e1, e2]

theorem result_eq : Cert.Reference2Ideal.Read.val_main_v4 (F := Ideal) (a0 m c) (a1 m c) (a2 m c) = result m c := by
  funext i
  have hi : i = ix3 (i 0) (i 1) (i 2) := by
    funext b
    match b with
    | ⟨0, _⟩ => rfl
    | ⟨1, _⟩ => rfl
    | ⟨2, _⟩ => rfl
  have h : ∀ (b : Fin 4) (s j : Fin 2048), result m c (ix3 b s j) = flat m c (ix2 ⟨b.val * 2048 + s.val, by omega⟩ j) := by
    intro b s j
    unfold result
    pointwise
  rw [hi]
  exact (ref_eq _ _ _ (i 0) (i 1) (i 2)).trans (h (i 0) (i 1) (i 2)).symm

end Cert.Kernel2Ideal.Out

end
-- ==== Proof.Out.Normed.lean ====
/- What the even layer's output projection leaves: the residual plus the two halves' products, and that row normalised
   under the next layer's gain. The weight, cast once at the first point, is what every later point finds in the
   scratch; each point reads it in two row halves, one for each input. -/
module

public import proofs.«01_k».proof.Proof.Gen.Kernel4Ideal.Frame
public import proofs.«01_k».proof.Proof.Gen.Reference4Ideal.Read
public import Idealize.ShloMosaic.Lib.Pointwise
public import Idealize.ShloMosaic.Lib.ValueIdx
public import Idealize.ShloMosaic.Lib.MatmulPlain
public import Idealize.ShloMosaic.Lib.KernelVsHost
public import Idealize.ShloMosaic.PureOps.Ideal.Laws

@[expose] public section

set_option maxRecDepth 16384

noncomputable section

namespace Cert.Kernel4Ideal.Out

open Cert.Kernel4Ideal Cert.Kernel4Ideal.Gen
open Idealize.ShloMosaic Idealize.ShloMosaic.TcCoe Idealize.SL.Sem

variable (m : (ℓ : Loc nD τ sig) → Buf (Elt Ideal) ℓ) (c : Dev nD)

/-- The arguments as launched. -/
abbrev a0 : Vec Ideal S8192x1024 .bf16 := m ((c.tc : Thread nD τ).loc main_arg0)
abbrev a1 : Vec Ideal S8192x1024 .bf16 := m ((c.tc : Thread nD τ).loc main_arg1)
abbrev a2 : Vec Ideal S1x2048x2048 .f32 := m ((c.tc : Thread nD τ).loc main_arg2)
abbrev a3 : Vec Ideal S4x2048x2048 .f32 := m ((c.tc : Thread nD τ).loc main_arg3)
abbrev a4 : Vec Ideal S1x2048 .f32 := m ((c.tc : Thread nD τ).loc main_arg4)

/-! ## What a point leaves -/

theorem zero2 : (![0, 0] : Fin 2 → Nat) = fun _ => 0 := by funext a; match a with | ⟨0, _⟩ => rfl | ⟨1, _⟩ => rfl
theorem zero3 : (![0, 0, 0] : Fin 3 → Nat) = fun _ => 0 := by
  funext a; match a with | ⟨0, _⟩ => rfl | ⟨1, _⟩ => rfl | ⟨2, _⟩ => rfl

/-- A load of a whole buffer at contents that read `x` reads `x`. -/
theorem load2 {n k : ℕ} {e : EltTy} (b : Memref sig .tc .vmem ⟨2, ![n, k]⟩ e) (hb : b.IsWhole) (x : Vec Ideal ⟨2, ![n, k]⟩ e) (inb) :
    View.readAt (Elt Ideal) b.view (Rect.unit (s := ⟨2, ![n, k]⟩) ![0, 0] ![n, k] inb).toLoadRect (hb.unread x) = x := by
  rw [View.readAt_eq_ld, hb.read_unread]
  exact View.ld_unit_zero zero2 _ _

theorem load3 {l n k : ℕ} {e : EltTy} (b : Memref sig .tc .vmem ⟨3, ![l, n, k]⟩ e) (hb : b.IsWhole) (x : Vec Ideal ⟨3, ![l, n, k]⟩ e) (inb) :
    View.readAt (Elt Ideal) b.view (Rect.unit (s := ⟨3, ![l, n, k]⟩) ![0, 0, 0] ![l, n, k] inb).toLoadRect (hb.unread x) = x := by
  rw [View.readAt_eq_ld, hb.read_unread]
  exact View.ld_unit_zero zero3 _ _

/-- The scratch's two row halves. -/
def top (w : Vec Ideal S2048x2048 .bf16) : Vec Ideal S1024x2048 .bf16 :=
  View.ld (Val := Elt Ideal) (e' := .bf16) w (Rect.unit (s := S2048x2048) ![0, 0] S1024x2048.size inb_S2048x2048_S1024x2048_0_0)
def bottom (w : Vec Ideal S2048x2048 .bf16) : Vec Ideal S1024x2048 .bf16 :=
  View.ld (Val := Elt Ideal) (e' := .bf16) w (Rect.unit (s := S2048x2048) ![1024, 0] S1024x2048.size inb_S2048x2048_S1024x2048_1024_0)

theorem top_apply (w : Vec Ideal S2048x2048 .bf16) (k : Fin 1024) (j : Fin 2048) :
    top w (ix2 k j) = w (ix2 (⟨k.val, by omega⟩ : Fin 2048) j) := by
  show w _ = _
  congr 1
  funext b
  match b with
  | ⟨0, _⟩ => apply Fin.ext; show 0 + 1 * k.val = k.val; omega
  | ⟨1, _⟩ => apply Fin.ext; show 0 + 1 * j.val = j.val; omega

theorem bottom_apply (w : Vec Ideal S2048x2048 .bf16) (k : Fin 1024) (j : Fin 2048) :
    bottom w (ix2 k j) = w (ix2 (⟨1024 + k.val, by omega⟩ : Fin 2048) j) := by
  show w _ = _
  congr 1
  funext b
  match b with
  | ⟨0, _⟩ => apply Fin.ext; show 1024 + 1 * k.val = 1024 + k.val; omega
  | ⟨1, _⟩ => apply Fin.ext; show 0 + 1 * j.val = j.val; omega

/-- A load of some rows of a buffer a whole store filled reads those rows of the store. -/
theorem loadCov (b : Memref sig .tc .vmem S2048x2048 .bf16) (w : Vec Ideal S2048x2048 .bf16) (inb) (r : Rect S2048x2048) :
    b.view.readCov [(⟨Rect.unit (s := S2048x2048) ![0, 0] S2048x2048.size inb, w⟩ : View.Piece (Elt Ideal) S2048x2048 .bf16)] r.toLoadRect
      = View.ld (Val := Elt Ideal) (e' := .bf16) w r := by
  have hc : ∀ y : S2048x2048.Idx, ∃ p ∈ [(⟨Rect.unit (s := S2048x2048) ![0, 0] S2048x2048.size inb, w⟩ : View.Piece (Elt Ideal) S2048x2048 .bf16)], y ∈ p.1.set := by
    intro y
    refine ⟨_, List.mem_singleton_self _, ?_⟩
    exact View.mem_set_unit_zero (S := S2048x2048) zero2 inb y
  rw [View.readCov_eq_canon_ld _ _ _ hc]
  exact congrArg (fun g => View.ld g r) (View.canon_unit_zero (S := S2048x2048) zero2 inb w)

/-- What a point makes of its blocks and the cast weight: the output rows, and those rows normalised. -/
def outOf (x0 x1 : Vec Ideal S512x1024 .bf16) (w : Vec Ideal S2048x2048 .bf16) (x3 : Vec Ideal S512x2048 .f32) : Vec Ideal S512x2048 .f32 :=
  k0_pay2 x3 x0 (top w) x1 (bottom w)
def normOf (x0 x1 : Vec Ideal S512x1024 .bf16) (w : Vec Ideal S2048x2048 .bf16) (x3 : Vec Ideal S512x2048 .f32) (x4 : Vec Ideal S1x2048 .f32) :
    Vec Ideal S512x2048 .bf16 := k0_pay3 x3 x0 (top w) x1 (bottom w) x4

/-- The first point casts the weight into the scratch -/
theorem scratch_A (c : Dev nD) (i : grid0.Coords) (b1 h1 b2 h2 b3 h3 b4 h4 b5 h5 b6 h6 b7 h7 b8 h8 hc) (x0 x1 : Vec Ideal S512x1024 .bf16) (x2 : Vec Ideal S1x2048x2048 .f32) (x3 : Vec Ideal S512x2048 .f32)
    (x4 : Vec Ideal S1x2048 .f32) :
    sout0_A_0 c i b1 h1 b2 h2 b3 h3 b4 h4 b5 h5 b6 h6 b7 h7 b8 h8 hc x0 x1 x2 x3 x4 = k0_pay1 x2 := by
  unfold sout0_A_0
  rw [View.read_writes_eq_canon _ _ _ (scover0_A_0 c i b1 h1 b2 h2 b3 h3 b4 h4 b5 h5 b6 h6 b7 h7 b8 h8 hc x0 x1 x2 x3 x4)]
  unfold kernelRun0_A
  sl_unfold_words
  dsimp only
  refine (View.canon_unit_zero zero2 _ _).trans ?_
  exact congrArg k0_pay1 (load3 b3 h3 x2 _)

/-- and finishes its block with it, -/
theorem out_A (c : Dev nD) (i : grid0.Coords) (b1 h1 b2 h2 b3 h3 b4 h4 b5 h5 b6 h6 b7 h7 b8 h8 hc) (x0 x1 : Vec Ideal S512x1024 .bf16) (x2 : Vec Ideal S1x2048x2048 .f32) (x3 : Vec Ideal S512x2048 .f32)
    (x4 : Vec Ideal S1x2048 .f32) :
    out0_A_5 c i b1 h1 b2 h2 b3 h3 b4 h4 b5 h5 b6 h6 b7 h7 b8 h8 hc x0 x1 x2 x3 x4 = outOf x0 x1 (k0_pay1 x2) x3 := by
  unfold out0_A_5
  rw [View.read_writes_eq_canon _ _ _ (cover0_A_5 c i b1 h1 b2 h2 b3 h3 b4 h4 b5 h5 b6 h6 b7 h7 b8 h8 hc x0 x1 x2 x3 x4)]
  unfold kernelRun0_A
  sl_unfold_words
  dsimp only
  refine (View.canon_unit_zero zero2 _ _).trans ?_
  rw [load2 b4 h4, load2 b1 h1, load2 b2 h2, load3 b3 h3, loadCov, loadCov]
  rfl

theorem norm_A (c : Dev nD) (i : grid0.Coords) (b1 h1 b2 h2 b3 h3 b4 h4 b5 h5 b6 h6 b7 h7 b8 h8 hc) (x0 x1 : Vec Ideal S512x1024 .bf16) (x2 : Vec Ideal S1x2048x2048 .f32) (x3 : Vec Ideal S512x2048 .f32)
    (x4 : Vec Ideal S1x2048 .f32) :
    out0_A_6 c i b1 h1 b2 h2 b3 h3 b4 h4 b5 h5 b6 h6 b7 h7 b8 h8 hc x0 x1 x2 x3 x4 = normOf x0 x1 (k0_pay1 x2) x3 x4 := by
  unfold out0_A_6
  rw [View.read_writes_eq_canon _ _ _ (cover0_A_6 c i b1 h1 b2 h2 b3 h3 b4 h4 b5 h5 b6 h6 b7 h7 b8 h8 hc x0 x1 x2 x3 x4)]
  unfold kernelRun0_A
  sl_unfold_words
  dsimp only
  refine (View.canon_unit_zero zero2 _ _).trans ?_
  rw [load2 b4 h4, load2 b1 h1, load2 b2 h2, load2 b5 h5, load3 b3 h3, loadCov, loadCov]
  rfl

/-- as every later point does with what it finds there. -/
theorem out_B (c : Dev nD) (i : grid0.Coords) (b1 h1 b2 h2 b3 h3 b4 h4 b5 h5 b6 h6 b7 h7 b8 h8 hc) (x0 x1 : Vec Ideal S512x1024 .bf16) (x2 : Vec Ideal S1x2048x2048 .f32) (x3 : Vec Ideal S512x2048 .f32)
    (x4 : Vec Ideal S1x2048 .f32) (xs : Vec Ideal S2048x2048 .bf16) :
    out0_B_5 c i b1 h1 b2 h2 b3 h3 b4 h4 b5 h5 b6 h6 b7 h7 b8 h8 hc x0 x1 x2 x3 x4 xs = outOf x0 x1 xs x3 := by
  unfold out0_B_5
  rw [View.read_writes_eq_canon _ _ _ (cover0_B_5 c i b1 h1 b2 h2 b3 h3 b4 h4 b5 h5 b6 h6 b7 h7 b8 h8 hc x0 x1 x2 x3 x4 xs)]
  unfold kernelRun0_B
  dsimp only
  refine (View.canon_unit_zero zero2 _ _).trans ?_
  rw [load2 b4 h4, load2 b1 h1, load2 b2 h2, View.readAt_eq_ld, View.readAt_eq_ld, h8.read_unread]
  rfl

theorem norm_B (c : Dev nD) (i : grid0.Coords) (b1 h1 b2 h2 b3 h3 b4 h4 b5 h5 b6 h6 b7 h7 b8 h8 hc) (x0 x1 : Vec Ideal S512x1024 .bf16) (x2 : Vec Ideal S1x2048x2048 .f32) (x3 : Vec Ideal S512x2048 .f32)
    (x4 : Vec Ideal S1x2048 .f32) (xs : Vec Ideal S2048x2048 .bf16) :
    out0_B_6 c i b1 h1 b2 h2 b3 h3 b4 h4 b5 h5 b6 h6 b7 h7 b8 h8 hc x0 x1 x2 x3 x4 xs = normOf x0 x1 xs x3 x4 := by
  unfold out0_B_6
  rw [View.read_writes_eq_canon _ _ _ (cover0_B_6 c i b1 h1 b2 h2 b3 h3 b4 h4 b5 h5 b6 h6 b7 h7 b8 h8 hc x0 x1 x2 x3 x4 xs)]
  unfold kernelRun0_B
  dsimp only
  refine (View.canon_unit_zero zero2 _ _).trans ?_
  rw [load2 b4 h4, load2 b1 h1, load2 b2 h2, load2 b5 h5, View.readAt_eq_ld, View.readAt_eq_ld, h8.read_unread]
  rfl

/-! ## The blocks -/

theorem index_0 : ∀ t : Fin cfg0.N, cc0_transform_0 (grid0.coords t) 0 = t.val ∧ cc0_transform_0 (grid0.coords t) 1 = 0 :=
  (by decide +kernel : ∀ t : Fin grid0.N, cc0_transform_0 (grid0.coords t) 0 = t.val ∧ cc0_transform_0 (grid0.coords t) 1 = 0)
theorem index_1 : ∀ t : Fin cfg0.N, cc0_transform_1 (grid0.coords t) 0 = t.val ∧ cc0_transform_1 (grid0.coords t) 1 = 0 :=
  (by decide +kernel : ∀ t : Fin grid0.N, cc0_transform_1 (grid0.coords t) 0 = t.val ∧ cc0_transform_1 (grid0.coords t) 1 = 0)
theorem index_2 : ∀ t : Fin cfg0.N, cc0_transform_2 (grid0.coords t) 0 = 0 ∧ cc0_transform_2 (grid0.coords t) 1 = 0 ∧ cc0_transform_2 (grid0.coords t) 2 = 0 :=
  (by decide +kernel : ∀ t : Fin grid0.N, cc0_transform_2 (grid0.coords t) 0 = 0 ∧ cc0_transform_2 (grid0.coords t) 1 = 0 ∧ cc0_transform_2 (grid0.coords t) 2 = 0)
theorem index_3 : ∀ t : Fin cfg0.N, cc0_transform_3 (grid0.coords t) 0 = t.val ∧ cc0_transform_3 (grid0.coords t) 1 = 0 :=
  (by decide +kernel : ∀ t : Fin grid0.N, cc0_transform_3 (grid0.coords t) 0 = t.val ∧ cc0_transform_3 (grid0.coords t) 1 = 0)
theorem index_4 : ∀ t : Fin cfg0.N, cc0_transform_4 (grid0.coords t) 0 = 0 ∧ cc0_transform_4 (grid0.coords t) 1 = 0 :=
  (by decide +kernel : ∀ t : Fin grid0.N, cc0_transform_4 (grid0.coords t) 0 = 0 ∧ cc0_transform_4 (grid0.coords t) 1 = 0)
theorem index_5 : ∀ t : Fin cfg0.N, cc0_transform_5 (grid0.coords t) 0 = t.val ∧ cc0_transform_5 (grid0.coords t) 1 = 0 :=
  (by decide +kernel : ∀ t : Fin grid0.N, cc0_transform_5 (grid0.coords t) 0 = t.val ∧ cc0_transform_5 (grid0.coords t) 1 = 0)
theorem index_6 : ∀ t : Fin cfg0.N, cc0_transform_6 (grid0.coords t) 0 = t.val ∧ cc0_transform_6 (grid0.coords t) 1 = 0 :=
  (by decide +kernel : ∀ t : Fin grid0.N, cc0_transform_6 (grid0.coords t) 0 = t.val ∧ cc0_transform_6 (grid0.coords t) 1 = 0)

/-- The row of the arrays that row `a` of point `t`'s blocks is. -/
def row (t : Fin cfg0.N) (a : Fin 512) : Fin 8192 := ⟨t.val * 512 + a.val, by have := lt_of_lt_of_eq t.isLt N_0; omega⟩

theorem blk_0 (t : Fin cfg0.N) (a : Fin 512) (k : Fin 1024) : iblk m c 0 t (ix2 a k) = a0 m c (ix2 (row t a) k) := by
  obtain ⟨e0, e1⟩ := index_0 t
  show V m c main_arg0 (((cfg0.win 0).rect t).emb (ix2 a k)) = _
  rw [V_main_arg0]
  congr 1
  funext b
  match b with
  | ⟨0, _⟩ => apply Fin.ext; show cc0_transform_0 (grid0.coords t) 0 * 512 + 1 * a.val = t.val * 512 + a.val; rw [e0]; omega
  | ⟨1, _⟩ => apply Fin.ext; show cc0_transform_0 (grid0.coords t) 1 * 1024 + 1 * k.val = k.val; rw [e1]; omega

theorem blk_1 (t : Fin cfg0.N) (a : Fin 512) (k : Fin 1024) : iblk m c 1 t (ix2 a k) = a1 m c (ix2 (row t a) k) := by
  obtain ⟨e0, e1⟩ := index_1 t
  show V m c main_arg1 (((cfg0.win 1).rect t).emb (ix2 a k)) = _
  rw [V_main_arg1]
  congr 1
  funext b
  match b with
  | ⟨0, _⟩ => apply Fin.ext; show cc0_transform_1 (grid0.coords t) 0 * 512 + 1 * a.val = t.val * 512 + a.val; rw [e0]; omega
  | ⟨1, _⟩ => apply Fin.ext; show cc0_transform_1 (grid0.coords t) 1 * 1024 + 1 * k.val = k.val; rw [e1]; omega

theorem blk_2 (t : Fin cfg0.N) : iblk m c 2 t = a2 m c := by
  obtain ⟨e0, e1, e2⟩ := index_2 t
  funext y
  show V m c main_arg2 (((cfg0.win 2).rect t).emb y) = _
  rw [V_main_arg2]
  congr 1
  funext b
  match b with
  | ⟨0, _⟩ => apply Fin.ext; show cc0_transform_2 (grid0.coords t) 0 * 1 + 1 * (y 0).val = (y 0).val; rw [e0]; omega
  | ⟨1, _⟩ => apply Fin.ext; show cc0_transform_2 (grid0.coords t) 1 * 2048 + 1 * (y 1).val = (y 1).val; rw [e1]; omega
  | ⟨2, _⟩ => apply Fin.ext; show cc0_transform_2 (grid0.coords t) 2 * 2048 + 1 * (y 2).val = (y 2).val; rw [e2]; omega

/-- What the host lays out before the pipeline: the residual's rows, and the gain as one row. -/
theorem V_rows : V m c main_v0 = shapeCast S8192x2048 (a3 m c) shapeCasts_S4x2048x2048_S8192x2048 := by
  entry_read
  rfl

theorem V_gain : V m c main_v2 = shapeCast S1x2048 (shapeCast S2048 (a4 m c) shapeCasts_S1x2048_S2048) shapeCasts_S2048_S1x2048 := by
  entry_read
  rfl

/-- The residual's rows, in the batch and place they come from. -/
theorem blk_3 (t : Fin cfg0.N) (a : Fin 512) (j : Fin 2048) :
    iblk m c 3 t (ix2 a j) = a3 m c (ix3 ⟨(row t a).val / 2048, by omega⟩ ⟨(row t a).val % 2048, Nat.mod_lt _ (by decide)⟩ j) := by
  obtain ⟨e0, e1⟩ := index_3 t
  have h : ∀ (r : Fin 8192), V m c main_v0 (ix2 r j) = a3 m c (ix3 ⟨r.val / 2048, by omega⟩ ⟨r.val % 2048, Nat.mod_lt _ (by decide)⟩ j) := by
    intro r
    rw [V_rows]
    pointwise
  rw [← h]
  show V m c main_v0 (((cfg0.win 3).rect t).emb (ix2 a j)) = _
  congr 1
  funext b
  match b with
  | ⟨0, _⟩ => apply Fin.ext; show cc0_transform_3 (grid0.coords t) 0 * 512 + 1 * a.val = t.val * 512 + a.val; rw [e0]; omega
  | ⟨1, _⟩ => apply Fin.ext; show cc0_transform_3 (grid0.coords t) 1 * 2048 + 1 * j.val = j.val; rw [e1]; omega

theorem blk_4 (t : Fin cfg0.N) (j : Fin 2048) : iblk m c 4 t (ix2 0 j) = a4 m c (ix2 0 j) := by
  obtain ⟨e0, e1⟩ := index_4 t
  have h : V m c main_v2 (ix2 0 j) = a4 m c (ix2 0 j) := by
    rw [V_gain]
    pointwise
  rw [← h]
  show V m c main_v2 (((cfg0.win 4).rect t).emb (ix2 0 j)) = _
  congr 1
  funext b
  match b with
  | ⟨0, _⟩ => apply Fin.ext; show cc0_transform_4 (grid0.coords t) 0 * 1 + 1 * 0 = 0; rw [e0]
  | ⟨1, _⟩ => apply Fin.ext; show cc0_transform_4 (grid0.coords t) 1 * 2048 + 1 * j.val = j.val; rw [e1]; omega

/-! ## Every point -/

theorem scratch_eq (n : ℕ) (hn : n < cfg0.N) : (outsAt0 m c n hn).2.2 = k0_pay1 (a2 m c) := by
  induction n with
  | zero =>
    have h := outsAt0_A m c ⟨0, hn⟩ rfl
    dsimp only at h
    rw [h]
    dsimp only
    rw [scratch_A, blk_2]
  | succ n ih =>
    have hN : n + 1 < 16 := lt_of_lt_of_eq hn N_0
    have h := outsAt0_B m c ⟨n + 1, hn⟩ (show ¬(n + 1) % 16 = 0 by omega)
    dsimp only at h
    rw [h]
    dsimp only
    unfold sout0_B_0
    exact ih _

theorem out_eq (t : Fin cfg0.N) : (outsAt0 m c t.val t.isLt).1 = outOf (iblk m c 0 t) (iblk m c 1 t) (k0_pay1 (a2 m c)) (iblk m c 3 t) := by
  by_cases h0 : t.val % 16 = 0
  · rw [outsAt0_A m c t h0]
    dsimp only
    rw [out_A, blk_2]
  · rw [outsAt0_B m c t h0]
    dsimp only
    rw [out_B, scratch_eq]

theorem norm_eq (t : Fin cfg0.N) : (outsAt0 m c t.val t.isLt).2.1
    = normOf (iblk m c 0 t) (iblk m c 1 t) (k0_pay1 (a2 m c)) (iblk m c 3 t) (iblk m c 4 t) := by
  by_cases h0 : t.val % 16 = 0
  · rw [outsAt0_A m c t h0]
    dsimp only
    rw [norm_A, blk_2]
  · rw [outsAt0_B m c t h0]
    dsimp only
    rw [norm_B, scratch_eq]

/-! ## The cells -/

/-- Row `r`, column `j` of the layer's output: the residual, plus each half's product. -/
def cell (x0 x1 : Vec Ideal S8192x1024 .bf16) (x2 : Vec Ideal S1x2048x2048 .f32) (x3 : Vec Ideal S4x2048x2048 .f32) (r : Fin 8192) (j : Fin 2048) : EReal :=
  (x3 (ix3 ⟨r.val / 2048, by omega⟩ ⟨r.val % 2048, Nat.mod_lt _ (by decide)⟩ j) : EReal)
    + ∑ k : Fin 1024, (x0 (ix2 r k) : EReal) * x2 (ix3 0 ⟨k.val, by omega⟩ j)
    + ∑ k : Fin 1024, (x1 (ix2 r k) : EReal) * x2 (ix3 0 ⟨1024 + k.val, by omega⟩ j)

/-- A row `f` normalised: its column `j`, under the gain `g`. -/
def normed (f : Fin 2048 → EReal) (g : EReal) (j : Fin 2048) : EReal :=
  f j * Ideal.rsqrt (Ideal.div (∑ k : Fin 2048, f k * f k) (Ideal.ofBits .f32 0x45000000#32) + Ideal.ofBits .f32 0x358637BD#32) * g

theorem outOf_apply (x0 x1 : Vec Ideal S512x1024 .bf16) (w : Vec Ideal S1x2048x2048 .f32) (x3 : Vec Ideal S512x2048 .f32) (a : Fin 512) (j : Fin 2048) :
    outOf x0 x1 (k0_pay1 w) x3 (ix2 a j) = (x3 (ix2 a j) : EReal)
      + ∑ k : Fin 1024, (x0 (ix2 a k) : EReal) * w (ix3 0 ⟨k.val, by omega⟩ j)
      + ∑ k : Fin 1024, (x1 (ix2 a k) : EReal) * w (ix3 0 ⟨1024 + k.val, by omega⟩ j) := by
  have h : ∀ (y z : Vec Ideal S1024x2048 .bf16), k0_pay2 x3 x0 y x1 z (ix2 a j) = (x3 (ix2 a j) : EReal)
      + ∑ k : Fin 1024, (x0 (ix2 a k) : EReal) * y (ix2 k j) + ∑ k : Fin 1024, (x1 (ix2 a k) : EReal) * z (ix2 k j) := by
    intro y z
    unfold k0_pay2
    pointwise
  have hw : ∀ k : Fin 2048, k0_pay1 w (ix2 k j) = w (ix3 0 k j) := by
    intro k
    unfold k0_pay1
    pointwise
  unfold outOf
  rw [h]
  simp only [top_apply, bottom_apply, hw]

theorem normOf_apply (x0 x1 : Vec Ideal S512x1024 .bf16) (w : Vec Ideal S2048x2048 .bf16) (x3 : Vec Ideal S512x2048 .f32) (x4 : Vec Ideal S1x2048 .f32)
    (a : Fin 512) (j : Fin 2048) :
    normOf x0 x1 w x3 x4 (ix2 a j) = normed (fun k => outOf x0 x1 w x3 (ix2 a k)) (x4 (ix2 0 j)) j := by
  unfold normOf k0_pay3 normed
  show _ = (outOf x0 x1 w x3 (ix2 a j) : EReal) * _ * _
  unfold outOf
  generalize k0_pay2 x3 x0 (top w) x1 (bottom w) = y
  pointwise

theorem block_out (t : Fin cfg0.N) (a : Fin 512) (j : Fin 2048) :
    (outsAt0 m c t.val t.isLt).1 (ix2 a j) = cell (a0 m c) (a1 m c) (a2 m c) (a3 m c) (row t a) j := by
  rw [out_eq, outOf_apply, blk_3]
  simp only [blk_0, blk_1]
  rfl

theorem block_norm (t : Fin cfg0.N) (a : Fin 512) (j : Fin 2048) :
    (outsAt0 m c t.val t.isLt).2.1 (ix2 a j) = normed (cell (a0 m c) (a1 m c) (a2 m c) (a3 m c) (row t a)) (a4 m c (ix2 0 j)) j := by
  rw [norm_eq, normOf_apply, blk_4]
  congr 1
  funext k
  rw [← block_out, out_eq]

/-! ## The arrays -/

/-- The arrays the pipeline fills. -/
def flat : Vec Ideal S8192x2048 .f32 := fun i => cell (a0 m c) (a1 m c) (a2 m c) (a3 m c) (i 0) (i 1)
def flatNorm : Vec Ideal S8192x2048 .bf16 := fun i => normed (cell (a0 m c) (a1 m c) (a2 m c) (a3 m c) (i 0)) (a4 m c (ix2 0 (i 1))) (i 1)

theorem emb_5 (t : Fin cfg0.N) (a : Fin 512) (j : Fin 2048) :
    ((cfg0.win 5).rect t).emb (ix2 a j) = (ix2 (row t a) j : S8192x2048.Idx) := by
  obtain ⟨e0, e1⟩ := index_5 t
  funext b
  match b with
  | ⟨0, _⟩ => apply Fin.ext; show cc0_transform_5 (grid0.coords t) 0 * 512 + 1 * a.val = t.val * 512 + a.val; rw [e0]; omega
  | ⟨1, _⟩ => apply Fin.ext; show cc0_transform_5 (grid0.coords t) 1 * 2048 + 1 * j.val = j.val; rw [e1]; omega

theorem result_out (t : Fin cfg0.N) (a : Fin 512) (j : Fin 2048) :
    (outsAt0 m c t.val t.isLt).1 (ix2 a j) = flat m c (((cfg0.win 5).rect t).emb (ix2 a j)) := by
  rw [emb_5, block_out]
  rfl

theorem final : (dats m 0 c).arrAt 5 cfg0.N = flat m c := by
  refine Pipeline.Dat.arrAt_eq_of_cover (dats m 0 c) 5 (flat m c) (fun t hf => ?_) (fun i => ?_)
  · show (cfg0.win 5).cut (grid0.coords t) ((dats m 0 c).after 5 t) = _
    rw [after0_5]
    funext y
    have hy : (y : S512x2048.Idx) = ix2 (y 0) (y 1) := by
      funext b
      match b with
      | ⟨0, _⟩ => rfl
      | ⟨1, _⟩ => rfl
    show (outsAt0 m c t.val t.isLt).1 y = flat m c (((cfg0.win 5).rect t).emb y)
    rw [hy]
    exact result_out m c t (y 0) (y 1)
  · have h0 : (i 0).val < 8192 := (i 0).isLt
    have h1 : (i 1).val < 2048 := (i 1).isLt
    have hN : (i 0).val / 512 < cfg0.N := by rw [show cfg0.N = 16 from N_0]; omega
    refine ⟨⟨_, hN⟩, flush0_5 _, ?_⟩
    have hi : i = ((cfg0.win 5).rect ⟨_, hN⟩).emb (ix2 (⟨(i 0).val % 512, Nat.mod_lt _ (by decide)⟩ : Fin 512) (⟨(i 1).val, h1⟩ : Fin 2048)) := by
      rw [emb_5]
      funext b
      match b with
      | ⟨0, _⟩ => apply Fin.ext; show (i 0).val = (i 0).val / 512 * 512 + (i 0).val % 512; omega
      | ⟨1, _⟩ => rfl
    exact Eq.mp (congrArg (· ∈ ((cfg0.win 5).blk ⟨_, hN⟩).view.set) hi.symm) (View.emb_mem_set ((cfg0.win 5).blk ⟨_, hN⟩).view _)

theorem emb_6 (t : Fin cfg0.N) (a : Fin 512) (j : Fin 2048) :
    ((cfg0.win 6).rect t).emb (ix2 a j) = (ix2 (row t a) j : S8192x2048.Idx) := by
  obtain ⟨e0, e1⟩ := index_6 t
  funext b
  match b with
  | ⟨0, _⟩ => apply Fin.ext; show cc0_transform_6 (grid0.coords t) 0 * 512 + 1 * a.val = t.val * 512 + a.val; rw [e0]; omega
  | ⟨1, _⟩ => apply Fin.ext; show cc0_transform_6 (grid0.coords t) 1 * 2048 + 1 * j.val = j.val; rw [e1]; omega

theorem result_norm (t : Fin cfg0.N) (a : Fin 512) (j : Fin 2048) :
    (outsAt0 m c t.val t.isLt).2.1 (ix2 a j) = flatNorm m c (((cfg0.win 6).rect t).emb (ix2 a j)) := by
  rw [emb_6, block_norm]
  rfl

theorem final_norm : (dats m 0 c).arrAt 6 cfg0.N = flatNorm m c := by
  refine Pipeline.Dat.arrAt_eq_of_cover (dats m 0 c) 6 (flatNorm m c) (fun t hf => ?_) (fun i => ?_)
  · show (cfg0.win 6).cut (grid0.coords t) ((dats m 0 c).after 6 t) = _
    rw [after0_6]
    funext y
    have hy : (y : S512x2048.Idx) = ix2 (y 0) (y 1) := by
      funext b
      match b with
      | ⟨0, _⟩ => rfl
      | ⟨1, _⟩ => rfl
    show (outsAt0 m c t.val t.isLt).2.1 y = flatNorm m c (((cfg0.win 6).rect t).emb y)
    rw [hy]
    exact result_norm m c t (y 0) (y 1)
  · have h0 : (i 0).val < 8192 := (i 0).isLt
    have h1 : (i 1).val < 2048 := (i 1).isLt
    have hN : (i 0).val / 512 < cfg0.N := by rw [show cfg0.N = 16 from N_0]; omega
    refine ⟨⟨_, hN⟩, flush0_6 _, ?_⟩
    have hi : i = ((cfg0.win 6).rect ⟨_, hN⟩).emb (ix2 (⟨(i 0).val % 512, Nat.mod_lt _ (by decide)⟩ : Fin 512) (⟨(i 1).val, h1⟩ : Fin 2048)) := by
      rw [emb_6]
      funext b
      match b with
      | ⟨0, _⟩ => apply Fin.ext; show (i 0).val = (i 0).val / 512 * 512 + (i 0).val % 512; omega
      | ⟨1, _⟩ => rfl
    exact Eq.mp (congrArg (· ∈ ((cfg0.win 6).blk ⟨_, hN⟩).view.set) hi.symm) (View.emb_mem_set ((cfg0.win 6).blk ⟨_, hN⟩).view _)

/-! ## The reference -/

/-- The two inputs side by side, as the reference multiplies them. -/
theorem v4_low (x0 x1 : Vec Ideal S8192x1024 .bf16) (b : Fin 4) (s : Fin 2048) (k : Fin 1024) :
    Cert.Reference4Ideal.Read.val_main_v4 (F := Ideal) x0 x1 (ix3 b s ⟨k.val, by omega⟩) = x0 (ix2 ⟨b.val * 2048 + s.val, by omega⟩ k) := by
  pointwise [Cert.Reference4Ideal.Read.val_main_v4, Cert.Reference4Ideal.Read.val_main_v3, Cert.Reference4Ideal.Read.val_main_v2, Cert.Reference4Ideal.Read.val_main_v1, Cert.Reference4Ideal.Read.val_main_v0]

theorem v4_high (x0 x1 : Vec Ideal S8192x1024 .bf16) (b : Fin 4) (s : Fin 2048) (k : Fin 1024) :
    Cert.Reference4Ideal.Read.val_main_v4 (F := Ideal) x0 x1 (ix3 b s ⟨1024 + k.val, by omega⟩) = x1 (ix2 ⟨b.val * 2048 + s.val, by omega⟩ k) := by
  pointwise [Cert.Reference4Ideal.Read.val_main_v4, Cert.Reference4Ideal.Read.val_main_v3, Cert.Reference4Ideal.Read.val_main_v2, Cert.Reference4Ideal.Read.val_main_v1, Cert.Reference4Ideal.Read.val_main_v0]

theorem v7_eq (x0 x1 : Vec Ideal S8192x1024 .bf16) (x2 : Vec Ideal S1x2048x2048 .f32) (x3 : Vec Ideal S4x2048x2048 .f32) (b : Fin 4) (s j : Fin 2048) :
    Cert.Reference4Ideal.Read.val_main_v7 (F := Ideal) x0 x1 x2 x3 (ix3 b s j) = cell x0 x1 x2 x3 ⟨b.val * 2048 + s.val, by omega⟩ j := by
  have e1 : (b.val * 2048 + s.val) / 2048 = b.val := by omega
  have e2 : (b.val * 2048 + s.val) % 2048 = s.val := by omega
  have h : Cert.Reference4Ideal.Read.val_main_v7 (F := Ideal) x0 x1 x2 x3 (ix3 b s j)
      = (x3 (ix3 b s j) : EReal) + ∑ k : Fin 2048, (Cert.Reference4Ideal.Read.val_main_v4 (F := Ideal) x0 x1 (ix3 b s k) : EReal) * x2 (ix3 0 k j) := by
    unfold Cert.Reference4Ideal.Read.val_main_v7 Cert.Reference4Ideal.Read.val_main_v6
    generalize Cert.Reference4Ideal.Read.val_main_v4 (F := Ideal) x0 x1 = y
    pointwise [Cert.Reference4Ideal.Read.val_main_v5]
  rw [h, Fin.sum_univ_add (a := 1024) (b := 1024) (fun k : Fin 2048 => (Cert.Reference4Ideal.Read.val_main_v4 (F := Ideal) x0 x1 (ix3 b s k) : EReal) * x2 (ix3 0 k j)), ← add_assoc]
  unfold cell
  simp only [e1, e2]
  refine congrArg₂ (· + ·) (congrArg₂ (· + ·) rfl (Finset.sum_congr rfl fun k _ => ?_)) (Finset.sum_congr rfl fun k _ => ?_)
  · exact congrArg (· * _) (v4_low x0 x1 b s k)
  · exact congrArg (· * _) (v4_high x0 x1 b s k)

theorem v23_eq (x0 x1 : Vec Ideal S8192x1024 .bf16) (x2 : Vec Ideal S1x2048x2048 .f32) (x3 : Vec Ideal S4x2048x2048 .f32) (x4 : Vec Ideal S1x2048 .f32) (b : Fin 4) (s j : Fin 2048) :
    Cert.Reference4Ideal.Read.val_main_v23 (F := Ideal) x0 x1 x2 x3 x4 (ix3 b s j) = normed (cell x0 x1 x2 x3 ⟨b.val * 2048 + s.val, by omega⟩) (x4 (ix2 0 j)) j := by
  have h : Cert.Reference4Ideal.Read.val_main_v23 (F := Ideal) x0 x1 x2 x3 x4 (ix3 b s j)
      = normed (fun k => Cert.Reference4Ideal.Read.val_main_v7 (F := Ideal) x0 x1 x2 x3 (ix3 b s k)) (x4 (ix2 0 j)) j := by
    unfold Cert.Reference4Ideal.Read.val_main_v23 Cert.Reference4Ideal.Read.val_main_v21 Cert.Reference4Ideal.Read.val_main_v18 Cert.Reference4Ideal.Read.val_main_v17 Cert.Reference4Ideal.Read.val_main_v16 Cert.Reference4Ideal.Read.val_main_v15 Cert.Reference4Ideal.Read.val_main_v13 Cert.Reference4Ideal.Read.val_main_v11 Cert.Reference4Ideal.Read.val_main_v10 Cert.Reference4Ideal.Read.val_main_v9 normed
    generalize Cert.Reference4Ideal.Read.val_main_v7 (F := Ideal) x0 x1 x2 x3 = y
    pointwise [Cert.Reference4Ideal.Read.val_main_v20, Cert.Reference4Ideal.Read.val_main_v19, Cert.Reference4Ideal.Read.val_main_v8, Cert.Reference4Ideal.Read.val_main_v14, Cert.Reference4Ideal.Read.val_main_v12, Cert.Reference4Ideal.Read.val_main_cst, Cert.Reference4Ideal.Read.val_main_cst_0, Cert.Reference4Ideal.Read.val_main_cst_1]
  rw [h]
  congr 1
  funext k
  exact v7_eq x0 x1 x2 x3 b s k

theorem result_eq : Cert.Reference4Ideal.Read.val_main_v22 (F := Ideal) (a0 m c) (a1 m c) (a2 m c) (a3 m c) = flat m c := by
  funext i
  have hi : i = ix2 (i 0) (i 1) := by
    funext b
    match b with
    | ⟨0, _⟩ => rfl
    | ⟨1, _⟩ => rfl
  have h : ∀ (r : Fin 8192) (j : Fin 2048), Cert.Reference4Ideal.Read.val_main_v22 (F := Ideal) (a0 m c) (a1 m c) (a2 m c) (a3 m c) (ix2 r j)
      = Cert.Reference4Ideal.Read.val_main_v7 (F := Ideal) (a0 m c) (a1 m c) (a2 m c) (a3 m c) (ix3 ⟨r.val / 2048, by omega⟩ ⟨r.val % 2048, Nat.mod_lt _ (by decide)⟩ j) := by
    intro r j
    unfold Cert.Reference4Ideal.Read.val_main_v22
    generalize Cert.Reference4Ideal.Read.val_main_v7 (F := Ideal) (a0 m c) (a1 m c) (a2 m c) (a3 m c) = y
    pointwise
  rw [hi]
  refine ((h (i 0) (i 1)).trans (v7_eq _ _ _ _ _ _ _)).trans ?_
  exact congrArg (fun r => cell (a0 m c) (a1 m c) (a2 m c) (a3 m c) r (i 1)) (Fin.ext (Nat.div_add_mod' _ _))

theorem result_norm_eq : Cert.Reference4Ideal.Read.val_main_v24 (F := Ideal) (a0 m c) (a1 m c) (a2 m c) (a3 m c) (a4 m c) = flatNorm m c := by
  funext i
  have hi : i = ix2 (i 0) (i 1) := by
    funext b
    match b with
    | ⟨0, _⟩ => rfl
    | ⟨1, _⟩ => rfl
  have h : ∀ (r : Fin 8192) (j : Fin 2048), Cert.Reference4Ideal.Read.val_main_v24 (F := Ideal) (a0 m c) (a1 m c) (a2 m c) (a3 m c) (a4 m c) (ix2 r j)
      = Cert.Reference4Ideal.Read.val_main_v23 (F := Ideal) (a0 m c) (a1 m c) (a2 m c) (a3 m c) (a4 m c) (ix3 ⟨r.val / 2048, by omega⟩ ⟨r.val % 2048, Nat.mod_lt _ (by decide)⟩ j) := by
    intro r j
    unfold Cert.Reference4Ideal.Read.val_main_v24
    generalize Cert.Reference4Ideal.Read.val_main_v23 (F := Ideal) (a0 m c) (a1 m c) (a2 m c) (a3 m c) (a4 m c) = y
    pointwise
  rw [hi]
  refine ((h (i 0) (i 1)).trans (v23_eq _ _ _ _ _ _ _ _)).trans ?_
  exact congrArg (fun r => normed (cell (a0 m c) (a1 m c) (a2 m c) (a3 m c) r) (a4 m c (ix2 0 (i 1))) (i 1)) (Fin.ext (Nat.div_add_mod' _ _))

end Cert.Kernel4Ideal.Out

end
-- ==== Proof.Odd.Lanes.lean ====
/- The odd layer's projection stores its output block as four slabs of 128 lanes. This module states what the four stores
   leave: to each slab of the accumulator its own function. -/
module

public import proofs.«01_k».proof.Proof.Gen.Kernel3Ideal.Frame
public import proofs.«01_k».proof.Proof.Gen.Kernel3Ideal.Skeleton
public import Idealize.ShloMosaic.Lib.Pipeline.Value

@[expose] public section

set_option maxRecDepth 16384

noncomputable section

namespace Cert.Kernel3Ideal.Odd

open Cert.Kernel3Ideal Cert.Kernel3Ideal.Gen
open Idealize.ShloMosaic Idealize.ShloMosaic.TcCoe

variable {F : FTy → Type} [FloatOps F]

/-- Lanes `128 k … 128 k + 127` lie inside the block. -/
theorem slab_inb (k : Fin 4) : ∀ a, (![0, 128 * k.val] : Fin 2 → Nat) a + S1024x128.size a ≤ S1024x512.size a := by
  intro a
  match a with
  | ⟨0, _⟩ => exact Nat.le_refl 1024
  | ⟨1, _⟩ => show 128 * k.val + 128 ≤ 512; omega

/-- The rectangle of slab `k`. -/
abbrev slabRect (k : Fin 4) : Rect S1024x512 := Rect.unit (s := S1024x512) ![0, 128 * k.val] S1024x128.size (slab_inb k)

/-- Slab `k` of the accumulator. -/
def slab (X : Vec F S1024x512 .f32) (k : Fin 4) : Vec F S1024x128 .f32 := View.ld (Val := Elt F) (e' := .f32) X (slabRect k)

/-- The slab a lane lies in, -/
def slabOf (y : S1024x512.Idx) : Fin 4 := ⟨(y 1).val / 128, by have : (y 1).val < 512 := (y 1).isLt; omega⟩

/-- and its place there. -/
def inSlab (y : S1024x512.Idx) : S1024x128.Idx := fun a => match a with
  | ⟨0, _⟩ => (y 0 : Fin 1024)
  | ⟨1, _⟩ => (⟨(y 1).val % 128, Nat.mod_lt _ (by decide)⟩ : Fin 128)

/-- Each slab under its own function, the results side by side. -/
def lanes (f : Fin 4 → Vec F S1024x128 .f32 → Vec F S1024x128 .bf16) (X : Vec F S1024x512 .f32) : Vec F S1024x512 .bf16 :=
  fun y => f (slabOf y) (slab X (slabOf y)) (inSlab y)

/-- At place `x` of slab `k`, `lanes` is that slab under its function. -/
theorem lanes_emb (f : Fin 4 → Vec F S1024x128 .f32 → Vec F S1024x128 .bf16) (X : Vec F S1024x512 .f32) (k : Fin 4) (x : S1024x128.Idx) :
    lanes f X ((slabRect k).emb x) = f k (slab X k) x := by
  have hx : (x 1).val < 128 := (x 1).isLt
  have h1 : (((slabRect k).emb x) 1).val = 128 * k.val + 1 * (x 1).val := by rw [Rect.emb_apply]; rfl
  have hs : slabOf ((slabRect k).emb x) = k := Fin.ext (by show (((slabRect k).emb x) 1).val / 128 = _; omega)
  have hi : inSlab ((slabRect k).emb x) = x := by
    funext a
    match a with
    | ⟨0, _⟩ =>
      apply Fin.ext
      show (((slabRect k).emb x) 0).val = (x 0).val
      rw [Rect.emb_apply]; show 0 + 1 * (x 0).val = _; omega
    | ⟨1, _⟩ => apply Fin.ext; show (((slabRect k).emb x) 1).val % 128 = (x 1).val; omega
  unfold lanes; rw [hs, hi]

/-- A block whose four slabs were stored so from the accumulator's slabs reads `lanes f`. -/
theorem read_slabs {sig' : RefSig} {κ : Kind} {sp : Space} (v : View sig' κ sp S1024x512 .bf16) (f0 : v.ty.Contents (Elt F))
    (f : Fin 4 → Vec F S1024x128 .f32 → Vec F S1024x128 .bf16) (X : Vec F S1024x512 .f32) (L : List (View.Piece (Elt F) S1024x512 .bf16))
    (hL : L = (List.ofFn fun k : Fin 4 => (⟨slabRect k, f k (slab X k)⟩ : View.Piece (Elt F) S1024x512 .bf16)).reverse) :
    v.read (Elt F) (v.writes (Elt F) f0 L) = lanes f X := by
  have hc : ∀ y, ∃ p ∈ L, y ∈ p.1.set := fun y => by
    refine ⟨⟨slabRect (slabOf y), f (slabOf y) (slab X (slabOf y))⟩, ?_, ?_⟩
    · rw [hL, List.mem_reverse]; exact (List.mem_ofFn).mpr ⟨slabOf y, rfl⟩
    · have h1 : (y 1).val < 512 := (y 1).isLt
      have h0 : (y 0).val < 1024 := (y 0).isLt
      rw [Rect.mem_set_unit]
      intro a
      match a with
      | ⟨0, _⟩ => exact ⟨Nat.zero_le _, by show (y 0).val < 0 + 1024; omega⟩
      | ⟨1, _⟩ =>
        refine ⟨?_, ?_⟩
        · show 128 * ((y 1).val / 128) ≤ (y 1).val; omega
        · show (y 1).val < 128 * ((y 1).val / 128) + 128; omega
  rw [View.read_writes_eq_canon _ _ _ hc]
  funext y
  refine View.canon_apply_of_pieces (lanes f X) L ?_ y (hc y)
  intro p hp x
  rw [hL, List.mem_reverse] at hp
  obtain ⟨k, rfl⟩ := (List.mem_ofFn).mp hp
  exact (lanes_emb f X k x).symm

end Cert.Kernel3Ideal.Odd

end
-- ==== Proof.Odd.Cases.lean ====
/- The body of the odd layer's projection kernel at one grid point, case by case: what it leaves in the output's staging block
   and in the accumulator, as functions of the blocks it was handed. -/
module

public import proofs.«01_k».proof.Proof.Odd.Lanes

@[expose] public section

set_option maxRecDepth 16384

noncomputable section

namespace Cert.Kernel3Ideal.Odd

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch: the first point of the grid. -/
abbrev first (i : grid0.Coords) : Prop :=
  (Scalar.cmpi .ne (Scalar.extui (Scalar.cmpi .eq (BitVec.ofNat 32 (i 0).val) 0#32)) 0#32) = 1#1

/-! ## What is computed -/

/-- The accumulator: the rows of `x` against the columns of the weight block. -/
def accOf (w : Vec F S1x2048x512 .f32) (x : Vec F S1024x2048 .bf16) : Vec F S1024x512 .f32 := k0_pay38 w x
/-- The gain row of the queries, -/
def gainQ (g : Vec F S2x1x128 .f32) : Vec F S1x1x128 .f32 :=
  View.ld (Val := Elt F) (e' := .f32) g (Rect.unit (s := S2x1x128) ![0, 0, 0] S1x1x128.size inb_S2x1x128_S1x1x128_0_0_0)
/-- and of the keys. -/
def gainK (g : Vec F S2x1x128 .f32) : Vec F S1x1x128 .f32 :=
  View.ld (Val := Elt F) (e' := .f32) g (Rect.unit (s := S2x1x128) ![1, 0, 0] S1x1x128.size inb_S2x1x128_S1x1x128_1_0_0)
/-- A slab of two heads, each normalised and rotated, -/
def headF (g : Vec F S1x1x128 .f32) (c s : Vec F S1024x128 .f32) (a : Vec F S1024x128 .f32) : Vec F S1024x128 .bf16 :=
  k0_pay15 (k0_pay10 a g) (k0_pay11 c) (k0_pay12 s) k0_pay13 (k0_pay14 a g)
/-- rounded, -/
def castF (a : Vec F S1024x128 .f32) : Vec F S1024x128 .bf16 := k0_pay40 a
/-- times its logistic. -/
def siluF (a : Vec F S1024x128 .f32) : Vec F S1024x128 .bf16 := k0_pay1 a
/-- The group of the keys and values: two slabs of keys, then two of values. -/
def keyF (g : Vec F S1x1x128 .f32) (c s : Vec F S1024x128 .f32) (k : Fin 4) : Vec F S1024x128 .f32 → Vec F S1024x128 .bf16 :=
  if k.val < 2 then headF g c s else castF

section
variable (c : Dev nD) (i : grid0.Coords) (arg1 : Memref sig .tc .vmem S1024x2048 .bf16) (harg1 : arg1.IsWhole) (arg2 : Memref sig .tc .vmem S1x2048x512 .f32) (harg2 : arg2.IsWhole) (arg3 : Memref sig .tc .vmem S2x1x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .bf16) (harg6 : arg6.IsWhole) (arg7 : Memref sig .tc .vmem S1024x512 .f32) (harg7 : arg7.IsWhole)
    (x0 : Vec F S1024x2048 .bf16) (x1 : Vec F S1x2048x512 .f32) (x2 : Vec F S2x1x128 .f32) (x3 : Vec F S1024x128 .f32) (x4 : Vec F S1024x128 .f32)

/-- The inputs' staging buffers at their contents. -/
def Ins : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4)

/-- The body's triple with the inputs kept: from `P` (the output's block and the accumulator before) to `Q`. -/
def Triple (P Q : sProp 𝕄) : Prop :=
  ∀ (E : Set ℕ) (K : PUnit → sProp 𝕄),
    iprop(Ins c arg1 arg2 arg3 arg4 arg5 x0 x1 x2 x3 x4 ∗ P ∗ (iprop(Ins c arg1 arg2 arg3 arg4 arg5 x0 x1 x2 x3 x4 ∗ Q) -∗ K ⟨⟩))
      ⊢ wp frame (wpE (defs₀ (F := F)) Variants.none c none) E (cc0_odd_proj i arg1 harg1 arg2 harg2 arg3 harg3 arg4 harg4 arg5 harg5 arg6 harg6 arg7 harg7) K

end

/-- A load of a whole buffer at contents that read `x` reads `x` at the rectangle. -/
theorem readAt_unread {s : Shape} {e : EltTy} (a : Memref sig .tc .vmem s e) (ha : a.IsWhole) (x : Vec F s e) (r : Rect s) :
    View.readAt (Elt F) a.view r.toLoadRect (ha.unread x) = View.ld (Val := Elt F) (e' := e) x r := by
  rw [View.readAt_eq_ld, ha.read_unread]

/-- The zero offsets of a rank-two rectangle -/
theorem zero2 : (![0, 0] : Fin 2 → Nat) = fun _ => 0 := by
  funext a
  match a with
  | ⟨0, _⟩ => rfl
  | ⟨1, _⟩ => rfl

/-- and of a rank-three one. -/
theorem zero3 : (![0, 0, 0] : Fin 3 → Nat) = fun _ => 0 := by
  funext a
  match a with
  | ⟨0, _⟩ => rfl
  | ⟨1, _⟩ => rfl
  | ⟨2, _⟩ => rfl

/-- A block stored whole reads what was stored. -/
theorem read_whole (v : View sig .tc .vmem S1024x512 .f32) (f0 : v.ty.Contents (Elt F)) (p : Vec F S1024x512 .f32) :
    v.read (Elt F) (v.writes (Elt F) f0 [⟨Rect.unit ![0, 0] S1024x512.size inb_S1024x512_S1024x512_0_0, p⟩]) = p := by
  rw [View.read_writes_eq_canon _ _ _ fun y => ⟨_, List.mem_singleton_self _, View.mem_set_unit_zero zero2 inb_S1024x512_S1024x512_0_0 y⟩]
  exact View.canon_unit_zero zero2 _ _

/-- The accumulator's payload over the two operand blocks loaded whole. -/
theorem acc_loads (x0 : Vec F S1024x2048 .bf16) (x1 : Vec F S1x2048x512 .f32) :
    accOf (View.ld (Val := Elt F) (e' := .f32) x1 (Rect.unit ![0, 0, 0] S1x2048x512.size inb_S1x2048x512_S1x2048x512_0_0_0))
      (View.ld (Val := Elt F) (e' := .bf16) x0 (Rect.unit ![0, 0] S1024x2048.size inb_S1024x2048_S1024x2048_0_0)) = accOf x1 x0 := by
  rw [View.ld_unit_zero zero3, View.ld_unit_zero zero2]

/-- A table block loaded whole. -/
theorem tab_load (x : Vec F S1024x128 .f32) :
    View.ld (Val := Elt F) (e' := .f32) x (Rect.unit ![0, 0] S1024x128.size inb_S1024x128_S1024x128_0_0) = x :=
  View.ld_unit_zero zero2 _ _

section
variable (c : Dev nD) (i : grid0.Coords) (arg1 : Memref sig .tc .vmem S1024x2048 .bf16) (harg1 : arg1.IsWhole) (arg2 : Memref sig .tc .vmem S1x2048x512 .f32) (harg2 : arg2.IsWhole) (arg3 : Memref sig .tc .vmem S2x1x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .bf16) (harg6 : arg6.IsWhole) (arg7 : Memref sig .tc .vmem S1024x512 .f32) (harg7 : arg7.IsWhole)
    (x0 : Vec F S1024x2048 .bf16) (x1 : Vec F S1x2048x512 .f32) (x2 : Vec F S2x1x128 .f32) (x3 : Vec F S1024x128 .f32) (x4 : Vec F S1024x128 .f32) (xs : Vec F S1024x512 .f32)

set_option maxHeartbeats 1000000 in
/-- The first point only multiplies. -/
theorem run_first (hc0 : first i) (hc1 : ¬k0_cond2 i = 1#1) (hc2 : ¬k0_cond3 i = 1#1) (hc3 : ¬k0_cond4 i = 1#1) (hc4 : ¬k0_cond5 i = 1#1) :
    Triple c i arg1 harg1 arg2 harg2 arg3 harg3 arg4 harg4 arg5 harg5 arg6 harg6 arg7 harg7 x0 x1 x2 x3 x4
      iprop(∃ d, owns (c : Thread nD τ) arg7 fullShare d)
      iprop(owns (c : Thread nD τ) arg7 fullShare (accOf x1 x0)) := by
  intro E K
  simp only [cc0_odd_proj_eq_skeleton]; unfold cc0_odd_proj_skel
  simp only [k0_part8_eq_skeleton]
  unfold Ins owns
  iintro ⟨⟨⟨%f0, %hf0, H0⟩, ⟨%f1, %hf1, H1⟩, ⟨%f2, %hf2, H2⟩, ⟨%f3, %hf3, H3⟩, ⟨%f4, %hf4, H4⟩⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1 | sl_exact hc2 | sl_exact hc3 | sl_exact hc4)
  sl_step
  iapply Hk
  isplitr [HS0]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  iexists _; isplitr
  swap; · iexact HS0
  ipureintro
  refine (read_whole _ _ _).trans ?_
  simp only [readAt_unread]
  exact acc_loads x0 x1

set_option maxHeartbeats 1000000 in
/-- A query point. -/
theorem run_q (hc0 : ¬first i) (hc1 : k0_cond2 i = 1#1) (hc2 : ¬k0_cond3 i = 1#1) (hc3 : ¬k0_cond4 i = 1#1) (hc4 : ¬k0_cond5 i = 1#1) :
    Triple c i arg1 harg1 arg2 harg2 arg3 harg3 arg4 harg4 arg5 harg5 arg6 harg6 arg7 harg7 x0 x1 x2 x3 x4
      iprop((∃ d, owns (c : Thread nD τ) arg6 fullShare d) ∗ owns (c : Thread nD τ) arg7 fullShare xs)
      iprop(owns (c : Thread nD τ) arg6 fullShare (lanes (fun _ => headF (gainQ x2) x3 x4) xs) ∗ owns (c : Thread nD τ) arg7 fullShare (accOf x1 x0)) := by
  intro E K
  simp only [cc0_odd_proj_eq_skeleton]; unfold cc0_odd_proj_skel
  simp only [k0_part8_eq_skeleton, k0_part1_eq_skeleton, k0_part2_eq_skeleton, k0_part3_eq_skeleton, k0_part4_eq_skeleton, k0_part5_eq_skeleton]
  unfold Ins owns
  iintro ⟨⟨⟨%f0, %hf0, H0⟩, ⟨%f1, %hf1, H1⟩, ⟨%f2, %hf2, H2⟩, ⟨%f3, %hf3, H3⟩, ⟨%f4, %hf4, H4⟩⟩, ⟨⟨%d5, %f5, -, H5⟩, ⟨%fs0, %hfs0, HS0⟩⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hfs0
  sl_exec (disch := first | sl_exact hc0 | sl_exact hc1 | sl_exact hc2 | sl_exact hc3 | sl_exact hc4)
  sl_step
  iapply Hk
  isplitr [H5 HS0]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr
    swap; · iexact H5
    ipureintro
    refine (read_slabs _ _ (fun _ => headF (gainQ x2) (View.ld (Val := Elt F) (e' := .f32) x3 (Rect.unit ![0, 0] S1024x128.size inb_S1024x128_S1024x128_0_0)) (View.ld (Val := Elt F) (e' := .f32) x4 (Rect.unit ![0, 0] S1024x128.size inb_S1024x128_S1024x128_0_0))) xs _ ?_).trans (by rw [tab_load, tab_load])
    sl_unfold_words
    simp only [readAt_unread]
    rfl
  iexists _; isplitr
  swap; · iexact HS0
  ipureintro
  refine (read_whole _ _ _).trans ?_
  sl_unfold_words
  simp only [readAt_unread]
  exact acc_loads x0 x1

set_option maxHeartbeats 1000000 in
/-- The keys' and values' point. -/
theorem run_k (hc0 : ¬first i) (hc1 : ¬k0_cond2 i = 1#1) (hc2 : k0_cond3 i = 1#1) (hc3 : ¬k0_cond4 i = 1#1) (hc4 : ¬k0_cond5 i = 1#1) :
    Triple c i arg1 harg1 arg2 harg2 arg3 harg3 arg4 harg4 arg5 harg5 arg6 harg6 arg7 harg7 x0 x1 x2 x3 x4
      iprop((∃ d, owns (c : Thread nD τ) arg6 fullShare d) ∗ owns (c : Thread nD τ) arg7 fullShare xs)
      iprop(owns (c : Thread nD τ) arg6 fullShare (lanes (keyF (gainK x2) x3 x4) xs) ∗ owns (c : Thread nD τ) arg7 fullShare (accOf x1 x0)) := by
  intro E K
  simp only [cc0_odd_proj_eq_skeleton]; unfold cc0_odd_proj_skel
  simp only [k0_part8_eq_skeleton, k0_part6_eq_skeleton, k0_part7_eq_skeleton]
  unfold Ins owns
  iintro ⟨⟨⟨%f0, %hf0, H0⟩, ⟨%f1, %hf1, H1⟩, ⟨%f2, %hf2, H2⟩, ⟨%f3, %hf3, H3⟩, ⟨%f4, %hf4, H4⟩⟩, ⟨⟨%d5, %f5, -, H5⟩, ⟨%fs0, %hfs0, HS0⟩⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hfs0
  sl_exec (disch := first | sl_exact hc0 | sl_exact hc1 | sl_exact hc2 | sl_exact hc3 | sl_exact hc4)
  sl_step
  iapply Hk
  isplitr [H5 HS0]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr
    swap; · iexact H5
    ipureintro
    refine (read_slabs _ _ (keyF (gainK x2) (View.ld (Val := Elt F) (e' := .f32) x3 (Rect.unit ![0, 0] S1024x128.size inb_S1024x128_S1024x128_0_0)) (View.ld (Val := Elt F) (e' := .f32) x4 (Rect.unit ![0, 0] S1024x128.size inb_S1024x128_S1024x128_0_0))) xs _ ?_).trans (by rw [tab_load, tab_load])
    sl_unfold_words
    simp only [readAt_unread]
    rfl
  iexists _; isplitr
  swap; · iexact HS0
  ipureintro
  refine (read_whole _ _ _).trans ?_
  simp only [readAt_unread]
  exact acc_loads x0 x1

set_option maxHeartbeats 1000000 in
/-- A gate point. -/
theorem run_silu (hc0 : ¬first i) (hc1 : ¬k0_cond2 i = 1#1) (hc2 : ¬k0_cond3 i = 1#1) (hc3 : k0_cond4 i = 1#1) (hc4 : ¬k0_cond5 i = 1#1) :
    Triple c i arg1 harg1 arg2 harg2 arg3 harg3 arg4 harg4 arg5 harg5 arg6 harg6 arg7 harg7 x0 x1 x2 x3 x4
      iprop((∃ d, owns (c : Thread nD τ) arg6 fullShare d) ∗ owns (c : Thread nD τ) arg7 fullShare xs)
      iprop(owns (c : Thread nD τ) arg6 fullShare (lanes (fun _ => siluF) xs) ∗ owns (c : Thread nD τ) arg7 fullShare (accOf x1 x0)) := by
  intro E K
  simp only [cc0_odd_proj_eq_skeleton]; unfold cc0_odd_proj_skel
  simp only [k0_part8_eq_skeleton]
  unfold Ins owns
  iintro ⟨⟨⟨%f0, %hf0, H0⟩, ⟨%f1, %hf1, H1⟩, ⟨%f2, %hf2, H2⟩, ⟨%f3, %hf3, H3⟩, ⟨%f4, %hf4, H4⟩⟩, ⟨⟨%d5, %f5, -, H5⟩, ⟨%fs0, %hfs0, HS0⟩⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hfs0
  sl_exec (disch := first | sl_exact hc0 | sl_exact hc1 | sl_exact hc2 | sl_exact hc3 | sl_exact hc4)
  sl_step
  iapply Hk
  isplitr [H5 HS0]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr
    swap; · iexact H5
    ipureintro
    refine read_slabs _ _ (fun _ => siluF) xs _ ?_
    sl_unfold_words
    simp only [readAt_unread]
    rfl
  iexists _; isplitr
  swap; · iexact HS0
  ipureintro
  refine (read_whole _ _ _).trans ?_
  simp only [readAt_unread]
  exact acc_loads x0 x1

set_option maxHeartbeats 1000000 in
/-- The last point only finishes. -/
theorem run_last (hc0 : ¬first i) (hc1 : ¬k0_cond2 i = 1#1) (hc2 : ¬k0_cond3 i = 1#1) (hc3 : ¬k0_cond4 i = 1#1) (hc4 : k0_cond5 i = 1#1) :
    Triple c i arg1 harg1 arg2 harg2 arg3 harg3 arg4 harg4 arg5 harg5 arg6 harg6 arg7 harg7 x0 x1 x2 x3 x4
      iprop((∃ d, owns (c : Thread nD τ) arg6 fullShare d) ∗ owns (c : Thread nD τ) arg7 fullShare xs)
      iprop(owns (c : Thread nD τ) arg6 fullShare (lanes (fun _ => siluF) xs) ∗ owns (c : Thread nD τ) arg7 fullShare xs) := by
  intro E K
  simp only [cc0_odd_proj_eq_skeleton]; unfold cc0_odd_proj_skel
  simp only [k0_part8_eq_skeleton]
  unfold Ins owns
  iintro ⟨⟨⟨%f0, %hf0, H0⟩, ⟨%f1, %hf1, H1⟩, ⟨%f2, %hf2, H2⟩, ⟨%f3, %hf3, H3⟩, ⟨%f4, %hf4, H4⟩⟩, ⟨⟨%d5, %f5, -, H5⟩, ⟨%fs0, %hfs0, HS0⟩⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hfs0
  sl_exec (disch := first | sl_exact hc0 | sl_exact hc1 | sl_exact hc2 | sl_exact hc3 | sl_exact hc4)
  sl_step
  iapply Hk
  isplitr [H5 HS0]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr
    swap; · iexact H5
    ipureintro
    refine read_slabs _ _ (fun _ => siluF) xs _ ?_
    sl_unfold_words
    simp only [readAt_unread]
    rfl
  iexists _; isplitr; · ipureintro; exact harg7.read_unread _
  iexact HS0

end

end Cert.Kernel3Ideal.Odd

end
-- ==== Proof.Odd.Frame.lean ====
/- The run of the odd layer's projection pipeline: the accumulator carries one point's product to the next, which finishes it
   and writes the output's block; every point's body meets its obligation, so @main runs to the end and leaves every
   argument array as it was. Over any float values. -/
module

public import proofs.«01_k».proof.Proof.Odd.Cases
public import Idealize.ShloMosaic.Lib.Claim

@[expose] public section

set_option maxRecDepth 16384

noncomputable section

namespace Cert.Kernel3Ideal.Odd

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch a point takes -/

theorem at_first : ∀ t : Fin cfg0.N, first (grid0.coords t) ↔ t.val = 0 :=
  (by decide +kernel : ∀ t : Fin grid0.N, first (grid0.coords t) ↔ t.val = 0)
theorem at_q : ∀ t : Fin cfg0.N, k0_cond2 (grid0.coords t) = 1#1 ↔ (t.val + 8) % 9 < 4 :=
  (by decide +kernel : ∀ t : Fin grid0.N, k0_cond2 (grid0.coords t) = 1#1 ↔ (t.val + 8) % 9 < 4)
theorem at_k : ∀ t : Fin cfg0.N, k0_cond3 (grid0.coords t) = 1#1 ↔ (t.val + 8) % 9 = 4 :=
  (by decide +kernel : ∀ t : Fin grid0.N, k0_cond3 (grid0.coords t) = 1#1 ↔ (t.val + 8) % 9 = 4)
theorem at_silu : ∀ t : Fin cfg0.N, k0_cond4 (grid0.coords t) = 1#1 ↔ (4 < (t.val + 8) % 9 ∧ t.val ≠ 0 ∧ t.val ≠ 72) :=
  (by decide +kernel : ∀ t : Fin grid0.N, k0_cond4 (grid0.coords t) = 1#1 ↔ (4 < (t.val + 8) % 9 ∧ t.val ≠ 0 ∧ t.val ≠ 72))
theorem at_last : ∀ t : Fin cfg0.N, k0_cond5 (grid0.coords t) = 1#1 ↔ t.val = 72 :=
  (by decide +kernel : ∀ t : Fin grid0.N, k0_cond5 (grid0.coords t) = 1#1 ↔ t.val = 72)

/-- The output is idle at the first point, -/
theorem idle_first : ∀ t : Fin cfg0.N, t.val = 0 → cfg0.idle 5 (grid0.coords t) = true := by decide +kernel
/-- where it is not written back, -/
theorem noFlush_first : ∀ t : Fin cfg0.N, t.val = 0 → (cfg0.win 5).flush t = false := by decide +kernel
/-- and live at every other. -/
theorem live_rest : ∀ t : Fin cfg0.N, t.val ≠ 0 → cfg0.idle 5 (grid0.coords t) = false := by decide +kernel

/-! ## A point that finishes -/

/-- What a point does to each slab of the accumulator, by the group of columns it is at. -/
def lane (i : grid0.Coords) (x2 : Vec F S2x1x128 .f32) (x3 x4 : Vec F S1024x128 .f32) :
    Fin 4 → Vec F S1024x128 .f32 → Vec F S1024x128 .bf16 :=
  if k0_cond2 i = 1#1 then fun _ => headF (gainQ x2) x3 x4
  else if k0_cond3 i = 1#1 then keyF (gainK x2) x3 x4
  else fun _ => siluF

/-- What it leaves in the accumulator. -/
def next (i : grid0.Coords) (x0 : Vec F S1024x2048 .bf16) (x1 : Vec F S1x2048x512 .f32) (xs : Vec F S1024x512 .f32) : Vec F S1024x512 .f32 :=
  if k0_cond5 i = 1#1 then xs else accOf x1 x0

/-- Every point but the first: its block from the accumulator, then the next product. -/
theorem run_point (c : Dev nD) (t : Fin cfg0.N) (ht : t.val ≠ 0) (arg1 : Memref sig .tc .vmem S1024x2048 .bf16) (harg1 : arg1.IsWhole) (arg2 : Memref sig .tc .vmem S1x2048x512 .f32) (harg2 : arg2.IsWhole) (arg3 : Memref sig .tc .vmem S2x1x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .bf16) (harg6 : arg6.IsWhole) (arg7 : Memref sig .tc .vmem S1024x512 .f32) (harg7 : arg7.IsWhole)
    (x0 : Vec F S1024x2048 .bf16) (x1 : Vec F S1x2048x512 .f32) (x2 : Vec F S2x1x128 .f32) (x3 : Vec F S1024x128 .f32) (x4 : Vec F S1024x128 .f32) (xs : Vec F S1024x512 .f32) :
    Triple c (grid0.coords t) arg1 harg1 arg2 harg2 arg3 harg3 arg4 harg4 arg5 harg5 arg6 harg6 arg7 harg7 x0 x1 x2 x3 x4
      iprop((∃ d, owns (c : Thread nD τ) arg6 fullShare d) ∗ owns (c : Thread nD τ) arg7 fullShare xs)
      iprop(owns (c : Thread nD τ) arg6 fullShare (lanes (lane (grid0.coords t) x2 x3 x4) xs) ∗ owns (c : Thread nD τ) arg7 fullShare (next (grid0.coords t) x0 x1 xs)) := by
  have h0 := at_first t
  have h1 := at_q t
  have h2 := at_k t
  have h3 := at_silu t
  have h4 := at_last t
  have hN : t.val < 73 := lt_of_lt_of_eq t.isLt (show cfg0.N = 73 from N_0)
  have h0' : ¬first (grid0.coords t) := by rw [h0]; exact ht
  unfold lane next
  by_cases c1 : k0_cond2 (grid0.coords t) = 1#1
  · have q := h1.mp c1
    have n2 : ¬k0_cond3 (grid0.coords t) = 1#1 := by rw [h2]; omega
    have n3 : ¬k0_cond4 (grid0.coords t) = 1#1 := by rw [h3]; omega
    have n4 : ¬k0_cond5 (grid0.coords t) = 1#1 := by rw [h4]; omega
    rw [if_pos c1, if_neg n4]
    exact run_q c _ arg1 harg1 arg2 harg2 arg3 harg3 arg4 harg4 arg5 harg5 arg6 harg6 arg7 harg7 x0 x1 x2 x3 x4 xs h0' c1 n2 n3 n4
  rw [if_neg c1]
  have q1 : ¬(t.val + 8) % 9 < 4 := fun h => c1 (h1.mpr h)
  by_cases c2 : k0_cond3 (grid0.coords t) = 1#1
  · have q := h2.mp c2
    have n3 : ¬k0_cond4 (grid0.coords t) = 1#1 := by rw [h3]; omega
    have n4 : ¬k0_cond5 (grid0.coords t) = 1#1 := by rw [h4]; omega
    rw [if_pos c2, if_neg n4]
    exact run_k c _ arg1 harg1 arg2 harg2 arg3 harg3 arg4 harg4 arg5 harg5 arg6 harg6 arg7 harg7 x0 x1 x2 x3 x4 xs h0' c1 c2 n3 n4
  rw [if_neg c2]
  have q2 : ¬(t.val + 8) % 9 = 4 := fun h => c2 (h2.mpr h)
  by_cases c4 : k0_cond5 (grid0.coords t) = 1#1
  · have q := h4.mp c4
    have n3 : ¬k0_cond4 (grid0.coords t) = 1#1 := by rw [h3]; omega
    rw [if_pos c4]
    exact run_last c _ arg1 harg1 arg2 harg2 arg3 harg3 arg4 harg4 arg5 harg5 arg6 harg6 arg7 harg7 x0 x1 x2 x3 x4 xs h0' c1 c2 n3 c4
  · have q4 : ¬t.val = 72 := fun h => c4 (h4.mpr h)
    have c3 : k0_cond4 (grid0.coords t) = 1#1 := h3.mpr ⟨by omega, ht, q4⟩
    rw [if_neg c4]
    exact run_silu c _ arg1 harg1 arg2 harg2 arg3 harg3 arg4 harg4 arg5 harg5 arg6 harg6 arg7 harg7 x0 x1 x2 x3 x4 xs h0' c1 c2 c3 c4

/-! ## The pipeline's proof data -/

variable (m : (ℓ : Loc nD τ sig) → Buf (Elt F) ℓ) (ρ : Dev nD → PrngReg)

/-- The point whose product the accumulator holds after point `n`: the last point makes none. -/
def prodPt (n : ℕ) : Fin cfg0.N := ⟨min n 71, by rw [show cfg0.N = 73 from N_0]; omega⟩

/-- The accumulator after point `n`. -/
def accAt (c : Dev nD) (n : ℕ) : Vec F S1024x512 .f32 :=
  accOf (iblk m c 1 (prodPt n)) (iblk m c 0 (prodPt n))

/-- The output's block after point `t` (which the first point does not make). -/
def outAt (c : Dev nD) (t : Fin cfg0.N) : Vec F S1024x512 .bf16 :=
  lanes (lane (grid0.coords t) (iblk m c 2 t) (iblk m c 3 t) (iblk m c 4 t)) (accAt m c (t.val - 1))

theorem accAt_next (c : Dev nD) (t : Fin cfg0.N) (ht : t.val ≠ 0) :
    next (grid0.coords t) (iblk m c 0 t) (iblk m c 1 t) (accAt m c (t.val - 1)) = accAt m c t.val := by
  have hN : t.val < 73 := lt_of_lt_of_eq t.isLt (show cfg0.N = 73 from N_0)
  unfold next accAt
  by_cases h : k0_cond5 (grid0.coords t) = 1#1
  · rw [if_pos h]
    have := (at_last t).mp h
    have e : prodPt (t.val - 1) = prodPt t.val := Fin.ext (by unfold prodPt; simp only; omega)
    rw [e]
  · rw [if_neg h]
    have : t.val ≠ 72 := fun q => h ((at_last t).mpr q)
    have e : prodPt t.val = t := Fin.ext (by unfold prodPt; simp only; omega)
    rw [e]

/-- The accumulator's buffer. -/
abbrev acc : Memref sig .tc .vmem S1024x512 .f32 := Memref.whole cc0_scratch0

/-- What the launch hands the region, the accumulator spelled as a buffer owned. -/
theorem entry_eq (c : Dev nD) :
    (Pipeline.ΦA spec0 c : sProp 𝕄) = iprop(iprop((∃ d, owns (c : Thread nD τ) acc fullShare d)) ∗ (∃ r, prngReg c r)) := by
  unfold Pipeline.ΦA; rw [scopedRest0_eq]; simp only [acc, owns_whole]; try rfl

/-- What is kept between points: the accumulator at anything before the first, then at the last product made. -/
def kept (c : Dev nD) : ℕ → sProp 𝕄
  | 0 => Pipeline.ΦA spec0 c
  | n + 1 => iprop(owns (c : Thread nD τ) acc fullShare (accAt m c n) ∗ (∃ r, prngReg c r))

theorem kept_pos (c : Dev nD) (n : ℕ) (hn : n ≠ 0) :
    kept m c n = iprop(owns (c : Thread nD τ) acc fullShare (accAt m c (n - 1)) ∗ (∃ r, prngReg c r)) := by
  obtain ⟨k, rfl⟩ := Nat.exists_eq_succ_of_ne_zero hn
  rfl

/-- The arrays as the region finds them; each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := kept m c t.val
  q _ := fullShare
  owed _ := 0

theorem dat_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t :=
  before0_0_of m (dats m 0 c) (dat_A m c 0) (after_0 m c) t d
theorem before_1 (c : Dev nD) (t : Fin cfg0.N) (d) : (dats m 0 c).before 1 t d = iblk m c 1 t :=
  before0_1_of m (dats m 0 c) (dat_A m c 1) (after_1 m c) t d
theorem before_2 (c : Dev nD) (t : Fin cfg0.N) (d) : (dats m 0 c).before 2 t d = iblk m c 2 t :=
  before0_2_of m (dats m 0 c) (dat_A m c 2) (after_2 m c) t d
theorem before_3 (c : Dev nD) (t : Fin cfg0.N) (d) : (dats m 0 c).before 3 t d = iblk m c 3 t :=
  before0_3_of m (dats m 0 c) (dat_A m c 3) (after_3 m c) t d
theorem before_4 (c : Dev nD) (t : Fin cfg0.N) (d) : (dats m 0 c).before 4 t d = iblk m c 4 t :=
  before0_4_of m (dats m 0 c) (dat_A m c 4) (after_4 m c) t d
theorem leaves_0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (cfg0.grid.coords t) = false from rfl, after_4]
theorem leaves_5 (c : Dev nD) (t : Fin cfg0.N) (ht : t.val ≠ 0) : (dats m 0 c).leavesExact 5 t = owns (c : Thread nD τ) (st0_5 t) fullShare (outAt m c t) := by
  unfold Dat.leavesExact; rw [live_rest t ht, after_5]

/-! ## The body's obligation -/

/-- What the body is called with at a point, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 2000000 in
/-- The body at any point: the first only makes a product; every other finishes the last product, then makes its own. -/
theorem sound_body (c : Dev nD) (t : Fin cfg0.N) :
    pre m c t ⊢ wp frame (wpE (defs₀ (F := F)) Variants.none c none) Set.univ (bodyAt0 t) (fun _ => post m c t) := by
  unfold pre post
  simp only [before_0, before_1, before_2, before_3, before_4]
  rw [leaves_0, leaves_1, leaves_2, leaves_3, leaves_4]
  rw [show (dats m 0 c).owesAt () t.succ = (dats m 0 c).owesAt () t.castSucc from rfl]
  rw [show (dats m 0 c).Φ t.succ = kept m c (t.val + 1) from rfl, show (dats m 0 c).Φ t.castSucc = kept m c t.val from rfl]
  rw [kept_pos m c (t.val + 1) (Nat.succ_ne_zero _), Nat.add_sub_cancel]
  by_cases ht : t.val = 0
  · have h0 := (at_first t).mpr ht
    have n1 : ¬k0_cond2 (grid0.coords t) = 1#1 := by rw [at_q t]; omega
    have n2 : ¬k0_cond3 (grid0.coords t) = 1#1 := by rw [at_k t]; omega
    have n3 : ¬k0_cond4 (grid0.coords t) = 1#1 := by rw [at_silu t]; omega
    have n4 : ¬k0_cond5 (grid0.coords t) = 1#1 := by rw [at_last t]; omega
    have e : prodPt t.val = t := Fin.ext (by unfold prodPt; simp only; omega)
    rw [Dat.leavesExact_idle (dats m 0 c) 5 t (idle_first t ht) (noFlush_first t ht)]
    rw [show kept m c t.val = Pipeline.ΦA spec0 c from by rw [ht]; rfl, entry_eq]
    unfold accAt; rw [e]
    iintro ⟨⟨HS, Hg⟩, Ho, ⟨%d0, H0⟩, ⟨%d1, H1⟩, ⟨%d2, H2⟩, ⟨%d3, H3⟩, ⟨%d4, H4⟩, ⟨%d5, H5⟩⟩
    iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) acc (Memref.isWhole_whole _) (iblk m c 0 t) (iblk m c 1 t) (iblk m c 2 t) (iblk m c 3 t) (iblk m c 4 t) h0 n1 n2 n3 n4 Set.univ _)
    unfold Ins
    isplitl [H0 H1 H2 H3 H4]
    · isplitl [H0]; · iexact H0
      isplitl [H1]; · iexact H1
      isplitl [H2]; · iexact H2
      isplitl [H3]; · iexact H3
      iexact H4
    isplitl [HS]; · iexact HS
    iintro ⟨⟨H0, H1, H2, H3, H4⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [leaves_5 m c t ht, kept_pos m c t.val ht, ← accAt_next m c t ht]
    unfold outAt
    iintro ⟨⟨HS, Hg⟩, Ho, ⟨%d0, H0⟩, ⟨%d1, H1⟩, ⟨%d2, H2⟩, ⟨%d3, H3⟩, ⟨%d4, H4⟩, ⟨%d5, H5⟩⟩
    iapply (run_point c t ht (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) acc (Memref.isWhole_whole _) (iblk m c 0 t) (iblk m c 1 t) (iblk m c 2 t) (iblk m c 3 t) (iblk m c 4 t) (accAt m c (t.val - 1)) Set.univ _)
    unfold Ins
    isplitl [H0 H1 H2 H3 H4]
    · isplitl [H0]; · iexact H0
      isplitl [H1]; · iexact H1
      isplitl [H2]; · iexact H2
      isplitl [H3]; · iexact H3
      iexact H4
    isplitl [H5 HS]
    · isplitl [H5]; · iexists _; iexact H5
      iexact HS
    iintro ⟨⟨H0, H1, H2, H3, H4⟩, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at a point's slots is the body there. -/
theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The region's end: what the accumulator holds is forgotten. -/
theorem leave (c : Dev nD) : (dats m 0 c).Φ (Fin.last cfg0.N) ⊢ Pipeline.ΦA spec0 c := by
  rw [show (dats m 0 c).Φ (Fin.last cfg0.N) = kept m c (Fin.last cfg0.N).val from rfl,
    kept_pos m c _ (by rw [Fin.val_last, show cfg0.N = 73 from N_0]; decide), entry_eq]
  iintro ⟨HS, Hg⟩
  isplitl [HS]
  · iexists _; iexact HS
  iexact Hg

/-! ## The run -/

set_option backward.isDefEq.respectTransparency.types false in
/-- @main runs to the end from any memory with zero counters: every array of the pipeline at what the proof data gives it,
    every other buffer as the region found it, every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dat_A m)
    (hin := fun c => Idealize.SL.BI.Entails.refl _) (hout := leave m)

theorem run : θ_run defs (onTc (τ := τ) (main (F := F))) (s₀ m ρ) (Pipeline.FramePost cfgs (dats m) 0 (V m)) :=
  (θ_run defs _ _).mono (fun _ h => h.1) (run_quiet m ρ)

/-- The argument arrays end unchanged and the counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dat_A m) (run m ρ)) ((θ_run defs _ _).mono (fun _ h => h.2) (run_quiet m ρ))

end Cert.Kernel3Ideal.Odd

end
-- ==== Proof.Odd.Slab.lean ====
/- What a point of the odd layer's projection does to one slab of 128 columns, element by element over the extended reals. -/
module

public import proofs.«01_k».proof.Proof.Odd.Cases
public import proofs.«01_k».proof.Proof.Even.Slab

@[expose] public section

set_option maxRecDepth 16384

noncomputable section

namespace Cert.Kernel3Ideal.Odd

open Cert.Kernel3Ideal Cert.Kernel3Ideal.Gen
open Idealize.ShloMosaic
open Cert.KernelIdeal.Even (rope64 cosRow64 sinRow64 half_test)

/-- The head of 64 lanes that a lane of a slab lies in. -/
def half (x : Fin 128 → EReal) (l : Fin 128) (k : Fin 64) : EReal := x ⟨l.val / 64 * 64 + k.val, by omega⟩

/-- A row of two heads side by side, each divided by its root mean square. -/
def unitHalf (x : Fin 128 → EReal) (l : Fin 128) : EReal :=
  x l * Ideal.rsqrt (Ideal.div (∑ k, half x l k * half x l k) (Ideal.ofBits .f32 0x42800000#32) + Ideal.ofBits .f32 0x358637BD#32)

/-- The query's scale, `64 ^ (-1/2) * log2 e` rounded. -/
def qscale : EReal := Ideal.ofBits .f32 0x3E38AA3B#32

/-- The projection at row `r` of the activations and column `j` of the weight (zero past the last column). -/
def proj (x0 : (⟨2, ![8192, 2048]⟩ : Shape).Idx → EReal) (x1 : (⟨3, ![1, 2048, 4608]⟩ : Shape).Idx → EReal) (r : Fin 8192) (j : ℕ) : EReal :=
  if h : j < 4608 then ∑ k : Fin 2048, x0 (ix2 r k) * x1 (ix3 0 k ⟨j, h⟩) else 0

/-- The 128 columns of the projection from column `j` on. -/
def projRow (x0 : (⟨2, ![8192, 2048]⟩ : Shape).Idx → EReal) (x1 : (⟨3, ![1, 2048, 4608]⟩ : Shape).Idx → EReal) (r : Fin 8192) (j : ℕ)
    (l : Fin 128) : EReal := proj x0 x1 r (j + l.val)

/-- What the kernel hands on of a slab's row of the projection at place `s` of its sequence, by the slab `q` of the 36 it is:
    queries, keys, values, gate. -/
def finish (x2 : (⟨3, ![1, 2, 64]⟩ : Shape).Idx → EReal) (s q : ℕ) (v : Fin 128 → EReal) (l : Fin 128) : EReal :=
  if q < 16 then rope64 (fun k => unitHalf v k * (x2 (ix3 0 0 ⟨k.val % 64, Nat.mod_lt _ (by decide)⟩) * qscale)) (cosRow64 s) (sinRow64 s) l
  else if q < 18 then rope64 (fun k => unitHalf v k * x2 (ix3 0 1 ⟨k.val % 64, Nat.mod_lt _ (by decide)⟩)) (cosRow64 s) (sinRow64 s) l
  else if q < 20 then v l
  else v l * Ideal.logistic (v l)

/-- A row of the result at column `j`. -/
def outRow (x0 : (⟨2, ![8192, 2048]⟩ : Shape).Idx → EReal) (x1 : (⟨3, ![1, 2048, 4608]⟩ : Shape).Idx → EReal) (x2 : (⟨3, ![1, 2, 64]⟩ : Shape).Idx → EReal)
    (r : Fin 8192) (j : ℕ) : EReal :=
  finish x2 (r.val % 2048) (j / 128) (projRow x0 x1 r (j / 128 * 128)) ⟨j % 128, Nat.mod_lt _ (by decide)⟩

/-- Which of a slab's two heads a lane is in, as the kernel tests it. -/
theorem head_test : ∀ l : Fin 128, IntOp.cmpi .slt (BitVec.ofNat 32 l.val) 64#32 = if l.val < 64 then 1#1 else 0#1 := by
  decide +kernel

/-- The product: row `r` of the activations against column `c` of the weight block. -/
theorem accOf_apply (w : Vec Ideal S1x2048x512 .f32) (x : Vec Ideal S1024x2048 .bf16) (r : Fin 1024) (c : Fin 512) :
    accOf (F := Ideal) w x (ix2 r c) = ∑ k : Fin 2048, (x (ix2 r k) : EReal) * w (ix3 0 k c) := by
  unfold accOf k0_pay38
  pointwise

/-- A sum over the lanes below 64, the rest at zero, is the sum over the first head; -/
theorem sum_low (f : Fin 128 → EReal) :
    (∑ k : Fin 128, if k.val < 64 then f k else 0) = ∑ k : Fin 64, f ⟨k.val, by omega⟩ := by
  rw [Fin.sum_univ_add (a := 64) (b := 64) (fun k : Fin (64 + 64) => if k.val < 64 then f k else 0)]
  rw [Finset.sum_eq_zero (s := Finset.univ) (f := fun k : Fin 64 => if (Fin.natAdd 64 k).val < 64 then f (Fin.natAdd 64 k) else 0)
    (fun k _ => if_neg (by show ¬64 + k.val < 64; omega)), add_zero]
  exact Finset.sum_congr rfl fun k _ => if_pos k.isLt

/-- and with the lanes below 64 at zero, over the second. -/
theorem sum_high (f : Fin 128 → EReal) :
    (∑ k : Fin 128, if k.val < 64 then 0 else f k) = ∑ k : Fin 64, f ⟨64 + k.val, by omega⟩ := by
  rw [Fin.sum_univ_add (a := 64) (b := 64) (fun k : Fin (64 + 64) => if k.val < 64 then 0 else f k)]
  rw [Finset.sum_eq_zero (s := Finset.univ) (f := fun k : Fin 64 => if (Fin.castAdd 64 k).val < 64 then 0 else f (Fin.castAdd 64 k))
    (fun k _ => if_pos k.isLt), zero_add]
  exact Finset.sum_congr rfl fun k _ => if_neg (by show ¬64 + k.val < 64; omega)

/-- A product with the reciprocal of 64 is the quotient. -/
theorem mul_recip (x : EReal) : x * Ideal.ofBits .f32 0x3C800000#32 = Ideal.div x (Ideal.ofBits .f32 0x42800000#32) := by
  have e64 : Ideal.ofBits .f32 0x42800000#32 = ((64 : ℝ) : EReal) := by
    simp [Ideal.ofBits, Ideal.ieee, -EReal.coe_mul]
    norm_num
  have er : Ideal.ofBits .f32 0x3C800000#32 = (((64 : ℝ)⁻¹ : ℝ) : EReal) := by
    simp [Ideal.ofBits, Ideal.ieee, -EReal.coe_mul]
    norm_num
  unfold Ideal.div
  rw [e64, er, if_neg (by norm_cast), EReal.coe_inv]

theorem pay10_apply (a : Vec Ideal S1024x128 .f32) (g : Vec Ideal S1x1x128 .f32) (r : Fin 1024) (l : Fin 128) :
    k0_pay10 (F := Ideal) a g (ix2 r l) = unitHalf (fun k => a (ix2 r k)) l * g (ix3 0 0 l) := by
  unfold k0_pay10
  pointwise
  simp only [head_test]
  unfold unitHalf Scalar.select
  refine congrArg (fun q : EReal => a (ix2 r l) * Ideal.rsqrt (q + Ideal.ofBits .f32 0x358637BD#32) * g (ix3 0 0 l)) ?_
  rw [← mul_recip]
  by_cases h : l.val < 64
  · rw [if_pos h, if_pos (show (1#1 : BitVec 1) = 1 from rfl)]
    refine congrArg (fun q : EReal => q * Ideal.ofBits .f32 0x3C800000#32) ?_
    refine (Finset.sum_congr rfl fun k _ => ?_).trans ((sum_low fun k => a (ix2 r k) * a (ix2 r k)).trans (Finset.sum_congr rfl fun k _ => ?_))
    · by_cases hk : k.val < 64
      · rw [if_pos hk, if_pos hk, if_pos (show (1#1 : BitVec 1) = 1 from rfl)]
      · rw [if_neg hk, if_neg hk, if_neg (by decide)]
    · unfold half
      rw [show (⟨l.val / 64 * 64 + k.val, by omega⟩ : Fin 128) = ⟨k.val, by omega⟩ from Fin.ext (by show l.val / 64 * 64 + k.val = k.val; omega)]
  · rw [if_neg h, if_neg (by decide)]
    refine congrArg (fun q : EReal => q * Ideal.ofBits .f32 0x3C800000#32) ?_
    refine (Finset.sum_congr rfl fun k _ => ?_).trans ((sum_high fun k => a (ix2 r k) * a (ix2 r k)).trans (Finset.sum_congr rfl fun k _ => ?_))
    · by_cases hk : k.val < 64
      · rw [if_pos hk, if_pos hk, if_pos (show (1#1 : BitVec 1) = 1 from rfl)]
      · rw [if_neg hk, if_neg hk, if_neg (by decide)]
    · unfold half
      rw [show (⟨l.val / 64 * 64 + k.val, by omega⟩ : Fin 128) = ⟨64 + k.val, by omega⟩ from Fin.ext (by show l.val / 64 * 64 + k.val = 64 + k.val; omega)]

theorem headF_apply (g : Vec Ideal S1x1x128 .f32) (c s : Vec Ideal S1024x128 .f32) (a : Vec Ideal S1024x128 .f32) (r : Fin 1024) (l : Fin 128) :
    headF (F := Ideal) g c s a (ix2 r l)
      = rope64 (fun k => unitHalf (fun k => a (ix2 r k)) k * g (ix3 0 0 k)) (fun k => c (ix2 r k)) (fun k => s (ix2 r k)) l := by
  unfold headF k0_pay15 k0_pay14 k0_pay13 k0_pay12 k0_pay11
  pointwise
  rw [half_test]
  simp only [pay10_apply]
  unfold rope64
  by_cases h : l.val % 64 < 32
  · rw [if_pos h, if_pos h]; rfl
  · rw [if_neg h, if_neg h]; rfl

theorem castF_apply (a : Vec Ideal S1024x128 .f32) (r : Fin 1024) (l : Fin 128) :
    castF (F := Ideal) a (ix2 r l) = a (ix2 r l) := rfl

theorem siluF_apply (a : Vec Ideal S1024x128 .f32) (r : Fin 1024) (l : Fin 128) :
    siluF (F := Ideal) a (ix2 r l) = (a (ix2 r l) : EReal) * Ideal.logistic (a (ix2 r l)) := rfl

end Cert.Kernel3Ideal.Odd

end
-- ==== Proof.Odd.Blocks.lean ====
/- The blocks the odd layer's projection hands its body at a grid point, and what the host's preparation leaves in the arrays they
   are cut from, read at an index. -/
module

public import proofs.«01_k».proof.Proof.Odd.Frame
public import proofs.«01_k».proof.Proof.Odd.Slab

@[expose] public section

set_option maxRecDepth 16384

noncomputable section

namespace Cert.Kernel3Ideal.Odd

open Cert.Kernel3Ideal Cert.Kernel3Ideal.Gen
open Idealize.ShloMosaic Idealize.ShloMosaic.TcCoe Idealize.SL.Sem
open Cert.KernelIdeal.Even (cosRow64 sinRow64)

variable (m : (ℓ : Loc nD τ sig) → Buf (Elt Ideal) ℓ) (c : Dev nD)

/-! ## The host's preparation -/

theorem cos64_apply (s : Fin 2048) (l : Fin 128) :
    V m c main_v51 (ix2 s l) = cosRow64 s.val l := by
  entry_read
  pointwise
  rfl

theorem sin64_apply (s : Fin 2048) (l : Fin 128) :
    V m c main_v56 (ix2 s l) = sinRow64 s.val l := by
  entry_read
  pointwise
  rfl

/-- The queries' gains, scaled and laid twice side by side, -/
theorem gain0_apply (l : Fin 128) :
    V m c main_v62 (ix3 0 0 l)
      = HMul.hMul (α := EReal) (β := EReal) (m ((c.tc : Thread nD τ).loc main_arg2) (ix3 0 0 ⟨l.val % 64, Nat.mod_lt _ (by decide)⟩)) qscale := by
  entry_read
  pointwise
  rfl

/-- and the keys'. -/
theorem gain1_apply (l : Fin 128) :
    V m c main_v62 (ix3 1 0 l) = m ((c.tc : Thread nD τ).loc main_arg2) (ix3 0 1 ⟨l.val % 64, Nat.mod_lt _ (by decide)⟩) := by
  entry_read
  pointwise
  show _ * Ideal.ofBits .f32 0x3F800000#32 = _
  rw [show Ideal.ofBits .f32 0x3F800000#32 = (1 : EReal) by simp [Ideal.ofBits, Ideal.ieee, -EReal.coe_mul]; norm_num]
  exact mul_one _

/-! ## Where each window's block lies -/

theorem index_0 : ∀ t : Fin cfg0.N, cc0_transform_0 (grid0.coords t) 0 = min t.val 71 / 9 ∧ cc0_transform_0 (grid0.coords t) 1 = 0 :=
  (by decide +kernel : ∀ t : Fin grid0.N, cc0_transform_0 (grid0.coords t) 0 = min t.val 71 / 9 ∧ cc0_transform_0 (grid0.coords t) 1 = 0)
theorem index_1 : ∀ t : Fin cfg0.N, cc0_transform_1 (grid0.coords t) 0 = 0 ∧ cc0_transform_1 (grid0.coords t) 1 = 0 ∧ cc0_transform_1 (grid0.coords t) 2 = min t.val 71 % 9 :=
  (by decide +kernel : ∀ t : Fin grid0.N, cc0_transform_1 (grid0.coords t) 0 = 0 ∧ cc0_transform_1 (grid0.coords t) 1 = 0 ∧ cc0_transform_1 (grid0.coords t) 2 = min t.val 71 % 9)
theorem index_2 : ∀ t : Fin cfg0.N, cc0_transform_2 (grid0.coords t) 0 = 0 ∧ cc0_transform_2 (grid0.coords t) 1 = 0 ∧ cc0_transform_2 (grid0.coords t) 2 = 0 :=
  (by decide +kernel : ∀ t : Fin grid0.N, cc0_transform_2 (grid0.coords t) 0 = 0 ∧ cc0_transform_2 (grid0.coords t) 1 = 0 ∧ cc0_transform_2 (grid0.coords t) 2 = 0)
theorem index_3 : ∀ t : Fin cfg0.N, cc0_transform_3 (grid0.coords t) 0 = (t.val - 1) / 9 % 2 ∧ cc0_transform_3 (grid0.coords t) 1 = 0 :=
  (by decide +kernel : ∀ t : Fin grid0.N, cc0_transform_3 (grid0.coords t) 0 = (t.val - 1) / 9 % 2 ∧ cc0_transform_3 (grid0.coords t) 1 = 0)
theorem index_4 : ∀ t : Fin cfg0.N, cc0_transform_4 (grid0.coords t) 0 = (t.val - 1) / 9 % 2 ∧ cc0_transform_4 (grid0.coords t) 1 = 0 :=
  (by decide +kernel : ∀ t : Fin grid0.N, cc0_transform_4 (grid0.coords t) 0 = (t.val - 1) / 9 % 2 ∧ cc0_transform_4 (grid0.coords t) 1 = 0)
theorem index_5 : ∀ t : Fin cfg0.N, cc0_transform_5 (grid0.coords t) 0 = (t.val - 1) / 9 ∧ cc0_transform_5 (grid0.coords t) 1 = (t.val - 1) % 9 :=
  (by decide +kernel : ∀ t : Fin grid0.N, cc0_transform_5 (grid0.coords t) 0 = (t.val - 1) / 9 ∧ cc0_transform_5 (grid0.coords t) 1 = (t.val - 1) % 9)

/-! ## What it holds -/

/-- The activations' rows. -/
theorem blk_0 (n : ℕ) (hn : n < 72) (a : Fin 1024) (k : Fin 2048) :
    iblk m c 0 (prodPt n) (ix2 a k) = V m c main_arg0 (ix2 ⟨n / 9 * 1024 + a.val, by omega⟩ k) := by
  obtain ⟨e0, e1⟩ := index_0 (prodPt n)
  show V m c main_arg0 (((cfg0.win 0).rect (prodPt n)).emb (ix2 a k)) = _
  congr 1
  have e : (prodPt n).val = n := by show min n 71 = n; omega
  rw [e] at e0
  funext b
  match b with
  | ⟨0, _⟩ =>
    apply Fin.ext
    show cc0_transform_0 (grid0.coords (prodPt n)) 0 * 1024 + 1 * a.val = n / 9 * 1024 + a.val
    rw [e0]; omega
  | ⟨1, _⟩ =>
    apply Fin.ext
    show cc0_transform_0 (grid0.coords (prodPt n)) 1 * 2048 + 1 * k.val = k.val
    rw [e1]; omega

/-- The weight's columns, a group of 512. -/
theorem blk_1 (n : ℕ) (hn : n < 72) (k : Fin 2048) (j : Fin 512) :
    iblk m c 1 (prodPt n) (ix3 0 k j) = V m c main_arg1 (ix3 0 k ⟨n % 9 * 512 + j.val, by omega⟩) := by
  obtain ⟨e0, e1, e2⟩ := index_1 (prodPt n)
  show V m c main_arg1 (((cfg0.win 1).rect (prodPt n)).emb (ix3 0 k j)) = _
  congr 1
  have e : (prodPt n).val = n := by show min n 71 = n; omega
  rw [e, show min n 71 = n by omega] at e2
  funext b
  match b with
  | ⟨0, _⟩ =>
    apply Fin.ext
    show cc0_transform_1 (grid0.coords (prodPt n)) 0 * 1 + 1 * 0 = 0
    rw [e0]
  | ⟨1, _⟩ =>
    apply Fin.ext
    show cc0_transform_1 (grid0.coords (prodPt n)) 1 * 2048 + 1 * k.val = k.val
    rw [e1]; omega
  | ⟨2, _⟩ =>
    apply Fin.ext
    show cc0_transform_1 (grid0.coords (prodPt n)) 2 * 512 + 1 * j.val = n % 9 * 512 + j.val
    rw [e2]; omega

/-- The gains, whole. -/
theorem blk_2 (t : Fin cfg0.N) (g : Fin 2) (l : Fin 128) :
    iblk m c 2 t (ix3 g 0 l) = V m c main_v62 (ix3 g 0 l) := by
  obtain ⟨e0, e1, e2⟩ := index_2 t
  show V m c main_v62 (((cfg0.win 2).rect t).emb (ix3 g 0 l)) = _
  congr 1
  funext b
  match b with
  | ⟨0, _⟩ => apply Fin.ext; show cc0_transform_2 (grid0.coords t) 0 * 2 + 1 * g.val = g.val; rw [e0]; omega
  | ⟨1, _⟩ => apply Fin.ext; show cc0_transform_2 (grid0.coords t) 1 * 1 + 1 * 0 = 0; rw [e1]
  | ⟨2, _⟩ => apply Fin.ext; show cc0_transform_2 (grid0.coords t) 2 * 128 + 1 * l.val = l.val; rw [e2]; omega

/-- The row of the tables that row `a` of point `t` turns by. -/
abbrev tabRow (t : Fin cfg0.N) (a : Fin 1024) : Fin 2048 := ⟨(t.val - 1) / 9 % 2 * 1024 + a.val, by omega⟩

/-- A table's block is its rows from the point's place in the sequence on. -/
theorem tab_emb (t : Fin cfg0.N) (a : Fin 1024) (l : Fin 128) (f : Fin 2 → ℕ) (hf : ∀ b, f b + S1024x128.size b ≤ S2048x128.size b)
    (h0 : f 0 = (t.val - 1) / 9 % 2 * 1024) (h1 : f 1 = 0) :
    (Rect.unit (s := S2048x128) f S1024x128.size hf).emb (ix2 a l) = ix2 (tabRow t a) l := by
  funext b
  match b with
  | ⟨0, _⟩ => apply Fin.ext; show f 0 + 1 * a.val = (t.val - 1) / 9 % 2 * 1024 + a.val; rw [h0]; omega
  | ⟨1, _⟩ => apply Fin.ext; show f 1 + 1 * l.val = l.val; rw [h1]; omega

theorem blk_3 (t : Fin cfg0.N) (a : Fin 1024) (l : Fin 128) : iblk m c 3 t (ix2 a l) = V m c main_v51 (ix2 (tabRow t a) l) := by
  obtain ⟨e0, e1⟩ := index_3 t
  show V m c main_v51 (((cfg0.win 3).rect t).emb (ix2 a l)) = _
  refine congrArg (V m c main_v51) (tab_emb t a l _ _ ?_ ?_)
  · show cc0_transform_3 (grid0.coords t) 0 * 1024 = _; rw [e0]
  · show cc0_transform_3 (grid0.coords t) 1 * 128 = _; rw [e1]
theorem blk_4 (t : Fin cfg0.N) (a : Fin 1024) (l : Fin 128) : iblk m c 4 t (ix2 a l) = V m c main_v56 (ix2 (tabRow t a) l) := by
  obtain ⟨e0, e1⟩ := index_4 t
  show V m c main_v56 (((cfg0.win 4).rect t).emb (ix2 a l)) = _
  refine congrArg (V m c main_v56) (tab_emb t a l _ _ ?_ ?_)
  · show cc0_transform_4 (grid0.coords t) 0 * 1024 = _; rw [e0]
  · show cc0_transform_4 (grid0.coords t) 1 * 128 = _; rw [e1]

/-- The gain row of the queries, -/
theorem gainQ_apply (g : Vec Ideal S2x1x128 .f32) (l : Fin 128) : gainQ g (ix3 0 0 l) = g (ix3 0 0 l) := by
  show g ((Rect.unit (s := S2x1x128) ![0, 0, 0] S1x1x128.size inb_S2x1x128_S1x1x128_0_0_0).idx (ix3 0 0 l)) = _
  refine congrArg g ?_
  funext b
  match b with
  | ⟨0, _⟩ => rfl
  | ⟨1, _⟩ => rfl
  | ⟨2, _⟩ => apply Fin.ext; show 0 + 1 * l.val = l.val; omega

/-- and of the keys. -/
theorem gainK_apply (g : Vec Ideal S2x1x128 .f32) (l : Fin 128) : gainK g (ix3 0 0 l) = g (ix3 1 0 l) := by
  show g ((Rect.unit (s := S2x1x128) ![1, 0, 0] S1x1x128.size inb_S2x1x128_S1x1x128_1_0_0).idx (ix3 0 0 l)) = _
  refine congrArg g ?_
  funext b
  match b with
  | ⟨0, _⟩ => rfl
  | ⟨1, _⟩ => rfl
  | ⟨2, _⟩ => apply Fin.ext; show 0 + 1 * l.val = l.val; omega

end Cert.Kernel3Ideal.Odd

end
-- ==== Proof.Odd.Value.lean ====
/- What the odd layer's projection leaves in its output array, element by element: block by block, each point's slabs finished
   from the product the point before it left. -/
module

public import proofs.«01_k».proof.Proof.Odd.Blocks

@[expose] public section

set_option maxRecDepth 16384

noncomputable section

namespace Cert.Kernel3Ideal.Odd

open Cert.Kernel3Ideal Cert.Kernel3Ideal.Gen
open Idealize.ShloMosaic Idealize.ShloMosaic.TcCoe Idealize.SL.Sem
open Cert.KernelIdeal.Even (rope64 cosRow64 sinRow64)

variable (m : (ℓ : Loc nD τ sig) → Buf (Elt Ideal) ℓ) (c : Dev nD)

/-- The arguments as launched. -/
abbrev a0 : Vec Ideal S8192x2048 .bf16 := m ((c.tc : Thread nD τ).loc main_arg0)
abbrev a1 : Vec Ideal S1x2048x4608 .f32 := m ((c.tc : Thread nD τ).loc main_arg1)
abbrev a2 : Vec Ideal S1x2x64 .f32 := m ((c.tc : Thread nD τ).loc main_arg2)

/-! ## The product -/

/-- The accumulator after point `n` is the projection, at the point's rows and its group's columns. -/
theorem accAt_apply (n : ℕ) (hn : n < 72) (a : Fin 1024) (j : Fin 512) :
    accAt m c n (ix2 a j) = proj (a0 m c) (a1 m c) ⟨n / 9 * 1024 + a.val, by omega⟩ (n % 9 * 512 + j.val) := by
  unfold accAt proj
  rw [accOf_apply, dif_pos (show n % 9 * 512 + j.val < 4608 by omega)]
  refine Finset.sum_congr rfl fun k _ => ?_
  rw [blk_0 m c n hn, blk_1 m c n hn, V_main_arg0, V_main_arg1]

/-- A slab's row. -/
theorem slab_apply (X : Vec Ideal S1024x512 .f32) (k : Fin 4) (a : Fin 1024) (l : Fin 128) :
    slab X k (ix2 a l) = X (ix2 a ⟨128 * k.val + l.val, by omega⟩) := by
  show X ((slabRect k).idx (ix2 a l)) = _
  refine congrArg X ?_
  funext b
  match b with
  | ⟨0, _⟩ => apply Fin.ext; show 0 + 1 * a.val = a.val; omega
  | ⟨1, _⟩ => apply Fin.ext; show 128 * k.val + 1 * l.val = 128 * k.val + l.val; omega

theorem lanes_apply (f : Fin 4 → Vec Ideal S1024x128 .f32 → Vec Ideal S1024x128 .bf16) (X : Vec Ideal S1024x512 .f32) (a : Fin 1024) (j : Fin 512) :
    lanes f X (ix2 a j) = f ⟨j.val / 128, by omega⟩ (slab X ⟨j.val / 128, by omega⟩) (ix2 a ⟨j.val % 128, Nat.mod_lt _ (by decide)⟩) := by
  unfold lanes
  refine congrArg (f ⟨j.val / 128, by omega⟩ (slab X ⟨j.val / 128, by omega⟩)) ?_
  funext b
  match b with
  | ⟨0, _⟩ => rfl
  | ⟨1, _⟩ => rfl

/-- A head's row of the projection, as its slab of the accumulator holds it. -/
theorem slab_row (n : ℕ) (hn : n < 72) (a : Fin 1024) (j : Fin 512) :
    (fun k => slab (accAt m c n) ⟨j.val / 128, by omega⟩ (ix2 a k))
      = projRow (a0 m c) (a1 m c) ⟨n / 9 * 1024 + a.val, by omega⟩ ((n % 9 * 4 + j.val / 128) * 128) := by
  funext k
  rw [slab_apply, accAt_apply m c n hn]
  unfold projRow
  congr 1
  show n % 9 * 512 + (128 * (j.val / 128) + k.val) = (n % 9 * 4 + j.val / 128) * 128 + k.val
  omega

/-! ## The finish -/

/-- What point `t` does to one row of slab `k`. -/
theorem lane_apply (t : Fin cfg0.N) (ht : t.val ≠ 0) (k : Fin 4) (X : Vec Ideal S1024x128 .f32) (a : Fin 1024) (l : Fin 128) :
    lane (grid0.coords t) (iblk m c 2 t) (iblk m c 3 t) (iblk m c 4 t) k X (ix2 a l)
      = finish (a2 m c) (tabRow t a).val ((t.val - 1) % 9 * 4 + k.val) (fun k => X (ix2 a k)) l := by
  have e : (t.val + 8) % 9 = (t.val - 1) % 9 := by omega
  have h1 := at_q t
  have h2 := at_k t
  rw [e] at h1 h2
  have hk := k.isLt
  have hc : (fun k => iblk m c 3 t (ix2 a k)) = cosRow64 (tabRow t a).val := funext fun k => by rw [blk_3, cos64_apply]
  have hs : (fun k => iblk m c 4 t (ix2 a k)) = sinRow64 (tabRow t a).val := funext fun k => by rw [blk_4, sin64_apply]
  unfold lane finish
  by_cases c1 : k0_cond2 (grid0.coords t) = 1#1
  · have q := h1.mp c1
    rw [if_pos c1, if_pos (show (t.val - 1) % 9 * 4 + k.val < 16 by omega), headF_apply, hc, hs]
    simp only [gainQ_apply, blk_2]
    exact congrArg (fun g : Fin 128 → EReal => rope64 (fun k => unitHalf (fun k => X (ix2 a k)) k * g k) _ _ l) (funext (gain0_apply m c))
  have q1 : ¬(t.val - 1) % 9 < 4 := fun h => c1 (h1.mpr h)
  rw [if_neg c1, if_neg (show ¬(t.val - 1) % 9 * 4 + k.val < 16 by omega)]
  by_cases c2 : k0_cond3 (grid0.coords t) = 1#1
  · have q := h2.mp c2
    rw [if_pos c2]
    unfold keyF
    by_cases c3 : k.val < 2
    · rw [if_pos c3, if_pos (show (t.val - 1) % 9 * 4 + k.val < 18 by omega), headF_apply, hc, hs]
      simp only [gainK_apply, blk_2]
      exact congrArg (fun g : Fin 128 → EReal => rope64 (fun k => unitHalf (fun k => X (ix2 a k)) k * g k) _ _ l) (funext (gain1_apply m c))
    · rw [if_neg c3, if_neg (show ¬(t.val - 1) % 9 * 4 + k.val < 18 by omega), if_pos (show (t.val - 1) % 9 * 4 + k.val < 20 by omega), castF_apply]
  have q2 : ¬(t.val - 1) % 9 = 4 := fun h => c2 (h2.mpr h)
  rw [if_neg c2, if_neg (show ¬(t.val - 1) % 9 * 4 + k.val < 18 by omega), if_neg (show ¬(t.val - 1) % 9 * 4 + k.val < 20 by omega), siluF_apply]

/-- The block a point writes back. -/
theorem outAt_apply (t : Fin cfg0.N) (ht : t.val ≠ 0) (a : Fin 1024) (j : Fin 512) :
    outAt m c t (ix2 a j)
      = outRow (a0 m c) (a1 m c) (a2 m c) ⟨(t.val - 1) / 9 * 1024 + a.val, by have := lt_of_lt_of_eq t.isLt N_0; omega⟩ ((t.val - 1) % 9 * 512 + j.val) := by
  have hN : t.val < 73 := lt_of_lt_of_eq t.isLt N_0
  unfold outAt outRow
  have e1 : ((t.val - 1) % 9 * 512 + j.val) / 128 = (t.val - 1) % 9 * 4 + j.val / 128 := by omega
  have e2 : (⟨((t.val - 1) % 9 * 512 + j.val) % 128, Nat.mod_lt _ (by decide)⟩ : Fin 128) = ⟨j.val % 128, Nat.mod_lt _ (by decide)⟩ := Fin.ext (by show ((t.val - 1) % 9 * 512 + j.val) % 128 = j.val % 128; omega)
  rw [lanes_apply, lane_apply m c t ht, slab_row m c (t.val - 1) (by omega), e1, e2,
    show (tabRow t a).val = ((t.val - 1) / 9 * 1024 + a.val) % 2048 by show (t.val - 1) / 9 % 2 * 1024 + a.val = _; omega]

/-! ## The array -/

/-- The output array: row `r`, column `q`. -/
def result : Vec Ideal S8192x4608 .bf16 := fun i => outRow (a0 m c) (a1 m c) (a2 m c) (i 0) (i 1).val

theorem flush_5 : ∀ t : Fin cfg0.N, (cfg0.win 5).flush t = true ↔ t.val ≠ 0 :=
  (by decide +kernel : ∀ t : Fin grid0.N, win0_5.flush t = true ↔ t.val ≠ 0)

/-- Where a block's element sits in the array. -/
theorem emb_5 (t : Fin cfg0.N) (a : Fin 1024) (j : Fin 512) :
    ((cfg0.win 5).rect t).emb (ix2 a j)
      = (ix2 ⟨(t.val - 1) / 9 * 1024 + a.val, by have := lt_of_lt_of_eq t.isLt N_0; omega⟩ ⟨(t.val - 1) % 9 * 512 + j.val, by omega⟩ : S8192x4608.Idx) := by
  obtain ⟨e0, e1⟩ := index_5 t
  funext b
  match b with
  | ⟨0, _⟩ => apply Fin.ext; show cc0_transform_5 (grid0.coords t) 0 * 1024 + 1 * a.val = (t.val - 1) / 9 * 1024 + a.val; rw [e0]; omega
  | ⟨1, _⟩ => apply Fin.ext; show cc0_transform_5 (grid0.coords t) 1 * 512 + 1 * j.val = (t.val - 1) % 9 * 512 + j.val; rw [e1]; omega

theorem result_block (t : Fin cfg0.N) (ht : t.val ≠ 0) (a : Fin 1024) (j : Fin 512) :
    outAt m c t (ix2 a j) = result m c (((cfg0.win 5).rect t).emb (ix2 a j)) := by
  rw [outAt_apply m c t ht, emb_5]
  rfl

theorem final : (dats m 0 c).arrAt 5 cfg0.N = result m c := by
  refine Pipeline.Dat.arrAt_eq_of_cover (dats m 0 c) 5 (result m c) (fun t hf => ?_) (fun i => ?_)
  · have ht := (flush_5 t).mp hf
    show (cfg0.win 5).cut (grid0.coords t) ((dats m 0 c).after 5 t) = _
    rw [after_5]
    funext y
    have hy : (y : S1024x512.Idx) = ix2 (y 0) (y 1) := by
      funext b
      match b with
      | ⟨0, _⟩ => rfl
      | ⟨1, _⟩ => rfl
    show outAt m c t y = result m c (((cfg0.win 5).rect t).emb y)
    rw [hy]
    exact result_block m c t ht (y 0) (y 1)
  · have h0 : (i 0).val < 8192 := (i 0).isLt
    have h1 : (i 1).val < 4608 := (i 1).isLt
    have hN : (i 0).val / 1024 * 9 + (i 1).val / 512 + 1 < cfg0.N := by rw [show cfg0.N = 73 from N_0]; omega
    refine ⟨⟨_, hN⟩, (flush_5 _).mpr (Nat.succ_ne_zero _), ?_⟩
    have hi : i = ((cfg0.win 5).rect ⟨_, hN⟩).emb (ix2 (⟨(i 0).val % 1024, Nat.mod_lt _ (by decide)⟩ : Fin 1024) (⟨(i 1).val % 512, Nat.mod_lt _ (by decide)⟩ : Fin 512)) := by
      rw [emb_5]
      funext b
      match b with
      | ⟨0, _⟩ =>
        apply Fin.ext
        show (i 0).val = ((i 0).val / 1024 * 9 + (i 1).val / 512 + 1 - 1) / 9 * 1024 + (i 0).val % 1024
        omega
      | ⟨1, _⟩ =>
        apply Fin.ext
        show (i 1).val = ((i 0).val / 1024 * 9 + (i 1).val / 512 + 1 - 1) % 9 * 512 + (i 1).val % 512
        omega
    exact Eq.mp (congrArg (· ∈ ((cfg0.win 5).blk ⟨_, hN⟩).view.set) hi.symm) (View.emb_mem_set ((cfg0.win 5).blk ⟨_, hN⟩).view _)

end Cert.Kernel3Ideal.Odd

end
-- ==== Proof.Odd.Printed.lean ====
/- The odd layer's projection as printed for the machine's floats is the text the run was written for: the two bodies are one program, so the
   frame of one is the frame of the other. -/
module

public import proofs.«01_k».proof.Defs
public import proofs.«01_k».proof.Proof.Gen.Kernel3
public import proofs.«01_k».proof.Proof.Odd.Frame

@[expose] public section

set_option maxRecDepth 16384
set_option maxHeartbeats 2000000

noncomputable section

namespace Cert.Kernel3Ideal.Odd

open Idealize.ShloMosaic Idealize.SL.Sem

/-- The two body tables agree, label by label, -/
theorem bodies_eq : @Cert.Kernel3.defs₀ Bits _ _ = @Cert.Kernel3Ideal.defs₀ Bits _ _ := by
  unfold Cert.Kernel3.defs₀ Cert.Kernel3Ideal.defs₀
  refine congrArg Defs.onTc ?_
  funext l x
  match l, x with
  | 0, (t, s) => rfl

/-- and so do the tables with the pipeline's labels. -/
theorem tables_eq : @Cert.Kernel3.defs Bits _ _ = @Cert.Kernel3Ideal.defs Bits _ _ :=
  congrArg (Pipeline.defs (Cert.Kernel3Ideal.pcfgs (F := Bits))) bodies_eq

/-- The kernel's frame: the run, over the float values the kernel is printed at. -/
theorem frame_kernel : Cert.quiescent_Kernel3 := fun m ρ _ => by
  rw [tables_eq]
  exact quiet (F := Bits) m ρ

end Cert.Kernel3Ideal.Odd

end
-- ==== Proof.Odd.Ref.lean ====
/- The odd layer's reference, read element by element: the projection, its columns by head, and each group of columns as it is
   handed on, in the terms the pipeline's points compute it. -/
module

public import proofs.«01_k».proof.Proof.Gen.Reference3Ideal.Read
public import proofs.«01_k».proof.Proof.Odd.Slab
public import proofs.«01_k».proof.Proof.Even.Ref

@[expose] public section

set_option maxRecDepth 16384

noncomputable section

namespace Cert.Reference3Ideal.Odd

open Cert.Reference3Ideal Cert.Reference3Ideal.Gen Cert.Reference3Ideal.Read
open Idealize.ShloMosaic
open Cert.KernelIdeal.Even (rope64 angle cosRow64 sinRow64)
open Cert.ReferenceIdeal.Even (rowAt rowAt_div_mod rope64_halves)
open Cert.Kernel3Ideal.Odd (half unitHalf qscale proj projRow finish outRow)

variable (x0 : Vec Ideal S8192x2048 .bf16) (x1 : Vec Ideal S1x2048x4608 .f32) (x2 : Vec Ideal S1x2x64 .f32)

/-- Column `n` of a row `p` of heads of 64, its head divided by its root mean square and multiplied by the gains. -/
def headAt (p : ℕ → EReal) (g : Fin 64 → EReal) (n : ℕ) : EReal :=
  p n * Ideal.rsqrt (Ideal.div (∑ k : Fin 64, p (n / 64 * 64 + k.val) * p (n / 64 * 64 + k.val)) (Ideal.ofBits .f32 0x42800000#32)
    + Ideal.ofBits .f32 0x358637BD#32) * g ⟨n % 64, Nat.mod_lt _ (by decide)⟩

/-- Lane `l` of the head from column `c` on, turned by place `s`. -/
def turned (P : ℕ → EReal) (s c l : ℕ) : EReal :=
  if l < 32 then P (c + l) * Ideal.cos (angle 0x42800000#32 s l) - P (c + (32 + l)) * Ideal.sin (angle 0x42800000#32 s l)
  else P (c + (l - 32)) * Ideal.sin (angle 0x42800000#32 s (l - 32)) + P (c + (32 + (l - 32))) * Ideal.cos (angle 0x42800000#32 s (l - 32))

/-- A head's column, from the head's number and its lane. -/
theorem headAt_lane (p : ℕ → EReal) (g : Fin 64 → EReal) (c : ℕ) (hc : c % 64 = 0) (l : Fin 64) :
    headAt p g (c + l.val) = p (c + l.val) * Ideal.rsqrt (Ideal.div (∑ k : Fin 64, p (c + k.val) * p (c + k.val)) (Ideal.ofBits .f32 0x42800000#32)
      + Ideal.ofBits .f32 0x358637BD#32) * g l := by
  unfold headAt
  have e : (c + l.val) / 64 * 64 = c := by omega
  rw [e, show (⟨(c + l.val) % 64, Nat.mod_lt _ (by decide)⟩ : Fin 64) = l from Fin.ext (by show (c + l.val) % 64 = l.val; omega)]

/-- Two heads side by side in a slab are two heads of the projection. -/
theorem slab_heads (r : Fin 8192) (g : Fin 64 → EReal) (c : ℕ) (hc : c % 128 = 0) :
    (fun k : Fin 128 => unitHalf (projRow x0 x1 r c) k * g ⟨k.val % 64, Nat.mod_lt _ (by decide)⟩)
      = fun k => headAt (proj x0 x1 r) g (c + k.val) := by
  funext k
  unfold unitHalf headAt half projRow
  have e : (c + k.val) / 64 * 64 = c + k.val / 64 * 64 := by omega
  rw [e, show (⟨(c + k.val) % 64, Nat.mod_lt _ (by decide)⟩ : Fin 64) = ⟨k.val % 64, Nat.mod_lt _ (by decide)⟩ from Fin.ext (by show (c + k.val) % 64 = k.val % 64; omega)]
  simp only [Nat.add_assoc]

/-- A slab turned is its heads turned. -/
theorem slab_turned (r : Fin 8192) (g : Fin 64 → EReal) (s c : ℕ) (hc : c % 128 = 0) (j : ℕ) (hj : j / 128 * 128 = c) :
    rope64 (fun k : Fin 128 => unitHalf (projRow x0 x1 r c) k * g ⟨k.val % 64, Nat.mod_lt _ (by decide)⟩) (cosRow64 s) (sinRow64 s) ⟨j % 128, Nat.mod_lt _ (by decide)⟩
      = turned (headAt (proj x0 x1 r) g) s (j / 64 * 64) (j % 64) := by
  rw [slab_heads x0 x1 r g c hc, rope64_halves (headAt (proj x0 x1 r) g) c s]
  have e : c + j % 128 / 64 * 64 = j / 64 * 64 := by omega
  have e' : j % 128 % 64 = j % 64 := by omega
  show (if j % 128 % 64 < 32 then _ else _) = _
  simp only [e, e']
  rfl

/-! ## The scale -/

/-- The scale passes a difference of products: it is a number, and not negative. -/
theorem qscale_nonneg : 0 ≤ qscale := by
  unfold qscale
  simp [Ideal.ofBits, Ideal.ieee, -EReal.coe_mul]
  done

theorem qscale_ne_top : qscale ≠ ⊤ := by
  unfold qscale
  simp [Ideal.ofBits, Ideal.ieee, -EReal.coe_mul]
  done

/-- A turned head scaled is the head turned from scaled gains. -/
theorem turned_scale (p : ℕ → EReal) (g : Fin 64 → EReal) (s c l : ℕ) :
    turned (headAt p g) s c l * qscale = turned (headAt p fun l => g l * qscale) s c l := by
  have e : ∀ n, (headAt p fun l => g l * qscale) n = headAt p g n * qscale := fun n => (mul_assoc _ _ _).symm
  unfold turned
  simp only [e]
  by_cases hl : l < 32
  · rw [if_pos hl, if_pos hl, sub_eq_add_neg, EReal.right_distrib_of_nonneg_of_ne_top qscale_nonneg qscale_ne_top, sub_eq_add_neg, EReal.neg_mul]
    congr 1
    · ac_rfl
    · congr 1; ac_rfl
  · rw [if_neg hl, if_neg hl, EReal.right_distrib_of_nonneg_of_ne_top qscale_nonneg qscale_ne_top]
    congr 1 <;> ac_rfl

/-! ## The projection, its slices, and the tables -/

theorem v3_apply (b : Fin 4) (s : Fin 2048) (j : Fin 4608) :
    val_main_v3 (F := Ideal) x0 x1 (ix3 b s j) = proj x0 x1 (rowAt b s) j.val := by
  pointwise [val_main_v3, val_main_v2, val_main_v1, val_main_v0]
  unfold proj
  rw [dif_pos j.isLt]

theorem v27_apply (b : Fin 4) (s : Fin 2048) (h : Fin 32) (l : Fin 64) :
    val_main_v27 (F := Ideal) x0 x1 (ix4 b s h l) = proj x0 x1 (rowAt b s) (h.val * 64 + l.val) := by
  pointwise [val_main_v27, val_main_v4]
  rw [v3_apply]

theorem v61_apply (b : Fin 4) (s : Fin 2048) (h : Fin 4) (l : Fin 64) :
    val_main_v61 (F := Ideal) x0 x1 (ix4 b s h l) = proj x0 x1 (rowAt b s) (2048 + h.val * 64 + l.val) := by
  pointwise [val_main_v61, val_main_v5]
  rw [v3_apply]
  congr 1
  show 2048 + (h.val * 64 + l.val) = 2048 + h.val * 64 + l.val
  omega

theorem v25_apply (s : Fin 2048) (l : Fin 32) :
    val_main_v25 (F := Ideal) (ix2 s l) = Ideal.cos (angle 0x42800000#32 s.val l.val) := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst, val_main_cst_0, val_main_cst_1, val_main_cst_2, val_main_cst_3]
  rfl

theorem v26_apply (s : Fin 2048) (l : Fin 32) :
    val_main_v26 (F := Ideal) (ix2 s l) = Ideal.sin (angle 0x42800000#32 s.val l.val) := by
  pointwise [val_main_v26, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst, val_main_cst_0, val_main_cst_1, val_main_cst_2, val_main_cst_3]
  rfl

/-! ## The heads -/

theorem v43_apply (b : Fin 4) (s : Fin 2048) (h : Fin 32) (l : Fin 64) :
    val_main_v43 (F := Ideal) x0 x1 x2 (ix4 b s h l)
      = headAt (proj x0 x1 (rowAt b s)) (fun l => x2 (ix3 0 0 l)) (h.val * 64 + l.val) := by
  rw [headAt_lane _ _ _ (by omega)]
  pointwise [val_main_v43, val_main_v42, val_main_v41, val_main_v40, val_main_v39, val_main_v38, val_main_v37, val_main_v36, val_main_v35, val_main_v34, val_main_v33, val_main_v32, val_main_v31, val_main_v30, val_main_v29, val_main_v28, val_main_cst_4, val_main_cst_5, val_main_cst_6]
  simp only [v27_apply]

theorem v77_apply (b : Fin 4) (s : Fin 2048) (h : Fin 4) (l : Fin 64) :
    val_main_v77 (F := Ideal) x0 x1 x2 (ix4 b s h l)
      = headAt (proj x0 x1 (rowAt b s)) (fun l => x2 (ix3 0 1 l)) (2048 + h.val * 64 + l.val) := by
  rw [headAt_lane _ _ _ (by omega)]
  pointwise [val_main_v77, val_main_v76, val_main_v75, val_main_v74, val_main_v73, val_main_v72, val_main_v71, val_main_v70, val_main_v69, val_main_v68, val_main_v67, val_main_v66, val_main_v65, val_main_v64, val_main_v63, val_main_v62, val_main_cst_8, val_main_cst_9, val_main_cst_10]
  simp only [v61_apply]

theorem v60_apply (b : Fin 4) (s : Fin 2048) (h : Fin 32) (l : Fin 64) :
    val_main_v60 (F := Ideal) x0 x1 x2 (ix4 b s h l)
      = turned (headAt (proj x0 x1 (rowAt b s)) fun l => x2 (ix3 0 0 l) * qscale) s.val (h.val * 64) l.val := by
  rw [← turned_scale]
  pointwise [val_main_v60, val_main_v59, val_main_v58, val_main_v57, val_main_v56, val_main_v55, val_main_v54, val_main_v53, val_main_v52, val_main_v51, val_main_v50, val_main_v49, val_main_v48, val_main_v47, val_main_v46, val_main_v45, val_main_v44, val_main_cst_7]
  simp only [v43_apply, v25_apply, v26_apply]
  rfl

theorem v92_apply (b : Fin 4) (s : Fin 2048) (h : Fin 4) (l : Fin 64) :
    val_main_v92 (F := Ideal) x0 x1 x2 (ix4 b s h l)
      = turned (headAt (proj x0 x1 (rowAt b s)) fun l => x2 (ix3 0 1 l)) s.val (2048 + h.val * 64) l.val := by
  pointwise [val_main_v92, val_main_v91, val_main_v90, val_main_v89, val_main_v88, val_main_v87, val_main_v86, val_main_v85, val_main_v84, val_main_v83, val_main_v82, val_main_v81, val_main_v80, val_main_v79, val_main_v78]
  simp only [v77_apply, v25_apply, v26_apply]
  rfl

/-! ## The four groups -/

theorem v93_apply (r : Fin 8192) (j : Fin 2048) :
    val_main_v93 (F := Ideal) x0 x1 x2 (ix2 r j) = outRow x0 x1 x2 r j.val := by
  pointwise [val_main_v93]
  rw [v60_apply, rowAt_div_mod]
  unfold outRow finish
  rw [if_pos (show j.val / 128 < 16 by omega), slab_turned x0 x1 r (fun l => x2 (ix3 0 0 l) * qscale) _ _ (by omega) j.val rfl]

theorem v94_apply (r : Fin 8192) (j : Fin 256) :
    val_main_v94 (F := Ideal) x0 x1 x2 (ix2 r j) = outRow x0 x1 x2 r (2048 + j.val) := by
  pointwise [val_main_v94]
  rw [v92_apply, rowAt_div_mod]
  unfold outRow finish
  rw [if_neg (show ¬(2048 + j.val) / 128 < 16 by omega), if_pos (show (2048 + j.val) / 128 < 18 by omega),
    slab_turned x0 x1 r (fun l => x2 (ix3 0 1 l)) _ _ (by omega) (2048 + j.val) rfl]
  show turned _ _ (2048 + j.val / 64 * 64) (j.val % 64) = _
  rw [show (2048 + j.val) / 64 * 64 = 2048 + j.val / 64 * 64 by omega, show (2048 + j.val) % 64 = j.val % 64 by omega]

/-- A column of the projection, as its slab holds it. -/
theorem proj_at (r : Fin 8192) (n n' : ℕ) (h : n = n') :
    proj x0 x1 (rowAt ⟨r.val / 2048, by omega⟩ ⟨r.val % 2048, Nat.mod_lt _ (by decide)⟩) n
      = projRow x0 x1 r (n' / 128 * 128) ⟨n' % 128, Nat.mod_lt _ (by decide)⟩ := by
  rw [rowAt_div_mod]
  unfold projRow
  congr 1
  show n = n' / 128 * 128 + n' % 128
  omega

theorem v95_apply (r : Fin 8192) (j : Fin 256) :
    val_main_v95 (F := Ideal) x0 x1 (ix2 r j) = outRow x0 x1 x2 r (2304 + j.val) := by
  pointwise [val_main_v95, val_main_v6]
  rw [v3_apply, proj_at x0 x1 r _ (2304 + j.val) rfl]
  unfold outRow finish
  rw [if_neg (show ¬(2304 + j.val) / 128 < 16 by omega), if_neg (show ¬(2304 + j.val) / 128 < 18 by omega), if_pos (show (2304 + j.val) / 128 < 20 by omega)]

theorem v97_apply (r : Fin 8192) (j : Fin 2048) :
    val_main_v97 (F := Ideal) x0 x1 (ix2 r j) = outRow x0 x1 x2 r (2560 + j.val) := by
  pointwise [val_main_v97, val_main_v96, val_main_v7, val_main_call0_v5, val_main_call0_v4, val_main_call0_v3, val_main_call0_v2, val_main_call0_v1, val_main_call0_v0, val_main_call0_cst, val_main_call0_cst_0]
  rw [v3_apply, proj_at x0 x1 r _ (2560 + j.val) rfl]
  unfold outRow finish
  rw [if_neg (show ¬(2560 + j.val) / 128 < 16 by omega), if_neg (show ¬(2560 + j.val) / 128 < 18 by omega), if_neg (show ¬(2560 + j.val) / 128 < 20 by omega)]
  rfl

/-- The reference's result, element by element. -/
theorem v99_apply (r : Fin 8192) (j : Fin 4608) :
    val_main_v99 (F := Ideal) x0 x1 x2 (ix2 r j) = outRow x0 x1 x2 r j.val := by
  pointwise [val_main_v99, val_main_v98]
  by_cases h0 : j.val < 2048
  · rw [dif_pos h0, v93_apply]
  rw [dif_neg h0]
  by_cases h1 : j.val - 2048 < 256
  · rw [dif_pos h1, v94_apply]
    exact congrArg (outRow x0 x1 x2 r) (by show 2048 + (j.val - 2048) = j.val; omega)
  rw [dif_neg h1]
  by_cases h2 : j.val - 2048 - 256 < 256
  · rw [dif_pos h2, v95_apply x0 x1 x2]
    exact congrArg (outRow x0 x1 x2 r) (by show 2304 + (j.val - 2048 - 256) = j.val; omega)
  rw [dif_neg h2, v97_apply x0 x1 x2]
  exact congrArg (outRow x0 x1 x2 r) (by show 2560 + (j.val - 2048 - 256 - 256) = j.val; omega)

end Cert.Reference3Ideal.Odd

end
-- ==== Proof.Swa.Weights.lean ====
/- A softmax with a sink: the quotient taken once of the weighted sum, in base 2, is the sum weighted by the quotients,
   in base `e`. -/
module

public import Idealize.ShloMosaic.PureOps.Ideal.Laws

@[expose] public section

noncomputable section

namespace Cert.Swa

open Idealize.ShloMosaic

/-- The natural logarithm of 2, which turns base 2 into base `e`, -/
abbrev ln2 : EReal := ((Real.log 2 : ℝ) : EReal)
/-- and its inverse. -/
abbrev log2e : EReal := (((Real.log 2)⁻¹ : ℝ) : EReal)

theorem log2_pos : 0 < Real.log 2 := Real.log_pos (by norm_num)

theorem bot_mul_ln2 : (⊥ : EReal) * ln2 = ⊥ := EReal.bot_mul_coe_of_pos log2_pos

theorem log2e_mul_ln2 (s : ℝ) : (s : EReal) * log2e * ln2 = s := by
  rw [← EReal.coe_mul, ← EReal.coe_mul, mul_assoc, inv_mul_cancel₀ log2_pos.ne', mul_one]

theorem mul_ln2_mono : Monotone fun x : EReal => x * ln2 :=
  fun _ _ h => mul_le_mul_of_nonneg_right h (EReal.coe_nonneg.mpr log2_pos.le)

/-- A masked score is `⊥` and any other a real. -/
def Score (x : EReal) : Prop := x = ⊥ ∨ ∃ r : ℝ, x = r

/-- Shifted by a real, a score's power of 2 is a nonnegative real, -/
theorem exp2_score {x : EReal} (hx : Score x) (M : ℝ) : ∃ p : ℝ, 0 ≤ p ∧ Ideal.exp2 (x - M) = p := by
  rcases hx with rfl | ⟨r, rfl⟩
  · exact ⟨0, le_rfl, by rw [EReal.bot_sub]; rfl⟩
  · exact ⟨Real.rpow 2 (r - M), (Real.rpow_pos_of_pos two_pos _).le, by rw [← EReal.coe_sub]; rfl⟩

/-- and it is the exponential of both scaled by `ln 2`. -/
theorem exp_score {x : EReal} (hx : Score x) (M : ℝ) : Ideal.exp (x * ln2 - M * ln2) = Ideal.exp2 (x - M) := by
  rcases hx with rfl | ⟨r, rfl⟩
  · rw [bot_mul_ln2, ← EReal.coe_mul, EReal.bot_sub, EReal.bot_sub]; rfl
  · rw [← EReal.coe_mul, ← EReal.coe_mul, ← EReal.coe_sub, ← EReal.coe_sub]
    show ((Real.exp (r * Real.log 2 - M * Real.log 2) : ℝ) : EReal) = ((2 : ℝ) ^ (r - M) : ℝ)
    rw [Real.rpow_def_of_pos two_pos]
    congr 2
    ring

variable {n : ℕ} (z : Fin n → EReal) (s : ℝ) (v : Fin n → EReal)

/-- The largest score or the sink, in base 2. -/
def top : EReal := max (Finset.univ.fold max ⊥ z) (s * log2e)

/-- The scores in base `e`, the sink last, -/
def scores (j : Fin (n + 1)) : EReal := if h : j.val < n then z ⟨j.val, h⟩ * ln2 else s

/-- and the largest of them. -/
theorem top_scores : max ⊥ (Finset.univ.fold max ⊥ (scores z s)) = top z s * ln2 := by
  rw [max_eq_right bot_le]
  show Finset.univ.sup (scores z s) = max (Finset.univ.sup z) (s * log2e) * ln2
  rw [mul_ln2_mono.map_max, log2e_mul_ln2]
  have e : Finset.univ.sup z * ln2 = Finset.univ.sup (fun k => z k * ln2) :=
    Finset.comp_sup_eq_sup_comp_of_is_total (fun x : EReal => x * ln2) mul_ln2_mono bot_mul_ln2
  rw [e]
  refine le_antisymm (Finset.sup_le fun j _ => ?_) (max_le (Finset.sup_le fun k _ => ?_) ?_)
  · unfold scores
    split
    · next h => exact le_max_of_le_left (Finset.le_sup (f := fun k => z k * ln2) (Finset.mem_univ _))
    · exact le_max_right _ _
  · have h := Finset.le_sup (f := scores z s) (Finset.mem_univ k.castSucc)
    unfold scores at h ⊢
    rwa [dif_pos (show (k.castSucc).val < n from k.isLt)] at h
  · have h := Finset.le_sup (f := scores z s) (Finset.mem_univ (Fin.last n))
    unfold scores at h ⊢
    rwa [dif_neg (show ¬(Fin.last n).val < n from lt_irrefl n)] at h

/-- The largest is a real. -/
theorem top_real (hz : ∀ k, Score (z k)) : ∃ M : ℝ, top z s = M := by
  have h1 : top z s ≠ ⊥ := fun h => by
    have := le_max_right (Finset.univ.fold max ⊥ z) (s * log2e)
    unfold top at h
    rw [h, ← EReal.coe_mul] at this
    exact absurd (le_bot_iff.mp this) (EReal.coe_ne_bot _)
  have h2 : top z s ≠ ⊤ := by
    refine (max_lt ?_ ?_).ne
    · refine (Finset.sup_lt_iff (by exact bot_lt_top)).mpr fun k _ => ?_
      rcases hz k with h | ⟨r, h⟩
      · rw [h]; exact bot_lt_top
      · rw [h]; exact EReal.coe_lt_top r
    · rw [← EReal.coe_mul]; exact EReal.coe_lt_top _
  exact ⟨(top z s).toReal, (EReal.coe_toReal h2 h1).symm⟩

/-- A finite factor goes into a sum of any extended reals, -/
theorem sum_mul_real {ι : Type} (t : Finset ι) (f : ι → EReal) {d : ℝ} (hd : 0 ≤ d) : (∑ k ∈ t, f k) * (d : EReal) = ∑ k ∈ t, f k * d := by
  classical
  induction t using Finset.induction_on with
  | empty => simp
  | insert a t ha ih =>
    rw [Finset.sum_insert ha, Finset.sum_insert ha, ← ih]
    exact EReal.right_distrib_of_nonneg_of_ne_top (EReal.coe_nonneg.mpr hd) (EReal.coe_ne_top d) _ _

/-- and a sum of reals is real. -/
theorem sum_real {ι : Type} (t : Finset ι) (f : ι → ℝ) : ∑ k ∈ t, (f k : EReal) = ((∑ k ∈ t, f k : ℝ) : EReal) := by
  classical
  induction t using Finset.induction_on with
  | empty => simp
  | insert a t ha ih => rw [Finset.sum_insert ha, Finset.sum_insert ha, ih, EReal.coe_add]

/-- A sum over the scores and the sink. -/
theorem sum_scores (f : Fin (n + 1) → EReal) : ∑ j, f j = (∑ k : Fin n, f k.castSucc) + f (Fin.last n) := Fin.sum_univ_castSucc f

/-- The kernel's quotient, taken once. -/
def once : EReal :=
  (∑ k, v k * Ideal.exp2 (z k - top z s)) * Ideal.div 1 ((∑ k, Ideal.exp2 (z k - top z s)) + Ideal.exp2 (s * log2e - top z s))

/-- The reference's exponentials -/
def expo (j : Fin (n + 1)) : EReal := Ideal.exp (scores z s j - max ⊥ (Finset.univ.fold max ⊥ (scores z s)))

/-- and its weighted sum. -/
def each : EReal := ∑ k : Fin n, v k * Ideal.div (expo z s k.castSucc) (∑ j, expo z s j)

theorem expo_score (hz : ∀ k, Score (z k)) (k : Fin n) : expo z s k.castSucc = Ideal.exp2 (z k - top z s) := by
  obtain ⟨M, hM⟩ := top_real z s hz
  unfold expo
  rw [top_scores, hM, ← exp_score (hz k) M]
  unfold scores
  rw [dif_pos (show (k.castSucc).val < n from k.isLt)]
  rfl

theorem expo_sink (hz : ∀ k, Score (z k)) : expo z s (Fin.last n) = Ideal.exp2 (s * log2e - top z s) := by
  obtain ⟨M, hM⟩ := top_real z s hz
  unfold expo
  have h := exp_score (x := s * log2e) (Or.inr ⟨s * (Real.log 2)⁻¹, (EReal.coe_mul _ _).symm⟩) M
  rw [top_scores, hM, ← h, log2e_mul_ln2]
  unfold scores
  rw [dif_neg (show ¬(Fin.last n).val < n from lt_irrefl n)]

/-- Both are one number. -/
theorem once_eq_each (hz : ∀ k, Score (z k)) : once z s v = each z s v := by
  obtain ⟨M, hM⟩ := top_real z s hz
  have hp : ∀ k, ∃ p : ℝ, 0 ≤ p ∧ Ideal.exp2 (z k - M) = p := fun k => exp2_score (hz k) M
  choose p hp0 hpe using hp
  have hq : Ideal.exp2 ((s : EReal) * log2e - M) = ((Real.rpow 2 (s * (Real.log 2)⁻¹ - M) : ℝ) : EReal) := by
    rw [← EReal.coe_mul, ← EReal.coe_sub]; rfl
  have hq0 : 0 < Real.rpow 2 (s * (Real.log 2)⁻¹ - M) := Real.rpow_pos_of_pos two_pos _
  have hd0 : 0 < (∑ k, p k) + Real.rpow 2 (s * (Real.log 2)⁻¹ - M) := add_pos_of_nonneg_of_pos (Finset.sum_nonneg fun k _ => hp0 k) hq0
  have hden : (∑ k, Ideal.exp2 (z k - M)) + Ideal.exp2 ((s : EReal) * log2e - M) = (((∑ k, p k) + Real.rpow 2 (s * (Real.log 2)⁻¹ - M) : ℝ) : EReal) := by
    simp only [hpe]
    rw [hq, sum_real, EReal.coe_add]
  have hdiv : ∀ x : EReal, Ideal.div x (((∑ k, p k) + Real.rpow 2 (s * (Real.log 2)⁻¹ - M) : ℝ) : EReal) = x * ((((∑ k, p k) + Real.rpow 2 (s * (Real.log 2)⁻¹ - M))⁻¹ : ℝ) : EReal) := by
    intro x
    unfold Ideal.div
    rw [if_neg (fun h => hd0.ne' (EReal.coe_eq_zero.mp h)), EReal.coe_inv]
  unfold once each
  rw [sum_scores (expo z s)]
  simp only [expo_score z s hz, expo_sink z s hz]
  rw [hM, hden]
  simp only [hdiv]
  rw [one_mul, sum_mul_real _ _ (inv_nonneg.mpr hd0.le)]
  exact Finset.sum_congr rfl fun k _ => mul_assoc _ _ _

end Cert.Swa

end
-- ==== Proof.Swa.Group.lean ====
/- One group of eight query heads of the sliding-window attention: the kernel's operations on it as one function of the
   group's columns, and that function's value element by element. -/
module

public import proofs.«01_k».proof.Proof.Gen.Kernel5Ideal.Skeleton
public import proofs.«01_k».proof.Proof.Swa.Weights
public import Idealize.ShloMosaic.Lib.Pointwise
public import Idealize.ShloMosaic.Lib.ValueIdx
public import Idealize.ShloMosaic.Lib.MatmulPlain

@[expose] public section

set_option maxRecDepth 16384

noncomputable section

namespace Cert.Kernel5Ideal.Swa

open Cert.Kernel5Ideal Cert.Kernel5Ideal.Gen
open Idealize.ShloMosaic
open Cert.Swa

/-- The scores of a group of query heads `q` over a band of keys, the masked ones pushed down. -/
def scoresOf (b : FVec Ideal S256x1024 .f32) (q : Fin 8 → Vec Ideal S128x64 .bf16) (kp kc : Vec Ideal S128x64 .bf16) : FVec Ideal S256x1024 .f32 :=
  k0_pay5 b (q 0) (q 1) (q 2) (q 3) (q 4) (q 5) (q 6) (q 7) kp kc

/-- The quotients of a group: its heads stacked, over a lane's scores `z` and its sink. -/
def quotOf (z : FVec Ideal S256x1024 .f32) (vp vc : Vec Ideal S128x64 .bf16) (s : Fin 8 → Elt Ideal .f32) : FVec Ideal S1024x64 .f32 :=
  k0_pay10 k0_pay3 k0_pay4 z (k0_pay8 k0_pay3 (s 0) (s 1) (s 2) (s 3) (s 4)) (k0_pay9 k0_pay3) (s 5) (s 6) (s 7) vp vc

/-- The stacked heads side by side, and gated. -/
def gateOf (o : FVec Ideal S1024x64 .f32) (g : Vec Ideal S128x512 .bf16) : FVec Ideal S128x512 .bf16 :=
  k0_pay16 o (extractStridedSlice S128x64 ![0, 0] o slices_S1024x64_o0_0_S128x64)
    (extractStridedSlice S128x64 ![128, 0] o slices_S1024x64_o128_0_S128x64)
    (extractStridedSlice S128x64 ![256, 0] o slices_S1024x64_o256_0_S128x64)
    (extractStridedSlice S128x64 ![384, 0] o slices_S1024x64_o384_0_S128x64)
    (extractStridedSlice S128x64 ![512, 0] o slices_S1024x64_o512_0_S128x64) g

/-- A group's gated output. -/
def groupOf (b : FVec Ideal S256x1024 .f32) (q : Fin 8 → Vec Ideal S128x64 .bf16) (kp kc vp vc : Vec Ideal S128x64 .bf16)
    (s : Fin 8 → Elt Ideal .f32) (g : Vec Ideal S128x512 .bf16) : FVec Ideal S128x512 .bf16 :=
  gateOf (quotOf (scoresOf b q kp kc) vp vc s) g

section
variable (b : FVec Ideal S256x1024 .f32) (q : Fin 8 → Vec Ideal S128x64 .bf16) (kp kc vp vc : Vec Ideal S128x64 .bf16)
    (s : Fin 8 → Elt Ideal .f32) (g : Vec Ideal S128x512 .bf16)

/-- The head a lane belongs to, as the kernel divides for it. -/
theorem head_of : ∀ l : Fin 1024, k0_pay3 (ix2 0 l) = BitVec.ofNat 32 (l.val / 128) := by
  unfold k0_pay3
  pointwise
  decide +kernel

/-- Lane `128 t + r` of the stacked heads: row `r` of head `t`. -/
def lane (t : Fin 8) (r : Fin 128) : Fin 1024 := ⟨128 * t.val + r.val, by omega⟩

/-- The two blocks of 128 keys or values end to end. -/
def band (p c : Vec Ideal S128x64 .bf16) (k : Fin 256) (d : Fin 64) : EReal :=
  if h : k.val < 128 then p (ix2 ⟨k.val, h⟩ d) else c (ix2 ⟨k.val - 128, by omega⟩ d)

/-- A sum over the band is the sum over its two blocks. -/
theorem sum_band (f : EReal → Fin 256 → EReal) (p c : Vec Ideal S128x64 .bf16) (d : Fin 64) :
    (∑ k, f (band p c k d) k)
      = (∑ x : Fin 128, f (p (ix2 x d)) ⟨x.val, by omega⟩) + ∑ x : Fin 128, f (c (ix2 x d)) ⟨128 + x.val, by omega⟩ := by
  rw [Fin.sum_univ_add (a := 128) (b := 128) (fun k : Fin (128 + 128) => f (band p c k d) k)]
  refine congrArg₂ (· + ·) (Finset.sum_congr rfl fun x _ => ?_) (Finset.sum_congr rfl fun x _ => ?_)
  · unfold band
    rw [dif_pos (show (Fin.castAdd 128 x).val < 128 from x.isLt)]; rfl
  · unfold band
    rw [dif_neg (show ¬(Fin.natAdd 128 x).val < 128 by show ¬128 + x.val < 128; omega)]
    refine congrArg₂ f (congrArg (fun y => c (ix2 y d)) (Fin.ext ?_)) rfl
    show 128 + x.val - 128 = x.val; omega

theorem head_lane (t : Fin 8) (r : Fin 128) : k0_pay3 (ix2 0 (lane t r)) = BitVec.ofNat 32 t.val := by
  rw [head_of]; unfold lane
  rw [show (128 * t.val + r.val) / 128 = t.val by omega]

theorem named_log2e : Named.named (F := Ideal) κ "log2e" (φ := .f32) 0x3FB8AA3B#32 = log2e := rfl

theorem named_mask : Named.named (F := Ideal) κ "mask" (φ := .f32) 0xF149F2CA#32 = (⊥ : EReal) := rfl

/-- Which of eight stacked blocks a row lies in. -/
theorem stack_row (l : Fin 1024) (t : Fin 8) (r : Fin 128) (d : Fin 64) (hl : l.val = 128 * t.val + r.val) :
    (if h : l.val < 128 then q 0 (ix2 ⟨l.val, h⟩ d)
      else if h : l.val - 128 < 128 then q 1 (ix2 ⟨l.val - 128, h⟩ d)
      else if h : l.val - 128 - 128 < 128 then q 2 (ix2 ⟨l.val - 128 - 128, h⟩ d)
      else if h : l.val - 128 - 128 - 128 < 128 then q 3 (ix2 ⟨l.val - 128 - 128 - 128, h⟩ d)
      else if h : l.val - 128 - 128 - 128 - 128 < 128 then q 4 (ix2 ⟨l.val - 128 - 128 - 128 - 128, h⟩ d)
      else if h : l.val - 128 - 128 - 128 - 128 - 128 < 128 then q 5 (ix2 ⟨l.val - 128 - 128 - 128 - 128 - 128, h⟩ d)
      else if h : l.val - 128 - 128 - 128 - 128 - 128 - 128 < 128 then q 6 (ix2 ⟨l.val - 128 - 128 - 128 - 128 - 128 - 128, h⟩ d)
      else q 7 (ix2 ⟨l.val - 128 - 128 - 128 - 128 - 128 - 128 - 128, by omega⟩ d)) = q t (ix2 r d) := by
  have e : ∀ (j : Fin 8) (y : Fin 128), j.val = t.val → y.val = r.val → q j (ix2 y d) = q t (ix2 r d) := by
    intro j y hj hy
    rw [Fin.ext hj, Fin.ext hy]
  have hr := r.isLt
  have ht := t.isLt
  split_ifs
  · refine e 0 _ (show 0 = t.val by omega) (by dsimp only; omega)
  · refine e 1 _ (show 1 = t.val by omega) (by dsimp only; omega)
  · refine e 2 _ (show 2 = t.val by omega) (by dsimp only; omega)
  · refine e 3 _ (show 3 = t.val by omega) (by dsimp only; omega)
  · refine e 4 _ (show 4 = t.val by omega) (by dsimp only; omega)
  · refine e 5 _ (show 5 = t.val by omega) (by dsimp only; omega)
  · refine e 6 _ (show 6 = t.val by omega) (by dsimp only; omega)
  · refine e 7 _ (show 7 = t.val by omega) (by dsimp only; omega)

theorem scoresOf_apply (k : Fin 256) (t : Fin 8) (r : Fin 128) :
    scoresOf b q kp kc (ix2 k (lane t r)) = b (ix2 k (lane t r)) + ∑ d : Fin 64, band kp kc k d * q t (ix2 r d) := by
  unfold scoresOf k0_pay5
  pointwise
  refine congrArg (fun x : EReal => b (ix2 k (lane t r)) + x) (Finset.sum_congr rfl fun d _ => ?_)
  exact congrArg₂ (· * ·) rfl (stack_row q (lane t r) t r d rfl)

theorem bits_bot : Ideal.ofBits .f32 0xFF800000#32 = (⊥ : EReal) := by
  simp [Ideal.ofBits, Ideal.ieee]

/-- A lane's quotient: the softmax with its sink, over the band's values. -/
theorem quotOf_apply (z : FVec Ideal S256x1024 .f32) (x : Fin 8 → ℝ) (hs : ∀ j, s j = (x j : EReal)) (t : Fin 8) (r : Fin 128) (d : Fin 64) :
    quotOf z vp vc s (ix2 (lane t r) d) = once (fun k => z (ix2 k (lane t r))) (x t) (fun k => band vp vc k d) := by
  unfold once
  rw [sum_band (fun y k => y * Ideal.exp2 (z (ix2 k (lane t r)) - top (fun k => z (ix2 k (lane t r))) (x t)))]
  unfold top
  have ha : Scalar.select (IntOp.cmpi .eq (k0_pay3 (ix2 0 (lane t r))) 7#32) (s 7 * log2e : EReal)
      (Scalar.select (IntOp.cmpi .eq (k0_pay3 (ix2 0 (lane t r))) 6#32) (s 6 * log2e)
        (Scalar.select (IntOp.cmpi .eq (k0_pay3 (ix2 0 (lane t r))) 5#32) (s 5 * log2e)
          (k0_pay8 k0_pay3 (s 0) (s 1) (s 2) (s 3) (s 4) (ix2 0 (lane t r))))) = x t * log2e := by
    rw [← hs]
    unfold k0_pay8
    pointwise
    rw [head_lane]
    fin_cases t <;> rfl
  unfold quotOf k0_pay10 k0_pay9 k0_pay4
  pointwise
  rw [named_log2e, ha, bits_bot]
  rfl

/-- Column `64 t + d` of the gated output is column `d` of head `t`. -/
theorem gateOf_apply (o : FVec Ideal S1024x64 .f32) (t : Fin 8) (r : Fin 128) (d : Fin 64) :
    gateOf o g (ix2 r ⟨64 * t.val + d.val, by omega⟩) = (o (ix2 (lane t r) d) * g (ix2 r ⟨64 * t.val + d.val, by omega⟩) : EReal) := by
  unfold gateOf k0_pay16 lane
  pointwise
  refine congrArg (fun y : EReal => y * g (ix2 r ⟨64 * t.val + d.val, by omega⟩)) ?_
  have e : ∀ (y : Fin 1024) (c : Fin 64), y.val = 128 * t.val + r.val → c.val = d.val → o (ix2 y c) = o (ix2 ⟨128 * t.val + r.val, by omega⟩ d) := by
    intro y c hy hc
    rw [show y = ⟨128 * t.val + r.val, by omega⟩ from Fin.ext hy, Fin.ext hc]
  have hd := d.isLt
  have ht := t.isLt
  split_ifs <;> refine e _ _ (by dsimp only; omega) (by dsimp only; omega)

theorem groupOf_apply (x : Fin 8 → ℝ) (hs : ∀ j, s j = (x j : EReal)) (t : Fin 8) (r : Fin 128) (d : Fin 64) :
    groupOf b q kp kc vp vc s g (ix2 r ⟨64 * t.val + d.val, by omega⟩)
      = (once (fun k => scoresOf b q kp kc (ix2 k (lane t r))) (x t) (fun k => band vp vc k d) * g (ix2 r ⟨64 * t.val + d.val, by omega⟩) : EReal) := by
  unfold groupOf
  rw [gateOf_apply, quotOf_apply vp vc s _ x hs]

/-- The tests of the bias, over a band's rows and a head's lanes. -/
theorem window_test : ∀ (k : Fin 256) (l : Fin 128),
    IntOp.andi (IntOp.cmpi .sgt (BitVec.ofNat 32 k.val) (BitVec.ofNat 32 l.val)) (IntOp.cmpi .sle (BitVec.ofNat 32 k.val) (IntOp.addi (BitVec.ofNat 32 l.val) 128#32))
      = if l.val < k.val ∧ k.val ≤ l.val + 128 then 1#1 else 0#1 := by
  decide +kernel

theorem lane_test : ∀ l : Fin 1024, IntOp.andi (BitVec.ofNat 32 l.val) 127#32 = BitVec.ofNat 32 (l.val % 128) := by
  decide +kernel

theorem start_test : ∀ (n : Fin 16) (k : Fin 256), IntOp.ori (Scalar.cmpi .sgt (BitVec.ofNat 32 n.val) 0#32) (IntOp.cmpi .sge (BitVec.ofNat 32 k.val) 128#32)
      = if 0 < n.val ∨ 128 ≤ k.val then 1#1 else 0#1 := by
  decide +kernel

/-- The bias masks a key outside its query's window, and before the sequence's start. -/
theorem bias_apply (i : grid0.Coords) (k : Fin 256) (t : Fin 8) (r : Fin 128) :
    k0_pay2 (F := Ideal) i (ix2 k (lane t r)) = if (r.val < k.val ∧ k.val ≤ r.val + 128) ∧ (0 < (i 1).val ∨ 128 ≤ k.val) then (0 : EReal) else ⊥ := by
  unfold k0_pay2
  pointwise
  rw [named_mask, lane_test, show (lane t r).val % 128 = r.val by unfold lane; have := r.isLt; dsimp only; omega, window_test,
    start_test ⟨(i 1).val, (i 1).isLt⟩ k]
  dsimp only
  by_cases h1 : r.val < k.val ∧ k.val ≤ r.val + 128
  · by_cases h2 : 0 < (i 1).val ∨ 128 ≤ k.val
    · rw [if_pos h1, if_pos h2, if_pos ⟨h1, h2⟩]; rfl
    · rw [if_pos h1, if_neg h2, if_neg fun h => h2 h.2]; rfl
  · rw [if_neg h1, if_neg (show ¬((r.val < k.val ∧ k.val ≤ r.val + 128) ∧ (0 < (i 1).val ∨ 128 ≤ k.val)) from fun h => h1 h.1)]
    split_ifs <;> rfl
end

end Cert.Kernel5Ideal.Swa

end
-- ==== Proof.Swa.Run.lean ====
/- What a grid point of the sliding-window attention leaves in its output's block: four groups of heads side by side. -/
module

public import proofs.«01_k».proof.Proof.Gen.Kernel5Ideal.Frame
public import proofs.«01_k».proof.Proof.Swa.Group
public import Idealize.ShloMosaic.Lib.Pipeline.Value

@[expose] public section

set_option maxRecDepth 16384

noncomputable section

namespace Cert.Kernel5Ideal.Swa

open Cert.Kernel5Ideal Cert.Kernel5Ideal.Gen
open Idealize.ShloMosaic Idealize.ShloMosaic.TcCoe Idealize.SL.Sem

section
variable (b : FVec Ideal S256x1024 .f32) (q : Fin 8 → Vec Ideal S128x64 .bf16) (kp kc vp vc : Vec Ideal S128x64 .bf16)
    (s : Fin 8 → Elt Ideal .f32) (g : Vec Ideal S128x512 .bf16)

/-- The kernel's four groups compute the same function, however its steps are cut. -/
theorem group_0 :
    k0_pay16 (quotOf (k0_pay5 b (q 0) (q 1) (q 2) (q 3) (q 4) (q 5) (q 6) (q 7) kp kc) vp vc s)
      (k0_pay11 k0_pay3 k0_pay4 (k0_pay5 b (q 0) (q 1) (q 2) (q 3) (q 4) (q 5) (q 6) (q 7) kp kc) (k0_pay8 k0_pay3 (s 0) (s 1) (s 2) (s 3) (s 4)) (k0_pay9 k0_pay3) (s 5) (s 6) (s 7) vp vc)
      (k0_pay12 k0_pay3 k0_pay4 (k0_pay5 b (q 0) (q 1) (q 2) (q 3) (q 4) (q 5) (q 6) (q 7) kp kc) (k0_pay8 k0_pay3 (s 0) (s 1) (s 2) (s 3) (s 4)) (k0_pay9 k0_pay3) (s 5) (s 6) (s 7) vp vc)
      (k0_pay13 k0_pay3 k0_pay4 (k0_pay5 b (q 0) (q 1) (q 2) (q 3) (q 4) (q 5) (q 6) (q 7) kp kc) (k0_pay8 k0_pay3 (s 0) (s 1) (s 2) (s 3) (s 4)) (k0_pay9 k0_pay3) (s 5) (s 6) (s 7) vp vc)
      (k0_pay14 k0_pay3 k0_pay4 (k0_pay5 b (q 0) (q 1) (q 2) (q 3) (q 4) (q 5) (q 6) (q 7) kp kc) (k0_pay8 k0_pay3 (s 0) (s 1) (s 2) (s 3) (s 4)) (k0_pay9 k0_pay3) (s 5) (s 6) (s 7) vp vc)
      (k0_pay15 k0_pay3 k0_pay4 (k0_pay5 b (q 0) (q 1) (q 2) (q 3) (q 4) (q 5) (q 6) (q 7) kp kc) (k0_pay8 k0_pay3 (s 0) (s 1) (s 2) (s 3) (s 4)) (k0_pay9 k0_pay3) (s 5) (s 6) (s 7) vp vc)
      g = groupOf b q kp kc vp vc s g := rfl

theorem group_1 :
    k0_pay22 k0_pay4 (k0_pay17 b (k0_pay7 (k0_pay6 (q 0) (q 1) (q 2) (q 3) (q 4) (q 5) (q 6) (q 7)) kp kc)) (k0_pay20 k0_pay3 (k0_pay19 k0_pay3 (s 0)) (s 1) (s 2) (s 3) (s 4) (s 5) (s 6))
      (k0_pay21 k0_pay3) (s 7) (Named.named κ "log2e" 0x3FB8AA3B#32) vp vc g = groupOf b q kp kc vp vc s g := rfl

theorem group_2 :
    k0_pay31 (k0_pay27 k0_pay3 (k0_pay25 k0_pay3 (s 0) (s 1) (s 2)) k0_pay26 (s 3) (s 4) (s 5) (s 6) (s 7))
      (k0_pay28 k0_pay3 (k0_pay23 b (k0_pay18 (q 0) (q 1) (q 2) (q 3) (q 4) (q 5) (q 6) (q 7) kp kc)) (k0_pay25 k0_pay3 (s 0) (s 1) (s 2)) k0_pay26 (s 3) (s 4) (s 5) (s 6) (s 7))
      (k0_pay29 k0_pay4 vp vc)
      (k0_pay30 k0_pay3 (k0_pay23 b (k0_pay18 (q 0) (q 1) (q 2) (q 3) (q 4) (q 5) (q 6) (q 7) kp kc)) (k0_pay25 k0_pay3 (s 0) (s 1) (s 2)) k0_pay26 (s 3) (s 4) (s 5) (s 6) (s 7))
      g = groupOf b q kp kc vp vc s g := rfl

theorem group_3 :
    k0_pay1 k0_pay4 (k0_pay32 b (k0_pay24 (q 0) (q 1) (q 2) (q 3) (q 4) (q 5) (q 6) (q 7) kp kc))
      (k0_pay35 k0_pay3 (k0_pay33 k0_pay3 (s 0) (s 1)) (k0_pay34 k0_pay3) (s 2) (s 3) (s 4) (s 5) (s 6) (s 7))
      (k0_pay36 k0_pay3 (k0_pay32 b (k0_pay24 (q 0) (q 1) (q 2) (q 3) (q 4) (q 5) (q 6) (q 7) kp kc)) (k0_pay33 k0_pay3 (s 0) (s 1)) (k0_pay34 k0_pay3) (s 2) (s 3) (s 4) (s 5) (s 6) (s 7))
      (k0_pay37 vp vc) g = groupOf b q kp kc vp vc s g := rfl
end

/-- The columns of a head of 64 lanes inside its block, -/
theorem head_inb {n : ℕ} (j : ℕ) (h : 64 * j + 64 ≤ n) :
    ∀ a, (![0, 64 * j] : Fin 2 → Nat) a + (![128, 64] : Fin 2 → Nat) a ≤ (⟨2, ![128, n]⟩ : Shape).size a := by
  intro a
  match a with
  | ⟨0, _⟩ => exact Nat.le_refl 128
  | ⟨1, _⟩ => exact h

/-- a head's columns, -/
def head {n : ℕ} (x : Vec Ideal ⟨2, ![128, n]⟩ .bf16) (j : ℕ) (h : 64 * j + 64 ≤ n) : Vec Ideal S128x64 .bf16 :=
  View.ld (Val := Elt Ideal) (e' := .bf16) x (Rect.unit (s := ⟨2, ![128, n]⟩) ![0, 64 * j] ![128, 64] (head_inb j h))

theorem head_apply {n : ℕ} (x : Vec Ideal ⟨2, ![128, n]⟩ .bf16) (j : ℕ) (h : 64 * j + 64 ≤ n) (r : Fin 128) (d : Fin 64) :
    head x j h (ix2 r d) = x (ix2 r ⟨64 * j + d.val, by have := d.isLt; omega⟩) := by
  show x ((Rect.unit (s := ⟨2, ![128, n]⟩) ![0, 64 * j] ![128, 64] (head_inb j h)).emb (ix2 r d)) = _
  congr 1
  funext a
  match a with
  | ⟨0, _⟩ => apply Fin.ext; rw [Rect.emb_apply]; show 0 + 1 * r.val = r.val; omega
  | ⟨1, _⟩ => apply Fin.ext; rw [Rect.emb_apply]; show 64 * j + 1 * d.val = 64 * j + d.val; omega

theorem sink_inb (j : ℕ) (h : j < 32) : ∀ a, (![j] : Fin 1 → Nat) a + S1.size a ≤ S32.size a := by
  intro a
  match a with
  | ⟨0, _⟩ => exact h

/-- and its sink. -/
def sink (x : Vec Ideal S32 .f32) (j : ℕ) (h : j < 32) : Elt Ideal .f32 :=
  View.ld (Val := Elt Ideal) (e' := .f32) x (Rect.unit (s := S32) ![j] S1.size (sink_inb j h)) (Shape.Idx.first (s := S1) (numel1_S1.symm ▸ Nat.one_pos))

theorem sink_apply (x : Vec Ideal S32 .f32) (j : ℕ) (h : j < 32) : sink x j h = x (ix1 ⟨j, h⟩) := by
  unfold sink
  show x ((Rect.unit (s := S32) ![j] S1.size (sink_inb j h)).emb (Shape.Idx.first (s := S1) _)) = _
  congr 1
  funext a
  match a with
  | ⟨0, _⟩ => apply Fin.ext; rw [Rect.emb_apply]; show j + 1 * 0 = j; omega

/-- What a point computes for group `G`: query heads `8 G … 8 G + 7`, over key head `G` and value head `G`. -/
def groupAt (i : grid0.Coords) (x0 : Vec Ideal S32 .f32) (x1 : Vec Ideal S128x2048 .bf16) (x2 x3 : Vec Ideal S128x512 .bf16)
    (g : Fin 4 → Vec Ideal S128x512 .bf16) (G : Fin 4) : FVec Ideal S128x512 .bf16 :=
  groupOf (k0_pay2 i) (fun t => head x1 (8 * G.val + t.val) (by omega)) (head x2 G.val (by omega)) (head x3 G.val (by omega))
    (head x2 (4 + G.val) (by omega)) (head x3 (4 + G.val) (by omega)) (fun t => sink x0 (8 * G.val + t.val) (by omega)) (g G)

theorem cols_inb (G : Fin 4) : ∀ a, (![0, 512 * G.val] : Fin 2 → Nat) a + (![128, 512] : Fin 2 → Nat) a ≤ S128x2048.size a := by
  intro a
  match a with
  | ⟨0, _⟩ => exact Nat.le_refl 128
  | ⟨1, _⟩ => show 512 * G.val + 512 ≤ 2048; omega

/-- Columns `512 G … 512 G + 511`. -/
abbrev colRect (G : Fin 4) : Rect S128x2048 := Rect.unit (s := S128x2048) ![0, 512 * G.val] ![128, 512] (cols_inb G)

/-- Four groups side by side. -/
def sideBySide (f : Fin 4 → FVec Ideal S128x512 .bf16) : Vec Ideal S128x2048 .bf16 := fun y =>
  f ⟨(y 1).val / 512, by have : (y 1).val < 2048 := (y 1).isLt; omega⟩ (ix2 (y 0 : Fin 128) ⟨(y 1).val % 512, Nat.mod_lt _ (by decide)⟩)

theorem sideBySide_emb (f : Fin 4 → FVec Ideal S128x512 .bf16) (G : Fin 4) (x : S128x512.Idx) :
    sideBySide f ((colRect G).emb x) = f G x := by
  have hx : (x 1).val < 512 := (x 1).isLt
  have h1 : (((colRect G).emb x) 1).val = 512 * G.val + 1 * (x 1).val := by rw [Rect.emb_apply]; rfl
  unfold sideBySide
  refine congr (congrArg f (Fin.ext ?_)) ?_
  · show (((colRect G).emb x) 1).val / 512 = G.val; omega
  · funext a
    match a with
    | ⟨0, _⟩ => apply Fin.ext; show (((colRect G).emb x) 0).val = (x 0).val; rw [Rect.emb_apply]; show 0 + 1 * (x 0).val = _; omega
    | ⟨1, _⟩ => apply Fin.ext; show (((colRect G).emb x) 1).val % 512 = (x 1).val; omega

/-- A block whose four groups of columns were stored so reads them side by side. -/
theorem canon_groups (f : Fin 4 → FVec Ideal S128x512 .bf16) (L : List (View.Piece (Elt Ideal) S128x2048 .bf16))
    (hL : L = [⟨colRect 3, f 3⟩, ⟨colRect 2, f 2⟩, ⟨colRect 1, f 1⟩, ⟨colRect 0, f 0⟩])
    (hc : ∀ y, ∃ p ∈ L, y ∈ p.1.set) : View.canon L = sideBySide f := by
  funext y
  refine View.canon_apply_of_pieces (sideBySide f) L ?_ y (hc y)
  intro p hp x
  rw [hL] at hp
  simp only [List.mem_cons, List.not_mem_nil, or_false] at hp
  rcases hp with rfl | rfl | rfl | rfl <;> exact (sideBySide_emb f _ x).symm

/-- A gate block loaded whole. -/
theorem gate_load (x : Vec Ideal S128x512 .bf16) (inb) :
    View.ld (Val := Elt Ideal) (e' := .bf16) x (Rect.unit (s := S128x512) ![0, 0] ![128, 512] inb) = x :=
  View.ld_unit_zero (by funext a; match a with | ⟨0, _⟩ => rfl | ⟨1, _⟩ => rfl) _ _

theorem out_block (c : Dev nD) (i : grid0.Coords) (b2 h2 b3 h3 b4 h4 b5 h5 b6 h6 b7 h7 b8 h8 b9 h9 b10 h10)
    (x0 : Vec Ideal S32 .f32) (x1 : Vec Ideal S128x2048 .bf16) (x2 x3 : Vec Ideal S128x512 .bf16) (g : Fin 4 → Vec Ideal S128x512 .bf16) :
    out0_A_8 c i b2 h2 b3 h3 b4 h4 b5 h5 b6 h6 b7 h7 b8 h8 b9 h9 b10 h10 x0 x1 x2 x3 (g 0) (g 1) (g 2) (g 3) = sideBySide (groupAt i x0 x1 x2 x3 g) := by
  unfold out0_A_8
  rw [View.read_writes_eq_canon _ _ _ (cover0_A_8 c i b2 h2 b3 h3 b4 h4 b5 h5 b6 h6 b7 h7 b8 h8 b9 h9 b10 h10 x0 x1 x2 x3 (g 0) (g 1) (g 2) (g 3))]
  refine canon_groups _ _ ?_ (cover0_A_8 c i b2 h2 b3 h3 b4 h4 b5 h5 b6 h6 b7 h7 b8 h8 b9 h9 b10 h10 x0 x1 x2 x3 (g 0) (g 1) (g 2) (g 3))
  unfold kernelRun0_A
  sl_unfold_words
  dsimp only
  simp only [View.readAt_eq_ld, Memref.IsWhole.read_unread, gate_load]
  refine congrArg₂ List.cons (congrArg (Sigma.mk _) (group_3 (k0_pay2 i) (fun t => head x1 (8 * 3 + t.val) (by omega)) (head x2 3 (by omega)) (head x3 3 (by omega))
      (head x2 (4 + 3) (by omega)) (head x3 (4 + 3) (by omega)) (fun t => sink x0 (8 * 3 + t.val) (by omega)) (g 3)))
    (congrArg₂ List.cons (congrArg (Sigma.mk _) (group_2 (k0_pay2 i) (fun t => head x1 (8 * 2 + t.val) (by omega)) (head x2 2 (by omega)) (head x3 2 (by omega))
      (head x2 (4 + 2) (by omega)) (head x3 (4 + 2) (by omega)) (fun t => sink x0 (8 * 2 + t.val) (by omega)) (g 2)))
    (congrArg₂ List.cons (congrArg (Sigma.mk _) (group_1 (k0_pay2 i) (fun t => head x1 (8 * 1 + t.val) (by omega)) (head x2 1 (by omega)) (head x3 1 (by omega))
      (head x2 (4 + 1) (by omega)) (head x3 (4 + 1) (by omega)) (fun t => sink x0 (8 * 1 + t.val) (by omega)) (g 1)))
    (congrArg₂ List.cons (congrArg (Sigma.mk _) (group_0 (k0_pay2 i) (fun t => head x1 (8 * 0 + t.val) (by omega)) (head x2 0 (by omega)) (head x3 0 (by omega))
      (head x2 (4 + 0) (by omega)) (head x3 (4 + 0) (by omega)) (fun t => sink x0 (8 * 0 + t.val) (by omega)) (g 0))) rfl)))

end Cert.Kernel5Ideal.Swa

end
-- ==== Proof.Swa.Cell.lean ====
/- One element of the sliding-window attention's gated output, as the kernel computes it and as a function of the
   projected rows and the sinks. A key out of sight scores `⊥` and weighs nothing, whatever its value is. -/
module

public import proofs.«01_k».proof.Proof.Swa.Weights

@[expose] public section

noncomputable section

namespace Cert.Swa

open Idealize.ShloMosaic

/-- Row `r` of chunk `n` of batch `b`, -/
def row (b : Fin 4) (n : Fin 16) (r : Fin 128) : Fin 8192 := ⟨2048 * b.val + 128 * n.val + r.val, by omega⟩

/-- the row of key `k` of that chunk: the first 128 are the chunk's before it, its own where there is none, -/
def keyRow (b : Fin 4) (n : Fin 16) (k : Fin 256) : Fin 8192 :=
  ⟨if k.val < 128 then 2048 * b.val + 128 * (n.val - 1) + k.val else 2048 * b.val + 128 * n.val + (k.val - 128), by split_ifs <;> omega⟩

/-- and whether query `r` sees it. -/
def Seen (n : Fin 16) (r : Fin 128) (k : Fin 256) : Prop := (r.val < k.val ∧ k.val ≤ r.val + 128) ∧ (0 < n.val ∨ 128 ≤ k.val)

instance (n : Fin 16) (r : Fin 128) (k : Fin 256) : Decidable (Seen n r k) := by unfold Seen; infer_instance

/-- A group's columns: its query heads', its key head's, its value head's, its gates'. -/
def qcol (G : Fin 4) (t : Fin 8) (d : Fin 64) : Fin 4608 := ⟨64 * (8 * G.val + t.val) + d.val, by omega⟩
def kcol (G : Fin 4) (d : Fin 64) : Fin 4608 := ⟨2048 + (64 * G.val + d.val), by omega⟩
def vcol (G : Fin 4) (d : Fin 64) : Fin 4608 := ⟨2304 + (64 * G.val + d.val), by omega⟩
def gcol (G : Fin 4) (t : Fin 8) (d : Fin 64) : Fin 4608 := ⟨2560 + (64 * (8 * G.val + t.val) + d.val), by omega⟩

/-- Its output's columns. -/
def ocol (G : Fin 4) (t : Fin 8) (d : Fin 64) : Fin 2048 := ⟨64 * (8 * G.val + t.val) + d.val, by omega⟩

def hd (G : Fin 4) (t : Fin 8) : Fin 32 := ⟨8 * G.val + t.val, by omega⟩

variable (x : Fin 8192 → Fin 4608 → EReal) (s : Fin 32 → ℝ)

def dot (b : Fin 4) (n : Fin 16) (r : Fin 128) (G : Fin 4) (t : Fin 8) (k : Fin 256) : EReal :=
  ∑ d : Fin 64, x (keyRow b n k) (kcol G d) * x (row b n r) (qcol G t d)

def score (b : Fin 4) (n : Fin 16) (r : Fin 128) (G : Fin 4) (t : Fin 8) (k : Fin 256) : EReal :=
  (if Seen n r k then 0 else ⊥) + dot x b n r G t k

def cell (b : Fin 4) (n : Fin 16) (r : Fin 128) (G : Fin 4) (t : Fin 8) (d : Fin 64) : EReal :=
  once (score x b n r G t) (s (hd G t)) (fun k => x (keyRow b n k) (vcol G d)) * x (row b n r) (gcol G t d)

variable {x s}

theorem score_seen {b n r G t k} (h : Seen n r k) : score x b n r G t k = dot x b n r G t k := by
  unfold score; rw [if_pos h, zero_add]

theorem score_unseen {b n r G t k} (h : ¬Seen n r k) : score x b n r G t k = ⊥ := by
  unfold score; rw [if_neg h, EReal.bot_add]

/-- Real queries and keys score a real number, or `⊥` out of sight. -/
theorem score_score (h : ∀ i (j : Fin 4608), j.val < 2304 → ∃ r : ℝ, x i j = r) (b n r G t) (k : Fin 256) : Score (score x b n r G t k) := by
  by_cases hs : Seen n r k
  · right
    rw [score_seen hs]
    choose f hf using h
    refine ⟨∑ d : Fin 64, f (keyRow b n k) (kcol G d) (by unfold kcol; dsimp only; omega) * f (row b n r) (qcol G t d) (by unfold qcol; dsimp only; omega), ?_⟩
    unfold dot
    rw [← sum_real]
    refine Finset.sum_congr rfl fun d _ => ?_
    rw [hf _ _ (by unfold kcol; dsimp only; omega), hf _ _ (by unfold qcol; dsimp only; omega), EReal.coe_mul]
  · left; exact score_unseen hs

/-- A value out of sight does not matter. -/
theorem once_congr {n : ℕ} (z : Fin n → EReal) (s : ℝ) (v v' : Fin n → EReal) (h : ∀ k, z k = ⊥ ∨ v k = v' k) : once z s v = once z s v' := by
  unfold once
  congr 1
  refine Finset.sum_congr rfl fun k _ => ?_
  rcases h k with h | h
  · rw [h, sub_eq_add_neg, EReal.bot_add]
    show _ * Ideal.exp2 ⊥ = _ * Ideal.exp2 ⊥
    rw [show Ideal.exp2 ⊥ = 0 from rfl, mul_zero, mul_zero]
  · rw [h]

end Cert.Swa

end
-- ==== Proof.Swa.Blocks.lean ====
/- What the sliding-window attention's pipeline leaves: every element the softmax over its row's window, taken once, times
   its gate. -/
module

public import proofs.«01_k».proof.Proof.Swa.Run
public import proofs.«01_k».proof.Proof.Swa.Cell

@[expose] public section

set_option maxRecDepth 16384

noncomputable section

namespace Cert.Kernel5Ideal.Swa

open Cert.Kernel5Ideal Cert.Kernel5Ideal.Gen
open Idealize.ShloMosaic Idealize.ShloMosaic.TcCoe Idealize.SL.Sem
open Cert.Swa

variable (m : (ℓ : Loc nD τ sig) → Buf (Elt Ideal) ℓ) (c : Dev nD)

/-- The arguments as launched. -/
abbrev a0 : Vec Ideal S8192x4608 .bf16 := m ((c.tc : Thread nD τ).loc main_arg0)
abbrev a1 : Vec Ideal S1x32 .f32 := m ((c.tc : Thread nD τ).loc main_arg1)

/-- A point's batch and chunk. -/
def bat (t : Fin cfg0.N) : Fin 4 := ⟨t.val / 16, by have := lt_of_lt_of_eq t.isLt N_0; omega⟩
def chk (t : Fin cfg0.N) : Fin 16 := ⟨t.val % 16, Nat.mod_lt _ (by decide)⟩

theorem coord_1 : ∀ t : Fin cfg0.N, ((grid0.coords t) 1).val = t.val % 16 :=
  (by decide +kernel : ∀ t : Fin grid0.N, ((grid0.coords t) 1).val = t.val % 16)
theorem index_0 : ∀ t : Fin cfg0.N, cc0_transform_0 (grid0.coords t) 0 = 0 :=
  (by decide +kernel : ∀ t : Fin grid0.N, cc0_transform_0 (grid0.coords t) 0 = 0)
theorem index_1 : ∀ t : Fin cfg0.N, cc0_transform_1 (grid0.coords t) 0 = t.val ∧ cc0_transform_1 (grid0.coords t) 1 = 0 :=
  (by decide +kernel : ∀ t : Fin grid0.N, cc0_transform_1 (grid0.coords t) 0 = t.val ∧ cc0_transform_1 (grid0.coords t) 1 = 0)
theorem index_2 : ∀ t : Fin cfg0.N, cc0_transform_2 (grid0.coords t) 0 = 16 * (t.val / 16) + (t.val % 16 - 1) ∧ cc0_transform_2 (grid0.coords t) 1 = 4 :=
  (by decide +kernel : ∀ t : Fin grid0.N, cc0_transform_2 (grid0.coords t) 0 = 16 * (t.val / 16) + (t.val % 16 - 1) ∧ cc0_transform_2 (grid0.coords t) 1 = 4)
theorem index_3 : ∀ t : Fin cfg0.N, cc0_transform_3 (grid0.coords t) 0 = t.val ∧ cc0_transform_3 (grid0.coords t) 1 = 4 :=
  (by decide +kernel : ∀ t : Fin grid0.N, cc0_transform_3 (grid0.coords t) 0 = t.val ∧ cc0_transform_3 (grid0.coords t) 1 = 4)
theorem index_4 : ∀ t : Fin cfg0.N, cc0_transform_4 (grid0.coords t) 0 = t.val ∧ cc0_transform_4 (grid0.coords t) 1 = 5 :=
  (by decide +kernel : ∀ t : Fin grid0.N, cc0_transform_4 (grid0.coords t) 0 = t.val ∧ cc0_transform_4 (grid0.coords t) 1 = 5)
theorem index_5 : ∀ t : Fin cfg0.N, cc0_transform_5 (grid0.coords t) 0 = t.val ∧ cc0_transform_5 (grid0.coords t) 1 = 6 :=
  (by decide +kernel : ∀ t : Fin grid0.N, cc0_transform_5 (grid0.coords t) 0 = t.val ∧ cc0_transform_5 (grid0.coords t) 1 = 6)
theorem index_6 : ∀ t : Fin cfg0.N, cc0_transform_6 (grid0.coords t) 0 = t.val ∧ cc0_transform_6 (grid0.coords t) 1 = 7 :=
  (by decide +kernel : ∀ t : Fin grid0.N, cc0_transform_6 (grid0.coords t) 0 = t.val ∧ cc0_transform_6 (grid0.coords t) 1 = 7)
theorem index_7 : ∀ t : Fin cfg0.N, cc0_transform_7 (grid0.coords t) 0 = t.val ∧ cc0_transform_7 (grid0.coords t) 1 = 8 :=
  (by decide +kernel : ∀ t : Fin grid0.N, cc0_transform_7 (grid0.coords t) 0 = t.val ∧ cc0_transform_7 (grid0.coords t) 1 = 8)
theorem index_8 : ∀ t : Fin cfg0.N, cc0_transform_8 (grid0.coords t) 0 = t.val ∧ cc0_transform_8 (grid0.coords t) 1 = 0 :=
  (by decide +kernel : ∀ t : Fin grid0.N, cc0_transform_8 (grid0.coords t) 0 = t.val ∧ cc0_transform_8 (grid0.coords t) 1 = 0)

theorem row_val (t : Fin cfg0.N) (r : Fin 128) : (row (bat t) (chk t) r).val = t.val * 128 + r.val := by
  unfold row bat chk; dsimp only; omega

/-- The sinks, as one row. -/
theorem blk_0 (t : Fin cfg0.N) (j : Fin 32) : iblk m c 0 t (ix1 j) = a1 m c (ix2 0 j) := by
  have e0 := index_0 t
  have h : V m c main_v0 (ix1 j) = a1 m c (ix2 0 j) := by
    show (StableHlo.reshape main_arg1 main_v0 (rfl : (.f32 : EltTy) = .f32) shapeCasts_S1x32_S32 : HloOp τ sig (Elt Ideal)).result (fun b => m (c, b)) (Proc.devRef .tc main_v0) (ix1 j) = _
    rw [StableHlo.reshape_result]
    show shapeCast S32 (a1 m c) shapeCasts_S1x32_S32 (ix1 j) = _
    pointwise
  rw [← h]
  show V m c main_v0 (((cfg0.win 0).rect t).emb (ix1 j)) = _
  congr 1
  funext b
  match b with
  | ⟨0, _⟩ => apply Fin.ext; show cc0_transform_0 (grid0.coords t) 0 * 32 + 1 * j.val = j.val; rw [e0]; omega

/-- The queries. -/
theorem blk_1 (t : Fin cfg0.N) (r : Fin 128) (j : Fin 2048) : X0_1 m c t (ix2 r j) = a0 m c (ix2 (row (bat t) (chk t) r) ⟨j.val, by omega⟩) := by
  obtain ⟨e0, e1⟩ := index_1 t
  unfold X0_1 Pipeline.Window.fill
  rw [dif_pos (moved0_1 t (ix2 r j))]
  show V m c main_arg0 (((cfg0.win 1).rect t).emb _) = _
  rw [V_main_arg0]
  congr 1
  funext b
  match b with
  | ⟨0, _⟩ => apply Fin.ext; refine Eq.trans ?_ (row_val t r).symm; show cc0_transform_1 (grid0.coords t) 0 * 128 + 1 * r.val = t.val * 128 + r.val; rw [e0]; omega
  | ⟨1, _⟩ => apply Fin.ext; show cc0_transform_1 (grid0.coords t) 1 * 2048 + 1 * j.val = j.val; rw [e1]; omega

/-- The keys and values of the chunk before, or of the first chunk again, -/
theorem blk_2 (t : Fin cfg0.N) (k : Fin 256) (h : k.val < 128) (j : Fin 512) :
    iblk m c 2 t (ix2 ⟨k.val, h⟩ j) = a0 m c (ix2 (keyRow (bat t) (chk t) k) ⟨2048 + j.val, by omega⟩) := by
  obtain ⟨e0, e1⟩ := index_2 t
  show V m c main_arg0 (((cfg0.win 2).rect t).emb (ix2 ⟨k.val, h⟩ j)) = _
  rw [V_main_arg0]
  congr 1
  funext b
  match b with
  | ⟨0, _⟩ =>
    apply Fin.ext
    show cc0_transform_2 (grid0.coords t) 0 * 128 + 1 * k.val = (if k.val < 128 then 2048 * (t.val / 16) + 128 * (t.val % 16 - 1) + k.val else 2048 * (t.val / 16) + 128 * (t.val % 16) + (k.val - 128))
    rw [e0, if_pos h]; omega
  | ⟨1, _⟩ => apply Fin.ext; show cc0_transform_2 (grid0.coords t) 1 * 512 + 1 * j.val = 2048 + j.val; rw [e1]; omega

/-- and of its own. -/
theorem blk_3 (t : Fin cfg0.N) (k : Fin 256) (h : ¬k.val < 128) (j : Fin 512) :
    iblk m c 3 t (ix2 ⟨k.val - 128, by omega⟩ j) = a0 m c (ix2 (keyRow (bat t) (chk t) k) ⟨2048 + j.val, by omega⟩) := by
  obtain ⟨e0, e1⟩ := index_3 t
  show V m c main_arg0 (((cfg0.win 3).rect t).emb (ix2 ⟨k.val - 128, _⟩ j)) = _
  rw [V_main_arg0]
  congr 1
  funext b
  match b with
  | ⟨0, _⟩ =>
    apply Fin.ext
    show cc0_transform_3 (grid0.coords t) 0 * 128 + 1 * (k.val - 128) = (if k.val < 128 then 2048 * (t.val / 16) + 128 * (t.val % 16 - 1) + k.val else 2048 * (t.val / 16) + 128 * (t.val % 16) + (k.val - 128))
    rw [e0, if_neg h]; omega
  | ⟨1, _⟩ => apply Fin.ext; show cc0_transform_3 (grid0.coords t) 1 * 512 + 1 * j.val = 2048 + j.val; rw [e1]; omega

/-- The gates, a block for each group. -/
def gates (t : Fin cfg0.N) : Fin 4 → Vec Ideal S128x512 .bf16 := ![iblk m c 4 t, iblk m c 5 t, iblk m c 6 t, iblk m c 7 t]

theorem gates_apply (t : Fin cfg0.N) (G : Fin 4) (r : Fin 128) (j : Fin 512) :
    gates m c t G (ix2 r j) = a0 m c (ix2 (row (bat t) (chk t) r) ⟨2560 + (512 * G.val + j.val), by omega⟩) := by
  match G with
  | ⟨0, _⟩ =>
    obtain ⟨e0, e1⟩ := index_4 t
    show V m c main_arg0 (((cfg0.win 4).rect t).emb (ix2 r j)) = _
    rw [V_main_arg0]; congr 1; funext b
    match b with
    | ⟨0, _⟩ => apply Fin.ext; refine Eq.trans ?_ (row_val t r).symm; show cc0_transform_4 (grid0.coords t) 0 * 128 + 1 * r.val = t.val * 128 + r.val; rw [e0]; omega
    | ⟨1, _⟩ => apply Fin.ext; show cc0_transform_4 (grid0.coords t) 1 * 512 + 1 * j.val = 2560 + (512 * 0 + j.val); rw [e1]; omega
  | ⟨1, _⟩ =>
    obtain ⟨e0, e1⟩ := index_5 t
    show V m c main_arg0 (((cfg0.win 5).rect t).emb (ix2 r j)) = _
    rw [V_main_arg0]; congr 1; funext b
    match b with
    | ⟨0, _⟩ => apply Fin.ext; refine Eq.trans ?_ (row_val t r).symm; show cc0_transform_5 (grid0.coords t) 0 * 128 + 1 * r.val = t.val * 128 + r.val; rw [e0]; omega
    | ⟨1, _⟩ => apply Fin.ext; show cc0_transform_5 (grid0.coords t) 1 * 512 + 1 * j.val = 2560 + (512 * 1 + j.val); rw [e1]; omega
  | ⟨2, _⟩ =>
    obtain ⟨e0, e1⟩ := index_6 t
    show V m c main_arg0 (((cfg0.win 6).rect t).emb (ix2 r j)) = _
    rw [V_main_arg0]; congr 1; funext b
    match b with
    | ⟨0, _⟩ => apply Fin.ext; refine Eq.trans ?_ (row_val t r).symm; show cc0_transform_6 (grid0.coords t) 0 * 128 + 1 * r.val = t.val * 128 + r.val; rw [e0]; omega
    | ⟨1, _⟩ => apply Fin.ext; show cc0_transform_6 (grid0.coords t) 1 * 512 + 1 * j.val = 2560 + (512 * 2 + j.val); rw [e1]; omega
  | ⟨3, _⟩ =>
    obtain ⟨e0, e1⟩ := index_7 t
    show V m c main_arg0 (((cfg0.win 7).rect t).emb (ix2 r j)) = _
    rw [V_main_arg0]; congr 1; funext b
    match b with
    | ⟨0, _⟩ => apply Fin.ext; refine Eq.trans ?_ (row_val t r).symm; show cc0_transform_7 (grid0.coords t) 0 * 128 + 1 * r.val = t.val * 128 + r.val; rw [e0]; omega
    | ⟨1, _⟩ => apply Fin.ext; show cc0_transform_7 (grid0.coords t) 1 * 512 + 1 * j.val = 2560 + (512 * 3 + j.val); rw [e1]; omega

/-! ## A point's block -/

theorem out_eq (t : Fin cfg0.N) : outsAt0 m c t = sideBySide (groupAt (grid0.coords t) (iblk m c 0 t) (X0_1 m c t) (iblk m c 2 t) (iblk m c 3 t) (gates m c t)) := by
  unfold outsAt0
  exact out_block c (grid0.coords t) _ _ _ _ _ _ _ _ _ _ _ _ _ _ _ _ _ _ (iblk m c 0 t) (X0_1 m c t) (iblk m c 2 t) (iblk m c 3 t) (gates m c t)

/-- The keys and the values a point holds, a head's. -/
theorem band_eq (t : Fin cfg0.N) (j : ℕ) (h : 64 * j + 64 ≤ 512) (k : Fin 256) (d : Fin 64) :
    band (head (iblk m c 2 t) j h) (head (iblk m c 3 t) j h) k d = a0 m c (ix2 (keyRow (bat t) (chk t) k) ⟨2048 + (64 * j + d.val), by omega⟩) := by
  unfold band
  by_cases hk : k.val < 128
  · rw [dif_pos hk, head_apply]; exact blk_2 m c t k hk _
  · rw [dif_neg hk, head_apply]; exact blk_3 m c t k hk _

/-- The projected rows, by row and column. -/
def rows (i : Fin 8192) (j : Fin 4608) : EReal := a0 m c (ix2 i j)

theorem group_apply (y : Fin 32 → ℝ) (hy : ∀ j, (a1 m c (ix2 0 j) : EReal) = y j) (t : Fin cfg0.N) (G : Fin 4) (u : Fin 8) (r : Fin 128) (d : Fin 64) :
    groupAt (grid0.coords t) (iblk m c 0 t) (X0_1 m c t) (iblk m c 2 t) (iblk m c 3 t) (gates m c t) G (ix2 r ⟨64 * u.val + d.val, by omega⟩)
      = cell (rows m c) y (bat t) (chk t) r G u d := by
  unfold groupAt
  rw [groupOf_apply _ _ _ _ _ _ _ _ (fun u => y (hd G u)) (fun u => by rw [sink_apply, blk_0]; exact hy _)]
  unfold cell
  refine congrArg₂ (· * ·) ?_ ?_
  · refine congrArg₂ (fun z v => once z (y (hd G u)) v) (funext fun k => ?_) (funext fun k => ?_)
    · rw [scoresOf_apply, bias_apply]
      unfold score dot Seen
      refine congrArg₂ (· + ·) ?_ (Finset.sum_congr rfl fun e _ => congrArg₂ (· * ·) ?_ ?_)
      · rw [coord_1]; rfl
      · exact band_eq m c t _ _ k e
      · rw [head_apply]; exact blk_1 m c t r _
    · refine (band_eq m c t _ _ k d).trans (congrArg (a0 m c) ?_)
      congr 1
      apply Fin.ext
      show 2048 + (64 * (4 + G.val) + d.val) = 2304 + (64 * G.val + d.val)
      omega
  · refine (gates_apply m c t G r _).trans (congrArg (a0 m c) ?_)
    congr 1
    apply Fin.ext
    show 2560 + (512 * G.val + (64 * u.val + d.val)) = 2560 + (64 * (8 * G.val + u.val) + d.val)
    omega

/-! ## The array -/

/-- The array the pipeline fills. -/
def flat (y : Fin 32 → ℝ) : Vec Ideal S8192x2048 .bf16 := fun i =>
  cell (rows m c) y ⟨(i 0).val / 2048, by have : (i 0).val < 8192 := (i 0).isLt; omega⟩ ⟨(i 0).val / 128 % 16, Nat.mod_lt _ (by decide)⟩ ⟨(i 0).val % 128, Nat.mod_lt _ (by decide)⟩
    ⟨(i 1).val / 512, by have : (i 1).val < 2048 := (i 1).isLt; omega⟩ ⟨(i 1).val / 64 % 8, Nat.mod_lt _ (by decide)⟩ ⟨(i 1).val % 64, Nat.mod_lt _ (by decide)⟩

theorem flat_apply (y : Fin 32 → ℝ) (b : Fin 4) (n : Fin 16) (r : Fin 128) (G : Fin 4) (u : Fin 8) (d : Fin 64) :
    flat m c y (ix2 (row b n r) (ocol G u d)) = cell (rows m c) y b n r G u d := by
  show cell (rows m c) y ⟨(2048 * b.val + 128 * n.val + r.val) / 2048, _⟩ ⟨(2048 * b.val + 128 * n.val + r.val) / 128 % 16, _⟩ ⟨(2048 * b.val + 128 * n.val + r.val) % 128, _⟩
    ⟨(64 * (8 * G.val + u.val) + d.val) / 512, _⟩ ⟨(64 * (8 * G.val + u.val) + d.val) / 64 % 8, _⟩ ⟨(64 * (8 * G.val + u.val) + d.val) % 64, _⟩ = _
  congr 1 <;> apply Fin.ext <;> dsimp only <;> omega

theorem emb_8 (t : Fin cfg0.N) (r : Fin 128) (j : Fin 2048) :
    ((cfg0.win 8).rect t).emb (ix2 r j) = (ix2 (row (bat t) (chk t) r) j : S8192x2048.Idx) := by
  obtain ⟨e0, e1⟩ := index_8 t
  funext b
  match b with
  | ⟨0, _⟩ => apply Fin.ext; show cc0_transform_8 (grid0.coords t) 0 * 128 + 1 * r.val = (row (bat t) (chk t) r).val; rw [row_val, e0]; omega
  | ⟨1, _⟩ => apply Fin.ext; show cc0_transform_8 (grid0.coords t) 1 * 2048 + 1 * j.val = j.val; rw [e1]; omega

/-- Every column is a group's, a head's, a lane's. -/
theorem col_eq (j : Fin 2048) : ∃ (G : Fin 4) (u : Fin 8) (d : Fin 64), j = ocol G u d :=
  ⟨⟨j.val / 512, by omega⟩, ⟨j.val / 64 % 8, by omega⟩, ⟨j.val % 64, by omega⟩, Fin.ext (by unfold ocol; dsimp only; omega)⟩

theorem result_block (y : Fin 32 → ℝ) (hy : ∀ j, (a1 m c (ix2 0 j) : EReal) = y j) (t : Fin cfg0.N) (r : Fin 128) (j : Fin 2048) :
    outsAt0 m c t (ix2 r j) = flat m c y (((cfg0.win 8).rect t).emb (ix2 r j)) := by
  obtain ⟨G, u, d, rfl⟩ := col_eq j
  rw [emb_8, flat_apply, out_eq, ← group_apply m c y hy]
  unfold sideBySide
  refine congr (congrArg _ (Fin.ext ?_)) (congrArg (ix2 r) (Fin.ext ?_))
  · show (64 * (8 * G.val + u.val) + d.val) / 512 = G.val; omega
  · show (64 * (8 * G.val + u.val) + d.val) % 512 = 64 * u.val + d.val; omega

theorem final (y : Fin 32 → ℝ) (hy : ∀ j, (a1 m c (ix2 0 j) : EReal) = y j) : (dats m 0 c).arrAt 8 cfg0.N = flat m c y := by
  refine Pipeline.Dat.arrAt_eq_of_cover (dats m 0 c) 8 (flat m c y) (fun t hf => ?_) (fun i => ?_)
  · show (cfg0.win 8).cut (grid0.coords t) ((dats m 0 c).after 8 t) = _
    rw [after0_8]
    funext x
    have hx : (x : S128x2048.Idx) = ix2 (x 0) (x 1) := by
      funext b
      match b with
      | ⟨0, _⟩ => rfl
      | ⟨1, _⟩ => rfl
    show outsAt0 m c t x = flat m c y (((cfg0.win 8).rect t).emb x)
    rw [hx]
    exact result_block m c y hy t (x 0) (x 1)
  · have h0 : (i 0).val < 8192 := (i 0).isLt
    have h1 : (i 1).val < 2048 := (i 1).isLt
    have hN : (i 0).val / 128 < cfg0.N := by rw [show cfg0.N = 64 from N_0]; omega
    refine ⟨⟨_, hN⟩, flush0_8 _, ?_⟩
    have hi : i = ((cfg0.win 8).rect ⟨_, hN⟩).emb (ix2 (⟨(i 0).val % 128, Nat.mod_lt _ (by decide)⟩ : Fin 128) (⟨(i 1).val, h1⟩ : Fin 2048)) := by
      rw [emb_8]
      funext b
      match b with
      | ⟨0, _⟩ => apply Fin.ext; show (i 0).val = (row _ _ _).val; rw [row_val]; dsimp only; omega
      | ⟨1, _⟩ => rfl
    exact Eq.mp (congrArg (· ∈ ((cfg0.win 8).blk ⟨_, hN⟩).view.set) hi.symm) (View.emb_mem_set ((cfg0.win 8).blk ⟨_, hN⟩).view _)

end Cert.Kernel5Ideal.Swa

end
-- ==== Proof.Swa.Ref.lean ====
/- The sliding-window attention's reference, read at a row, a head and a lane. -/
module

public import proofs.«01_k».proof.Proof.Gen.Reference5Ideal.Read
public import proofs.«01_k».proof.Proof.Swa.Cell
public import Idealize.ShloMosaic.Lib.Pointwise
public import Idealize.ShloMosaic.Lib.ValueIdx
public import Idealize.ShloMosaic.Lib.ValueIdxRank6
public import Idealize.ShloMosaic.Lib.MatmulPlain
public import Idealize.ShloMosaic.Lib.KernelVsHost
public import Idealize.ShloMosaic.PureOps.Ideal.Laws

@[expose] public section

set_option maxRecDepth 16384

noncomputable section

namespace Cert.Reference5Ideal.Swa

open Cert.Reference5Ideal Cert.Reference5Ideal.Gen Cert.Reference5Ideal.Read
open Idealize.ShloMosaic
open Cert.Swa

variable (x0 : Vec Ideal S8192x4608 .bf16) (x1 : Vec Ideal S1x32 .f32)

/-- The projected rows, by row and column. -/
def rows (i : Fin 8192) (j : Fin 4608) : EReal := x0 (ix2 i j)

/-! ## The operands -/

theorem q_at (b : Fin 4) (n : Fin 16) (r : Fin 128) (G : Fin 4) (t : Fin 8) (d : Fin 64) :
    val_main_v10 (F := Ideal) x0 (ix6 b n r G t d) = rows x0 (row b n r) (qcol G t d) := by
  unfold val_main_v10 val_main_v6 val_main_v2 val_main_v1 val_main_v0
  pointwise
  unfold rows row qcol
  congr 2 <;> apply Fin.ext <;> dsimp only <;> omega

theorem k_at (b : Fin 4) (n : Fin 16) (r : Fin 128) (G : Fin 4) (d : Fin 64) :
    val_main_v11 (F := Ideal) x0 (ix5 b n r G d) = rows x0 (row b n r) (kcol G d) := by
  unfold val_main_v11 val_main_v7 val_main_v3 val_main_v1 val_main_v0
  pointwise
  unfold rows row kcol
  congr 2 <;> apply Fin.ext <;> dsimp only <;> omega

theorem v_at (b : Fin 4) (n : Fin 16) (r : Fin 128) (G : Fin 4) (d : Fin 64) :
    val_main_v15 (F := Ideal) x0 (ix5 b n r G d) = rows x0 (row b n r) (vcol G d) := by
  unfold val_main_v15 val_main_v8 val_main_v4 val_main_v1 val_main_v0
  pointwise
  unfold rows row vcol
  congr 2 <;> apply Fin.ext <;> dsimp only <;> omega

theorem before_row (b : Fin 4) (n : Fin 16) (k : Fin 256) (h : k.val < 128) (hn : n.val - 1 < 16) :
    row b ⟨n.val - 1, hn⟩ ⟨k.val, h⟩ = keyRow b n k := by
  apply Fin.ext; unfold row keyRow; dsimp only; rw [if_pos h]

theorem own_row (b : Fin 4) (n : Fin 16) (k : Fin 256) (h : ¬k.val < 128) (hk : k.val - 128 < 128) :
    row b n ⟨k.val - 128, hk⟩ = keyRow b n k := by
  apply Fin.ext; unfold row keyRow; dsimp only; rw [if_neg h]

/-- The band's keys, past the sequence's start -/
theorem keys_at (b : Fin 4) (n : Fin 16) (k : Fin 256) (G : Fin 4) (d : Fin 64) (h : 0 < n.val ∨ 128 ≤ k.val) :
    val_main_v14 (F := Ideal) x0 (ix5 b n k G d) = rows x0 (keyRow b n k) (kcol G d) := by
  unfold val_main_v14 val_main_v13 val_main_v12
  have hy := k_at x0
  generalize val_main_v11 (F := Ideal) x0 = y at hy
  pointwise
  by_cases hk : k.val < 128
  · rw [dif_pos hk, dif_pos ⟨⟨by omega, by omega⟩, hk⟩, hy, before_row]
  · rw [dif_neg hk, hy, own_row b n k hk]

/-- and its values. -/
theorem values_at (b : Fin 4) (n : Fin 16) (k : Fin 256) (G : Fin 4) (d : Fin 64) (h : 0 < n.val ∨ 128 ≤ k.val) :
    val_main_v18 (F := Ideal) x0 (ix5 b n k G d) = rows x0 (keyRow b n k) (vcol G d) := by
  unfold val_main_v18 val_main_v17 val_main_v16
  have hy := v_at x0
  generalize val_main_v15 (F := Ideal) x0 = y at hy
  pointwise
  by_cases hk : k.val < 128
  · rw [dif_pos hk, dif_pos ⟨⟨by omega, by omega⟩, hk⟩, hy, before_row]
  · rw [dif_neg hk, hy, own_row b n k hk]

/-! ## The scores -/

theorem window_test : ∀ (r : Fin 128) (k : Fin 256),
    IntOp.andi (IntOp.cmpi .sge (IntOp.subi (IntOp.addi (BitVec.ofNat 32 r.val) 128#32) (BitVec.ofNat 32 k.val)) 0#32)
        (IntOp.cmpi .slt (IntOp.subi (IntOp.addi (BitVec.ofNat 32 r.val) 128#32) (BitVec.ofNat 32 k.val)) 128#32)
      = if r.val < k.val ∧ k.val ≤ r.val + 128 then 1#1 else 0#1 := by
  decide +kernel

theorem start_test : ∀ (n : Fin 16) (k : Fin 256), IntOp.ori (IntOp.cmpi .sgt (BitVec.ofNat 32 n.val) 0#32) (IntOp.cmpi .sge (BitVec.ofNat 32 k.val) 128#32)
      = if 0 < n.val ∨ 128 ≤ k.val then 1#1 else 0#1 := by
  decide +kernel

theorem mask_at (b : Fin 4) (n : Fin 16) (G : Fin 4) (t : Fin 8) (r : Fin 128) (k : Fin 256) :
    val_main_call2_v1 (F := Ideal) (ix6 b n G t r k) = if Seen n r k then 1#1 else 0#1 := by
  unfold val_main_call2_v1 val_main_v53 val_main_v52 val_main_v51 val_main_v50 val_main_v49 val_main_v48 val_main_v47 val_main_v46 val_main_v45
    val_main_v44 val_main_c_5 val_main_v43 val_main_v42 val_main_c_4 val_main_v41 val_main_v40 val_main_v39 val_main_v38 val_main_v37 val_main_v36
    val_main_c_3 val_main_v35 val_main_v34 val_main_c_2 val_main_v33 val_main_v32 val_main_v31 val_main_v30 val_main_v29 val_main_c_1 val_main_v28
    val_main_v27 val_main_v26 val_main_v25
  pointwise
  rw [window_test, start_test]
  by_cases hw : r.val < k.val ∧ k.val ≤ r.val + 128
  · by_cases hs : 0 < n.val ∨ 128 ≤ k.val
    · rw [if_pos hw, if_pos hs, if_pos (show Seen n r k from ⟨hw, hs⟩)]; rfl
    · rw [if_pos hw, if_neg hs, if_neg (show ¬Seen n r k from fun h => hs h.2)]; rfl
  · rw [if_neg hw, if_neg (show ¬Seen n r k from fun h => hw h.1)]
    split_ifs <;> rfl

theorem log_two : Ideal.log (Ideal.ofBits .f32 0x40000000#32) = ln2 := by
  rw [show Ideal.ofBits .f32 0x40000000#32 = ((2 : ℝ) : EReal) by
    simp [Ideal.ofBits, Ideal.ieee]
    rw [← EReal.coe_mul]
    norm_num]
  show (if (2 : ℝ) ≤ 0 then (⊥ : EReal) else ((Real.log 2 : ℝ) : EReal)) = _
  rw [if_neg (by norm_num)]

theorem dot_at (b : Fin 4) (n : Fin 16) (G : Fin 4) (t : Fin 8) (r : Fin 128) (k : Fin 256) (h : 0 < n.val ∨ 128 ≤ k.val) :
    val_main_v24 (F := Ideal) x0 (ix6 b n G t r k) = dot (rows x0) b n r G t k * ln2 := by
  unfold val_main_v24 val_main_v23 val_main_v22 val_main_v21 val_main_cst val_main_v20 val_main_v19
  have hy := fun d => keys_at x0 b n k G d h
  have hz := q_at x0 b n r G t
  generalize val_main_v14 (F := Ideal) x0 = y at hy
  generalize val_main_v10 (F := Ideal) x0 = z at hz
  pointwise
  refine congrArg₂ (· * ·) (Finset.sum_congr rfl fun d _ => ?_) log_two
  rw [hy, hz]

theorem bits_bot : Ideal.ofBits .f32 0xFF800000#32 = (⊥ : EReal) := by
  simp [Ideal.ofBits, Ideal.ieee]

theorem score_at (b : Fin 4) (n : Fin 16) (G : Fin 4) (t : Fin 8) (r : Fin 128) (k : Fin 256) :
    val_main_v54 (F := Ideal) x0 (ix6 b n G t r k) = score (rows x0) b n r G t k * ln2 := by
  show Scalar.select (val_main_call2_v1 (F := Ideal) (ix6 b n G t r k)) (val_main_v24 (F := Ideal) x0 (ix6 b n G t r k)) (Ideal.ofBits .f32 0xFF800000#32) = _
  rw [mask_at, bits_bot]
  by_cases h : Seen n r k
  · rw [if_pos h, dot_at x0 b n G t r k h.2, score_seen h]; rfl
  · rw [if_neg h, score_unseen h, bot_mul_ln2]; rfl

variable (y : Fin 32 → ℝ) (hy : ∀ j, (x1 (ix2 0 j) : EReal) = y j)
include hy

/-- With the sink after them. -/
theorem scores_at (b : Fin 4) (n : Fin 16) (G : Fin 4) (t : Fin 8) (r : Fin 128) (j : Fin 257) :
    val_main_v58 (F := Ideal) x0 x1 (ix6 b n G t r j) = scores (score (rows x0) b n r G t) (y (hd G t)) j := by
  unfold val_main_v58 val_main_v57 val_main_v56 val_main_v55 val_main_v9
  have hz := score_at x0 b n G t r
  generalize val_main_v54 (F := Ideal) x0 = z at hz
  pointwise
  unfold scores
  by_cases h : j.val < 256
  · rw [dif_pos h, dif_pos h, hz]
  · rw [dif_neg h, dif_neg h, ← hy (hd G t)]
    congr 2
    apply Fin.ext
    show G.val * 8 + t.val = 8 * G.val + t.val
    omega

end Cert.Reference5Ideal.Swa

end
-- ==== Proof.Swa.RefLayout.lean ====
/- The sliding-window attention's reference: its reductions, and its output's layout. -/
module

public import proofs.«01_k».proof.Proof.Swa.Ref

@[expose] public section

set_option maxRecDepth 16384

noncomputable section

namespace Cert.Reference5Ideal.Swa

open Cert.Reference5Ideal Cert.Reference5Ideal.Gen Cert.Reference5Ideal.Read
open Idealize.ShloMosaic
open Cert.Swa

section
variable (z : FVec Ideal S4x16x4x8x128x257 .f32) (b : Fin 4) (n : Fin 16) (G : Fin 4) (t : Fin 8) (r : Fin 128)

theorem reduces_last : S4x16x4x8x128x257.Reduces [5] S4x16x4x8x128 := by decide

theorem lift_last (k : Fin 257) : reduces_last.lift (ix5 b n G t r) k = (ix6 b n G t r k : S4x16x4x8x128x257.Idx) := by
  funext a
  apply Fin.ext
  match a with
  | ⟨0, _⟩ => rfl
  | ⟨1, _⟩ => rfl
  | ⟨2, _⟩ => rfl
  | ⟨3, _⟩ => rfl
  | ⟨4, _⟩ => rfl
  | ⟨5, _⟩ => rfl

/-- The largest along the last axis, -/
theorem max_last : Host.reduce FloatOps.maximumf z (constant (F := Ideal) S_ .f32 0xFF800000#32) reducesTo_S4x16x4x8x128x257_S4x16x4x8x128_d5 h_S_ (ix5 b n G t r)
    = Finset.univ.fold max ⊥ fun k : Fin 257 => z (ix6 b n G t r k) := by
  rw [Host.reduce_eq_fold_single FloatOps.maximumf z _ _ reduces_last h_S_]
  show Finset.univ.fold max (Ideal.ofBits .f32 0xFF800000#32) (fun k : Fin 257 => z (reduces_last.lift (ix5 b n G t r) k)) = _
  rw [bits_bot]
  simp only [lift_last]

/-- and the sum along it. -/
theorem sum_last : Host.reduceAdd z (constant (F := Ideal) S_ .f32 0x00000000#32) reducesTo_S4x16x4x8x128x257_S4x16x4x8x128_d5 h_S_ (ix5 b n G t r)
    = ∑ k : Fin 257, z (ix6 b n G t r k) := by
  simp only [Host.reduceAdd, Ideal.hostReduceAdd_def]
  rw [Ideal.hostReduceAdd_single reducesTo_S4x16x4x8x128x257_S4x16x4x8x128_d5 reduces_last]
  show Ideal.ofBits .f32 0x00000000#32 + ∑ k : Fin 257, z (reduces_last.lift (ix5 b n G t r) k) = _
  simp only [lift_last]
  rw [show Ideal.ofBits .f32 0x00000000#32 = (0 : EReal) by simp [Ideal.ofBits, Ideal.ieee], zero_add]
end

variable (x0 : Vec Ideal S8192x4608 .bf16) (x1 : Vec Ideal S1x32 .f32)

/-! ## The output's layout -/

theorem v74_at (b : Fin 4) (n : Fin 16) (r : Fin 128) (G : Fin 4) (t : Fin 8) (d : Fin 64) :
    val_main_v74 (F := Ideal) x0 x1 (ix3 b ⟨128 * n.val + r.val, by omega⟩ (ocol G t d)) = val_main_v72 (F := Ideal) x0 x1 (ix6 b n r G t d) := by
  unfold val_main_v74 val_main_v73
  generalize val_main_v72 (F := Ideal) x0 x1 = y
  rw [shapeCast_apply _ shapeCasts_S4x2048x32x64_S4x2048x2048 _ (ix4 b ⟨128 * n.val + r.val, by omega⟩ (hd G t) d) (by
      rw [Shape.rowMajor_val_four, Shape.rowMajor_val_three]
      show ((b.val * 2048 + (128 * n.val + r.val)) * 32 + (8 * G.val + t.val)) * 64 + d.val = (b.val * 2048 + (128 * n.val + r.val)) * 2048 + (64 * (8 * G.val + t.val) + d.val)
      omega)]
  exact shapeCast_apply y shapeCasts_S4x16x128x4x8x64_S4x2048x32x64 _ (ix6 b n r G t d) (by
      rw [Shape.rowMajor_val_six, Shape.rowMajor_val_four]
      show ((((b.val * 16 + n.val) * 128 + r.val) * 4 + G.val) * 8 + t.val) * 64 + d.val = ((b.val * 2048 + (128 * n.val + r.val)) * 32 + (8 * G.val + t.val)) * 64 + d.val
      omega)

theorem v72_at (b : Fin 4) (n : Fin 16) (r : Fin 128) (G : Fin 4) (t : Fin 8) (d : Fin 64) :
    val_main_v72 (F := Ideal) x0 x1 (ix6 b n r G t d)
      = ∑ k : Fin 256, (val_main_v18 (F := Ideal) x0 (ix5 b n k G d) : EReal) * val_main_v70 (F := Ideal) x0 x1 (ix6 b n G t r k) := by
  rw [val_main_v72_apply, val_main_v71_apply]
  refine Finset.sum_congr rfl fun k _ => congrArg₂ (· * ·) (congrArg _ ?_) (congrArg _ ?_)
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl
    | ⟨5, _⟩ => rfl

theorem gate_at (b : Fin 4) (n : Fin 16) (r : Fin 128) (G : Fin 4) (t : Fin 8) (d : Fin 64) :
    val_main_v5 (F := Ideal) x0 (ix3 b ⟨128 * n.val + r.val, by omega⟩ (ocol G t d)) = rows x0 (row b n r) (gcol G t d) := by
  unfold val_main_v5 val_main_v1 val_main_v0
  pointwise
  unfold rows row gcol ocol
  congr 2 <;> apply Fin.ext <;> dsimp only <;> omega

theorem v77_at (b : Fin 4) (n : Fin 16) (r : Fin 128) (j : Fin 2048) :
    val_main_v77 (F := Ideal) x0 x1 (ix2 (row b n r) j) = val_main_v75 (F := Ideal) x0 x1 (ix3 b ⟨128 * n.val + r.val, by omega⟩ j) := by
  unfold val_main_v77 val_main_v76
  generalize val_main_v75 (F := Ideal) x0 x1 = y
  exact shapeCast_apply _ shapeCasts_S4x2048x2048_S8192x2048 _ (ix3 b ⟨128 * n.val + r.val, by omega⟩ j) (by
      rw [Shape.rowMajor_val_three, Shape.rowMajor_val_two]
      show (b.val * 2048 + (128 * n.val + r.val)) * 2048 + j.val = (2048 * b.val + 128 * n.val + r.val) * 2048 + j.val
      omega)

end Cert.Reference5Ideal.Swa

end
-- ==== Proof.Swa.RefOut.lean ====
module

public import proofs.«01_k».proof.Proof.Swa.RefLayout

/-! # The sliding-window reference: its weights, and the output they weigh -/

@[expose] public section

set_option maxRecDepth 16384

noncomputable section

namespace Cert.Reference5Ideal.Swa

open Cert.Reference5Ideal Cert.Reference5Ideal.Gen Cert.Reference5Ideal.Read
open Idealize.ShloMosaic
open Cert.Swa

variable (x0 : Vec Ideal S8192x4608 .bf16) (x1 : Vec Ideal S1x32 .f32)

/-! ## Stages whose operands are known -/

theorem v65_at (b : Fin 4) (n : Fin 16) (G : Fin 4) (t : Fin 8) (r : Fin 128) (j : Fin 257) (z w : EReal)
    (hz : val_main_v58 (F := Ideal) x0 x1 (ix6 b n G t r j) = z) (hw : val_main_v59 (F := Ideal) x0 x1 (ix5 b n G t r) = w) :
    val_main_v65 (F := Ideal) x0 x1 (ix6 b n G t r j) = Ideal.exp (z - max ⊥ w) := by
  have e : idx_main_v62 (idx_main_v63 (ix6 b n G t r j)) = ix5 b n G t r := by
    funext a
    match a with
    | ⟨0, _⟩ => rfl
    | ⟨1, _⟩ => rfl
    | ⟨2, _⟩ => rfl
    | ⟨3, _⟩ => rfl
    | ⟨4, _⟩ => rfl
  rw [val_main_v65_apply, val_main_v64_apply, val_main_v63_apply, val_main_v62_apply, val_main_v61_apply, val_main_v60_apply,
    val_main_cst_8_apply, e, hz, hw]
  show Ideal.exp (z - max (Ideal.ofBits .f32 0xFF800000#32) w) = _
  rw [bits_bot]

theorem v75_at (i : S4x2048x2048.Idx) (z w : EReal) (hz : val_main_v74 (F := Ideal) x0 x1 i = z) (hw : val_main_v5 (F := Ideal) x0 i = w) :
    val_main_v75 (F := Ideal) x0 x1 i = z * w := by
  rw [val_main_v75_apply, hz, hw]
  rfl

theorem gated_at (b : Fin 4) (n : Fin 16) (r : Fin 128) (G : Fin 4) (t : Fin 8) (d : Fin 64) (z : EReal)
    (hz : (∑ k : Fin 256, (val_main_v18 (F := Ideal) x0 (ix5 b n k G d) : EReal) * val_main_v70 (F := Ideal) x0 x1 (ix6 b n G t r k)) = z) :
    val_main_v77 (F := Ideal) x0 x1 (ix2 (row b n r) (ocol G t d)) = z * rows x0 (row b n r) (gcol G t d) :=
  (v77_at x0 x1 b n r (ocol G t d)).trans
    (v75_at x0 x1 _ _ _ ((v74_at x0 x1 b n r G t d).trans ((v72_at x0 x1 b n r G t d).trans hz)) (gate_at x0 b n r G t d))

/-! ## The weights -/

variable (y : Fin 32 → ℝ) (hy : ∀ j, (x1 (ix2 0 j) : EReal) = y j)
include hy

theorem max_at (b : Fin 4) (n : Fin 16) (G : Fin 4) (t : Fin 8) (r : Fin 128) :
    val_main_v59 (F := Ideal) x0 x1 (ix5 b n G t r) = Finset.univ.fold max ⊥ (scores (score (rows x0) b n r G t) (y (hd G t))) := by
  refine (max_last _ b n G t r).trans ?_
  congr 1
  funext k
  exact scores_at x0 x1 y hy b n G t r k

theorem expo_at (b : Fin 4) (n : Fin 16) (G : Fin 4) (t : Fin 8) (r : Fin 128) (j : Fin 257) :
    val_main_v65 (F := Ideal) x0 x1 (ix6 b n G t r j) = expo (score (rows x0) b n r G t) (y (hd G t)) j := by
  unfold expo
  exact v65_at x0 x1 b n G t r j _ _ (scores_at x0 x1 y hy b n G t r j) (max_at x0 x1 y hy b n G t r)

theorem weight_at (b : Fin 4) (n : Fin 16) (G : Fin 4) (t : Fin 8) (r : Fin 128) (k : Fin 256) :
    val_main_v70 (F := Ideal) x0 x1 (ix6 b n G t r k)
      = Ideal.div (expo (score (rows x0) b n r G t) (y (hd G t)) k.castSucc) (∑ j, expo (score (rows x0) b n r G t) (y (hd G t)) j) := by
  have hz := expo_at x0 x1 y hy b n G t r
  have hm : val_main_v66 (F := Ideal) x0 x1 (ix5 b n G t r) = ∑ j, expo (score (rows x0) b n r G t) (y (hd G t)) j :=
    (sum_last _ b n G t r).trans (by simp only [hz])
  unfold val_main_v70 val_main_v69 val_main_v68 val_main_v67
  generalize val_main_v65 (F := Ideal) x0 x1 = z at hz
  generalize val_main_v66 (F := Ideal) x0 x1 = w at hm
  pointwise
  rw [hz, hm]
  rfl

/-! ## The output -/

theorem out_at (b : Fin 4) (n : Fin 16) (r : Fin 128) (G : Fin 4) (t : Fin 8) (d : Fin 64) :
    val_main_v77 (F := Ideal) x0 x1 (ix2 (row b n r) (ocol G t d))
      = each (score (rows x0) b n r G t) (y (hd G t)) (fun k => val_main_v18 (F := Ideal) x0 (ix5 b n k G d)) * rows x0 (row b n r) (gcol G t d) := by
  refine gated_at x0 x1 b n r G t d _ ?_
  unfold each
  refine Finset.sum_congr rfl fun k _ => ?_
  rw [weight_at x0 x1 y hy]

theorem cell_at (h : ∀ i (j : Fin 4608), j.val < 2304 → ∃ a : ℝ, rows x0 i j = a) (b : Fin 4) (n : Fin 16) (r : Fin 128) (G : Fin 4) (t : Fin 8) (d : Fin 64) :
    val_main_v77 (F := Ideal) x0 x1 (ix2 (row b n r) (ocol G t d)) = cell (rows x0) y b n r G t d := by
  rw [out_at x0 x1 y hy, ← once_eq_each _ _ _ (score_score h b n r G t)]
  unfold cell
  refine congrArg₂ (· * ·) (once_congr _ _ _ _ fun k => ?_) rfl
  by_cases hs : Seen n r k
  · exact Or.inr (values_at x0 b n k G d hs.2)
  · exact Or.inl (score_unseen hs)

end Cert.Reference5Ideal.Swa

end
-- ==== Proof.Swa.Pre.lean ====
module

public import proofs.«01_k».proof.Proof.Gen.Pre_scores_finite
public import Idealize.ShloMosaic.Lib.ReduceAll
public import Idealize.ShloMosaic.Lib.Pointwise

/-! # What the precondition says: the queries, the keys and the sinks are real numbers -/

@[expose] public section

set_option maxRecDepth 16384

noncomputable section

namespace Cert.Pre_scores_finite.Swa

open Cert.Pre_scores_finite Cert.Pre_scores_finite.Gen
open Idealize.ShloMosaic

theorem bits_top16 : Ideal.ofBits .bf16 0x7F80#16 = ⊤ := by simp [Ideal.ofBits, Ideal.ieee]

theorem bits_top32 : Ideal.ofBits .f32 0x7F800000#32 = ⊤ := by simp [Ideal.ofBits, Ideal.ieee]

/-- A number whose size is under `⊤` is real. -/
theorem real_of_lt (a b : EReal) (hb : b = ⊤) (h : BitVec.ofBool (decide (max a (-a) < b)) = 1#1) : ∃ r : ℝ, a = r := by
  subst hb
  have hl : max a (-a) < ⊤ := by
    by_contra hn
    simp [hn] at h
  induction a using EReal.rec with
  | bot => simp at hl
  | coe r => exact ⟨r, rfl⟩
  | top => simp at hl

variable (x0 : Vec Ideal S8192x4608 .bf16) (x1 : Vec Ideal S1x32 .f32)

instance : Subsingleton S_.Idx := ⟨fun a b => funext fun k => k.elim0⟩

theorem halves (h : fn (F := Ideal) x0 x1 = fun _ => 1#1) :
    (∀ i, cmpf (F := Ideal) .olt (Host.absf (extractStridedSlice S8192x2304 ![0, 0] x0 Facts.slices_S8192x4608_S8192x2304_0_0))
        (broadcastInDim S8192x2304 ![] Facts.bcast_S_S8192x2304 (constant S_ .bf16 0x7F80#16)) i = 1#1)
      ∧ ∀ i, cmpf (F := Ideal) .olt (Host.absf x1) (broadcastInDim S1x32 ![] Facts.bcast_S_S1x32 (constant S_ .f32 0x7F800000#32)) i = 1#1 := by
  have h0 := congrFun h (fun k => k.elim0)
  unfold fn at h0
  dsimp only at h0
  obtain ⟨ha, hb⟩ := IntOp.andi_eq_one.1 h0
  exact ⟨Host.reduce_andi_all _ _ _ _ _ ha, Host.reduce_andi_all _ _ _ _ _ hb⟩

theorem real_rows (h : fn (F := Ideal) x0 x1 = fun _ => 1#1) (i : Fin 8192) (j : Fin 4608) (hj : j.val < 2304) :
    ∃ a : ℝ, (x0 (ix2 i j) : EReal) = a := by
  have e := (halves x0 x1 h).1 (ix2 i ⟨j.val, hj⟩)
  pointwise at e
  exact real_of_lt _ _ bits_top16 e

theorem real_sinks (h : fn (F := Ideal) x0 x1 = fun _ => 1#1) (j : Fin 32) : ∃ a : ℝ, (x1 (ix2 0 j) : EReal) = a := by
  have e := (halves x0 x1 h).2 (ix2 0 j)
  pointwise at e
  exact real_of_lt _ _ bits_top32 e

end Cert.Pre_scores_finite.Swa

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_scores_finite
public import proofs.«01_k».proof.Proof.Even.Value
public import proofs.«01_k».proof.Proof.Even.Printed
public import proofs.«01_k».proof.Proof.Even.RefOut
public import proofs.«01_k».proof.Proof.Out.Value
public import proofs.«01_k».proof.Proof.Out.Normed
public import proofs.«01_k».proof.Proof.Odd.Value
public import proofs.«01_k».proof.Proof.Odd.Printed
public import proofs.«01_k».proof.Proof.Odd.Ref
public import proofs.«01_k».proof.Proof.Swa.Blocks
public import proofs.«01_k».proof.Proof.Swa.RefOut
public import proofs.«01_k».proof.Proof.Swa.Pre
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal := fun m ρ _ => Cert.KernelIdeal.Even.quiet (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The reference's result is the pipeline's. -/
theorem result_eq (m : (ℓ : Loc Cert.KernelIdeal.nD Cert.KernelIdeal.τ Cert.KernelIdeal.sig) → Buf (Elt Ideal) ℓ) (c : Dev Cert.KernelIdeal.nD) :
    Cert.ReferenceIdeal.Read.val_main_v184 (F := Ideal) (Cert.KernelIdeal.Even.a0 m c) (Cert.KernelIdeal.Even.a1 m c) (Cert.KernelIdeal.Even.a2 m c) (Cert.KernelIdeal.Even.a3 m c)
      = Cert.KernelIdeal.Even.result m c := by
  funext i
  have hi : i = ix2 (i 0) (i 1) := by
    funext b
    match b with
    | ⟨0, _⟩ => rfl
    | ⟨1, _⟩ => rfl
  rw [hi]
  exact Cert.ReferenceIdeal.Even.v184_apply _ _ _ _ (i 0) (i 1)

theorem result_of (m : (ℓ : Loc Cert.KernelIdeal.nD Cert.KernelIdeal.τ Cert.KernelIdeal.sig) → Buf (Elt Ideal) ℓ) (c : Dev Cert.KernelIdeal.nD) (x0 x1 x2 x3)
    (h0 : x0 = Cert.KernelIdeal.Even.a0 m c) (h1 : x1 = Cert.KernelIdeal.Even.a1 m c) (h2 : x2 = Cert.KernelIdeal.Even.a2 m c) (h3 : x3 = Cert.KernelIdeal.Even.a3 m c) :
    Cert.ReferenceIdeal.Read.val_main_v184 (F := Ideal) x0 x1 x2 x3 = Cert.KernelIdeal.Even.result m c := by
  subst h0 h1 h2 h3
  exact result_eq m c

theorem algebraic : Cert.algebraic_KernelIdeal_ReferenceIdeal := fun m g m' g' _ hargs => by
  refine ⟨fun c => Cert.KernelIdeal.Even.result m c, ?_, ?_⟩
  · refine (θ_run Cert.KernelIdeal.defs _ _).mono (fun r h c => ⟨((h.1 c).1 7).trans (Cert.KernelIdeal.Even.final m c), h.2 c⟩)
      (θ_run_and (Cert.KernelIdeal.Even.run m g) (Cert.KernelIdeal.Gen.frame_of m g _ (Cert.KernelIdeal.Even.dat_A m) (Cert.KernelIdeal.Even.run m g)))
  · refine (θ_run Cert.ReferenceIdeal.defs _ _).mono (fun r h c => ⟨(h c).1.trans ?_, (h c).2⟩) (Cert.ReferenceIdeal.Value.run m' g')
    obtain ⟨e0, e1, e2, e3⟩ := hargs c
    rw [Cert.ReferenceIdeal.Read.val_main_v184_eq]
    exact result_of m c _ _ _ _ e0 e1 e2 e3

/-! ## The output projection -/

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem result_of2 (m : (ℓ : Loc Cert.Kernel2Ideal.nD Cert.Kernel2Ideal.τ Cert.Kernel2Ideal.sig) → Buf (Elt Ideal) ℓ) (c : Dev Cert.Kernel2Ideal.nD) (x0 x1 x2)
    (h0 : x0 = Cert.Kernel2Ideal.Out.a0 m c) (h1 : x1 = Cert.Kernel2Ideal.Out.a1 m c) (h2 : x2 = Cert.Kernel2Ideal.Out.a2 m c) :
    Cert.Reference2Ideal.Read.val_main_v4 (F := Ideal) x0 x1 x2 = Cert.Kernel2Ideal.Out.result m c := by
  subst h0 h1 h2
  exact Cert.Kernel2Ideal.Out.result_eq m c

theorem algebraic2 : Cert.algebraic_Kernel2Ideal_Reference2Ideal := fun m g m' g' _ hargs => by
  refine ⟨fun c => Cert.Kernel2Ideal.Out.result m c, ?_, ?_⟩
  · refine (θ_run Cert.Kernel2Ideal.defs _ _).mono (fun r h c =>
        ⟨((h.1 c).2 Cert.Kernel2Ideal.main_v2 (Pipeline.mem_restRefs_of Cert.Kernel2Ideal.main_v2 (by decide) (by decide))).trans (Cert.Kernel2Ideal.Out.tail_eq m c), h.2 c⟩)
      (θ_run_and (Cert.Kernel2Ideal.Gen.run_main m g) (Cert.Kernel2Ideal.Gen.frame_of m g _ (Cert.Kernel2Ideal.Gen.A_eq m) (Cert.Kernel2Ideal.Gen.run_main m g)))
  · refine (θ_run Cert.Reference2Ideal.defs _ _).mono (fun r h c => ⟨(h c).1.trans ?_, (h c).2⟩) (Cert.Reference2Ideal.Value.run m' g')
    obtain ⟨e0, e1, e2⟩ := hargs c
    rw [Cert.Reference2Ideal.Read.val_main_v4_eq]
    exact result_of2 m c _ _ _ e0 e1 e2

/-! ## The odd layer's projection -/

theorem frame_ideal3 : Cert.quiescent_Kernel3Ideal := fun m ρ _ => Cert.Kernel3Ideal.Odd.quiet (F := Ideal) m ρ

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem result_of3 (m : (ℓ : Loc Cert.Kernel3Ideal.nD Cert.Kernel3Ideal.τ Cert.Kernel3Ideal.sig) → Buf (Elt Ideal) ℓ) (c : Dev Cert.Kernel3Ideal.nD) (x0 x1 x2)
    (h0 : x0 = Cert.Kernel3Ideal.Odd.a0 m c) (h1 : x1 = Cert.Kernel3Ideal.Odd.a1 m c) (h2 : x2 = Cert.Kernel3Ideal.Odd.a2 m c) :
    Cert.Reference3Ideal.Read.val_main_v99 (F := Ideal) x0 x1 x2 = Cert.Kernel3Ideal.Odd.result m c := by
  subst h0 h1 h2
  funext i
  have hi : i = ix2 (i 0) (i 1) := by
    funext b
    match b with
    | ⟨0, _⟩ => rfl
    | ⟨1, _⟩ => rfl
  rw [hi]
  exact Cert.Reference3Ideal.Odd.v99_apply _ _ _ (i 0) (i 1)

theorem algebraic3 : Cert.algebraic_Kernel3Ideal_Reference3Ideal := fun m g m' g' _ hargs => by
  refine ⟨fun c => Cert.Kernel3Ideal.Odd.result m c, ?_, ?_⟩
  · refine (θ_run Cert.Kernel3Ideal.defs _ _).mono (fun r h c => ⟨((h.1 c).1 5).trans (Cert.Kernel3Ideal.Odd.final m c), h.2 c⟩)
      (θ_run_and (Cert.Kernel3Ideal.Odd.run m g) (Cert.Kernel3Ideal.Gen.frame_of m g _ (Cert.Kernel3Ideal.Odd.dat_A m) (Cert.Kernel3Ideal.Odd.run m g)))
  · refine (θ_run Cert.Reference3Ideal.defs _ _).mono (fun r h c => ⟨(h c).1.trans ?_, (h c).2⟩) (Cert.Reference3Ideal.Value.run m' g')
    obtain ⟨e0, e1, e2⟩ := hargs c
    rw [Cert.Reference3Ideal.Read.val_main_v99_eq]
    exact result_of3 m c _ _ _ e0 e1 e2

/-! ## The even layer's output projection -/

theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

theorem result_of4 (m : (ℓ : Loc Cert.Kernel4Ideal.nD Cert.Kernel4Ideal.τ Cert.Kernel4Ideal.sig) → Buf (Elt Ideal) ℓ) (c : Dev Cert.Kernel4Ideal.nD) (x0 x1 x2 x3 x4)
    (h0 : x0 = Cert.Kernel4Ideal.Out.a0 m c) (h1 : x1 = Cert.Kernel4Ideal.Out.a1 m c) (h2 : x2 = Cert.Kernel4Ideal.Out.a2 m c) (h3 : x3 = Cert.Kernel4Ideal.Out.a3 m c)
    (h4 : x4 = Cert.Kernel4Ideal.Out.a4 m c) :
    Cert.Reference4Ideal.Read.val_main_v22 (F := Ideal) x0 x1 x2 x3 = Cert.Kernel4Ideal.Out.flat m c
      ∧ Cert.Reference4Ideal.Read.val_main_v24 (F := Ideal) x0 x1 x2 x3 x4 = Cert.Kernel4Ideal.Out.flatNorm m c := by
  subst h0 h1 h2 h3 h4
  exact ⟨Cert.Kernel4Ideal.Out.result_eq m c, Cert.Kernel4Ideal.Out.result_norm_eq m c⟩

theorem algebraic4 : Cert.algebraic_Kernel4Ideal_Reference4Ideal := fun m g m' g' _ hargs => by
  refine ⟨fun c => Cert.Kernel4Ideal.Out.flat m c, fun c => Cert.Kernel4Ideal.Out.flatNorm m c, ?_, ?_⟩
  · refine (θ_run Cert.Kernel4Ideal.defs _ _).mono (fun r h c =>
        ⟨((h.1 c).1 5).trans (Cert.Kernel4Ideal.Out.final m c), ((h.1 c).1 6).trans (Cert.Kernel4Ideal.Out.final_norm m c), h.2 c⟩)
      (θ_run_and (Cert.Kernel4Ideal.Gen.run_main m g) (Cert.Kernel4Ideal.Gen.frame_of m g _ (Cert.Kernel4Ideal.Gen.A_eq m) (Cert.Kernel4Ideal.Gen.run_main m g)))
  · refine (θ_run Cert.Reference4Ideal.defs _ _).mono (fun r h c => ?_) (Cert.Reference4Ideal.Value.run m' g')
    obtain ⟨e0, e1, e2, e3, e4⟩ := hargs c
    have e := result_of4 m c _ _ _ _ _ e0 e1 e2 e3 e4
    refine ⟨(h c).1.trans ?_, (h c).2.1.trans ?_, (h c).2.2⟩
    · rw [Cert.Reference4Ideal.Read.val_main_v22_eq]
      exact e.1
    · rw [Cert.Reference4Ideal.Read.val_main_v24_eq]
      exact e.2

/-! ## The odd layer's sliding-window attention -/

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem preserves5 : Cert.preserves_Kernel5_Kernel5Ideal :=
  ⟨IdealRules.named_const.statement Cert.Kernel5Ideal.κ "mask" .f32 0xF149F2CA#32 ⊥ rfl,
    IdealRules.named_const.statement Cert.Kernel5Ideal.κ "log2e" .f32 0x3FB8AA3B#32 (((Real.log 2)⁻¹ : ℝ) : EReal) rfl⟩

/-- The sinks as real numbers, which they are under the precondition. -/
def sinks (m : (ℓ : Loc Cert.Kernel5Ideal.nD Cert.Kernel5Ideal.τ Cert.Kernel5Ideal.sig) → Buf (Elt Ideal) ℓ) (c : Dev Cert.Kernel5Ideal.nD) (j : Fin 32) : ℝ :=
  (Cert.Kernel5Ideal.Swa.a1 m c (ix2 0 j) : EReal).toReal

theorem sinks_eq (m : (ℓ : Loc Cert.Kernel5Ideal.nD Cert.Kernel5Ideal.τ Cert.Kernel5Ideal.sig) → Buf (Elt Ideal) ℓ) (h : Cert.Pre_Kernel5Ideal_scores_finite m)
    (c : Dev Cert.Kernel5Ideal.nD) (j : Fin 32) : (Cert.Kernel5Ideal.Swa.a1 m c (ix2 0 j) : EReal) = sinks m c j := by
  obtain ⟨r, hr⟩ := Cert.Pre_scores_finite.Swa.real_sinks _ _ (h c) j
  have e : (Cert.Kernel5Ideal.Swa.a1 m c (ix2 0 j) : EReal) = r := hr
  unfold sinks
  rw [e, EReal.toReal_coe]

theorem row_eq (i : Fin 8192) : ∃ b n r, i = Cert.Swa.row b n r := by
  refine ⟨⟨i.val / 2048, by omega⟩, ⟨i.val / 128 % 16, by omega⟩, ⟨i.val % 128, by omega⟩, Fin.ext ?_⟩
  show i.val = 2048 * (i.val / 2048) + 128 * (i.val / 128 % 16) + i.val % 128
  omega

theorem result_of5 (m : (ℓ : Loc Cert.Kernel5Ideal.nD Cert.Kernel5Ideal.τ Cert.Kernel5Ideal.sig) → Buf (Elt Ideal) ℓ) (h : Cert.Pre_Kernel5Ideal_scores_finite m)
    (c : Dev Cert.Kernel5Ideal.nD) (x0 x1) (h0 : x0 = Cert.Kernel5Ideal.Swa.a0 m c) (h1 : x1 = Cert.Kernel5Ideal.Swa.a1 m c) :
    Cert.Reference5Ideal.Read.val_main_v77 (F := Ideal) x0 x1 = Cert.Kernel5Ideal.Swa.flat m c (sinks m c) := by
  subst h0 h1
  funext i
  have hi : i = ix2 (i 0) (i 1) := by
    funext b
    match b with
    | ⟨0, _⟩ => rfl
    | ⟨1, _⟩ => rfl
  obtain ⟨b, n, r, hr⟩ := row_eq (i 0)
  obtain ⟨G, u, d, hc⟩ := Cert.Kernel5Ideal.Swa.col_eq (i 1)
  rw [hi, hr, hc]
  refine Eq.trans ?_ (Cert.Kernel5Ideal.Swa.flat_apply m c (sinks m c) b n r G u d).symm
  exact Cert.Reference5Ideal.Swa.cell_at (Cert.Kernel5Ideal.Swa.a0 m c) (Cert.Kernel5Ideal.Swa.a1 m c) (sinks m c) (sinks_eq m h c)
    (fun p q hq => Cert.Pre_scores_finite.Swa.real_rows _ _ (h c) p q hq) b n r G u d

theorem algebraic5 : Cert.algebraic_Kernel5Ideal_Reference5Ideal_pre_scores_finite := fun m g m' g' hp hargs => by
  refine ⟨fun c => Cert.Kernel5Ideal.Swa.flat m c (sinks m c), ?_, ?_⟩
  · refine (θ_run Cert.Kernel5Ideal.defs _ _).mono (fun r h c => ⟨((h.1 c).1 8).trans (Cert.Kernel5Ideal.Swa.final m c (sinks m c) (sinks_eq m hp c)), h.2 c⟩)
      (θ_run_and (Cert.Kernel5Ideal.Gen.run_main m g) (Cert.Kernel5Ideal.Gen.frame_of m g _ (Cert.Kernel5Ideal.Gen.A_eq m) (Cert.Kernel5Ideal.Gen.run_main m g)))
  · refine (θ_run Cert.Reference5Ideal.defs _ _).mono (fun r h c => ⟨(h c).1.trans ?_, (h c).2⟩) (Cert.Reference5Ideal.Value.run m' g')
    obtain ⟨e0, e1⟩ := hargs c
    rw [Cert.Reference5Ideal.Read.val_main_v77_eq]
    exact result_of5 m hp c _ _ e0 e1

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_scores_finite.Gen.facts,
  Cert.KernelIdeal.Even.frame_kernel, frame_ideal, frame_reference,
  fun m ρ _ => Cert.Kernel2.Gen.frame m ρ, fun m ρ _ => Cert.Kernel2Ideal.Gen.frame m ρ, frame_reference2,
  Cert.Kernel3Ideal.Odd.frame_kernel, frame_ideal3, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, fun m ρ _ => Cert.Kernel5Ideal.Gen.frame m ρ,
  frame_reference5, fun m ρ _ => frame_reference5 m ρ trivial,
  trivial, algebraic, trivial, algebraic2, trivial, algebraic3, trivial, algebraic4, preserves5, algebraic5⟩

end Cert.Proof

end
